-- ==== Defs.lean ====
def Pre_Kernel [hPre_boundaries_ascend : Cert.Pre_boundaries_ascend.Facts] (m : (ℓ : Loc Cert.Kernel.nD Cert.Kernel.τ Cert.Kernel.sig) → Buf (Elt Bits) ℓ) : Prop :=
  ∀ c : Dev Cert.Kernel.nD,
    (Cert.Pre_boundaries_ascend.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_boundaries_ascend : Cert.Pre_boundaries_ascend.Facts] (m : (ℓ : Loc Cert.KernelIdeal.nD Cert.KernelIdeal.τ Cert.KernelIdeal.sig) → Buf (Elt Ideal) ℓ) : Prop :=
  ∀ c : Dev Cert.KernelIdeal.nD,
    (Cert.Pre_boundaries_ascend.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boundaries_ascend [hPre_boundaries_ascend : Cert.Pre_boundaries_ascend.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boundaries_ascend.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_boundaries_ascend : Cert.Pre_boundaries_ascend.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_boundaries_ascend : Cert.Pre_boundaries_ascend.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_boundaries_ascend [hReferenceIdeal : Cert.ReferenceIdeal.Facts] [hPre_boundaries_ascend : Cert.Pre_boundaries_ascend.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boundaries_ascend m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_boundaries_ascend : Cert.Pre_boundaries_ascend.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27_0) = v0 c
          ∧ r.2.mem ((c.tc : Thread Cert.ReferenceIdeal.nD Cert.ReferenceIdeal.τ).loc Cert.ReferenceIdeal.main_v27_1) = v1 c
          ∧ r.2.mem ((c.tc : Thread Cert.ReferenceIdeal.nD Cert.ReferenceIdeal.τ).loc Cert.ReferenceIdeal.main_v27_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_boundaries_ascend : Cert.Pre_boundaries_ascend.Facts),
    quiescent_Kernel (hKernel := hKernel) (hPre_boundaries_ascend := hPre_boundaries_ascend)
    ∧ quiescent_KernelIdeal (hKernelIdeal := hKernelIdeal) (hPre_boundaries_ascend := hPre_boundaries_ascend)
    ∧ quiescent_ReferenceIdeal (hReferenceIdeal := hReferenceIdeal)
    ∧ quiescent_ReferenceIdeal_pre_boundaries_ascend (hReferenceIdeal := hReferenceIdeal) (hPre_boundaries_ascend := hPre_boundaries_ascend)
    ∧ preserves_Kernel_KernelIdeal
    ∧ algebraic_KernelIdeal_ReferenceIdeal (hKernelIdeal := hKernelIdeal) (hReferenceIdeal := hReferenceIdeal) (hPre_boundaries_ascend := hPre_boundaries_ascend)
-- ==== Pre_boundaries_ascend.lean ====
abbrev S2x16384x2560 : Shape := ⟨3, ![2, 16384, 2560]⟩
abbrev S2x16384 : Shape := ⟨2, ![2, 16384]⟩
abbrev S2560x4 : Shape := ⟨2, ![2560, 4]⟩
abbrev S2560 : Shape := ⟨1, ![2560]⟩
abbrev S2x64 : Shape := ⟨2, ![2, 64]⟩
abbrev S2x1 : Shape := ⟨2, ![2, 1]⟩
abbrev S_ : Shape := ⟨0, ![]⟩
abbrev S2x63 : Shape := ⟨2, ![2, 63]⟩
abbrev S2x65 : Shape := ⟨2, ![2, 65]⟩

class Facts : Prop where
  slices_S2x64_S2x1_0_0 : S2x64.Slices ![0, 0] S2x1
  bcast_S_S2x1 : S_.BroadcastsInDim S2x1 (![] : Fin 0 → Fin S2x1.rank)
  slices_S2x64_S2x63_0_1 : S2x64.Slices ![0, 1] S2x63
  slices_S2x64_S2x63_0_0 : S2x64.Slices ![0, 0] S2x63
  slices_S2x64_S2x1_0_63 : S2x64.Slices ![0, 63] S2x1
  concatenates_S2x1_S2x63_S2x1_S2x65_d1 : Shape.Concatenates [S2x1, S2x63, S2x1] S2x65 1

variable [Facts]

def fn {F : FTy → Type} [FloatOps F] (main_arg0 : FVec F S2x16384x2560 .fp8e4m3) (main_arg1 : FVec F S2x16384 .f32) (main_arg2 : FVec F S2x16384x2560 .fp8e5m2) (main_arg3 : FVec F S2x16384 .f32) (main_arg4 : FVec F S2560x4 .bf16) (main_arg5 : FVec F S2560 .f32) (main_arg6 : IVec S2x64 32) : IVec S2x65 1 :=
  let main_v0 : IVec S2x1 32 := (extractStridedSlice S2x1 ![0, 0] · slices_S2x64_S2x1_0_0) main_arg6
  let main_c : IVec S_ 32 := constantI S_ 32 0#32
  let main_v1 : IVec S2x1 32 := broadcastInDim S2x1 ![] bcast_S_S2x1 main_c
  let main_v2 : IVec S2x1 1 := cmpi .eq main_v0 main_v1
  let main_v3 : IVec S2x63 32 := (extractStridedSlice S2x63 ![0, 1] · slices_S2x64_S2x63_0_1) main_arg6
  let main_v4 : IVec S2x63 32 := (extractStridedSlice S2x63 ![0, 0] · slices_S2x64_S2x63_0_0) main_arg6
  let main_v5 : IVec S2x63 1 := cmpi .sge main_v3 main_v4
  let main_v6 : IVec S2x1 32 := (extractStridedSlice S2x1 ![0, 63] · slices_S2x64_S2x1_0_63) main_arg6
  let main_c_0 : IVec S_ 32 := constantI S_ 32 16384#32
  let main_v7 : IVec S2x1 32 := broadcastInDim S2x1 ![] bcast_S_S2x1 main_c_0
  let main_v8 : IVec S2x1 1 := cmpi .eq main_v6 main_v7
  let main_v9 : IVec S2x65 1 := concatenate S2x65 1 [⟨S2x1, main_v2⟩, ⟨S2x63, main_v5⟩, ⟨S2x1, main_v8⟩] concatenates_S2x1_S2x63_S2x1_S2x65_d1
  main_v9
-- ==== Kernel.lean ====
abbrev S2x16384x2560 : Shape := ⟨3, ![2, 16384, 2560]⟩
abbrev S2x16384 : Shape := ⟨2, ![2, 16384]⟩
abbrev S2560x4 : Shape := ⟨2, ![2560, 4]⟩
abbrev S2560 : Shape := ⟨1, ![2560]⟩
abbrev S2x64 : Shape := ⟨2, ![2, 64]⟩
abbrev S4x2560 : Shape := ⟨2, ![4, 2560]⟩
abbrev S_ : Shape := ⟨0, ![]⟩
abbrev S1x2560 : Shape := ⟨2, ![1, 2560]⟩
abbrev S3x2560 : Shape := ⟨2, ![3, 2560]⟩
abbrev S16x2560 : Shape := ⟨2, ![16, 2560]⟩
abbrev S2x64x2x128 : Shape := ⟨4, ![2, 64, 2, 128]⟩
abbrev S128 : Shape := ⟨1, ![128]⟩
abbrev S8x2560 : Shape := ⟨2, ![8, 2560]⟩
abbrev S1x256x2560 : Shape := ⟨3, ![1, 256, 2560]⟩
abbrev S1x32x2560 : Shape := ⟨3, ![1, 32, 2560]⟩
abbrev S1x1x2x128 : Shape := ⟨4, ![1, 1, 2, 128]⟩
abbrev S20x264x128 : Shape := ⟨3, ![20, 264, 128]⟩
abbrev S16512x128 : Shape := ⟨2, ![16512, 128]⟩
abbrev S264x128 : Shape := ⟨2, ![264, 128]⟩
abbrev S256x128 : Shape := ⟨2, ![256, 128]⟩
abbrev S20x5x8x128 : Shape := ⟨4, ![20, 5, 8, 128]⟩
abbrev S514 : Shape := ⟨1, ![514]⟩
abbrev S20x8x128 : Shape := ⟨3, ![20, 8, 128]⟩
abbrev S1 : Shape := ⟨1, ![1]⟩
abbrev S128x128 : Shape := ⟨2, ![128, 128]⟩
abbrev S1x128 : Shape := ⟨2, ![1, 128]⟩
abbrev S1x1x1x128 : Shape := ⟨4, ![1, 1, 1, 128]⟩
abbrev S8x128 : Shape := ⟨2, ![8, 128]⟩
abbrev S1x32x128 : Shape := ⟨3, ![1, 32, 128]⟩
abbrev S32x128 : Shape := ⟨2, ![32, 128]⟩
abbrev S1x8x128 : Shape := ⟨3, ![1, 8, 128]⟩
abbrev S1x1x8x128 : Shape := ⟨4, ![1, 1, 8, 128]⟩
abbrev S3x128 : Shape := ⟨2, ![3, 128]⟩

abbrev nBuf : Space → Nat
  | .hbm => 29
  | .vmem => 22
  | .smem => 2
  | _ => 0

abbrev bufTy : (tb : Table) → Fin (tcTables nBuf tb) → BufTy
  | .hbm, ⟨0, _⟩ => ⟨S2x16384x2560, .fp8e4m3⟩
  | .hbm, ⟨1, _⟩ => ⟨S2x16384, .f32⟩
  | .hbm, ⟨2, _⟩ => ⟨S2x16384x2560, .fp8e5m2⟩
  | .hbm, ⟨3, _⟩ => ⟨S2x16384, .f32⟩
  | .hbm, ⟨4, _⟩ => ⟨S2560x4, .bf16⟩
  | .hbm, ⟨5, _⟩ => ⟨S2560, .f32⟩
  | .hbm, ⟨6, _⟩ => ⟨S2x64, .i32⟩
  | .hbm, ⟨7, _⟩ => ⟨S2560x4, .f32⟩
  | .hbm, ⟨8, _⟩ => ⟨S4x2560, .f32⟩
  | .hbm, ⟨9, _⟩ => ⟨S_, .f32⟩
  | .hbm, ⟨10, _⟩ => ⟨S4x2560, .f32⟩
  | .hbm, ⟨11, _⟩ => ⟨S4x2560, .f32⟩
  | .hbm, ⟨12, _⟩ => ⟨S1x2560, .f32⟩
  | .hbm, ⟨13, _⟩ => ⟨S_, .f32⟩
  | .hbm, ⟨14, _⟩ => ⟨S1x2560, .f32⟩
  | .hbm, ⟨15, _⟩ => ⟨S1x2560, .f32⟩
  | .hbm, ⟨16, _⟩ => ⟨S_, .f32⟩
  | .hbm, ⟨17, _⟩ => ⟨S3x2560, .f32⟩
  | .hbm, ⟨18, _⟩ => ⟨S_, .f32⟩
  | .hbm, ⟨19, _⟩ => ⟨S4x2560, .f32⟩
  | .hbm, ⟨20, _⟩ => ⟨S16x2560, .f32⟩
  | .hbm, ⟨21, _⟩ => ⟨S2x64x2x128, .f32⟩
  | .hbm, ⟨22, _⟩ => ⟨S2x64x2x128, .f32⟩
  | .hbm, ⟨23, _⟩ => ⟨S2x16384x2560, .bf16⟩
  | .hbm, ⟨24, _⟩ => ⟨S8x2560, .f32⟩
  | .hbm, ⟨25, _⟩ => ⟨S4x2560, .f32⟩
  | .hbm, ⟨26, _⟩ => ⟨S2560x4, .f32⟩
  | .hbm, ⟨27, _⟩ => ⟨S1x2560, .f32⟩
  | .hbm, ⟨28, _⟩ => ⟨S2560, .f32⟩
  | .local _ .vmem, ⟨0, _⟩ => ⟨S1x256x2560, .fp8e4m3⟩
  | .local _ .vmem, ⟨1, _⟩ => ⟨S1x256x2560, .fp8e4m3⟩
  | .local _ .vmem, ⟨2, _⟩ => ⟨S1x32x2560, .fp8e4m3⟩
  | .local _ .vmem, ⟨3, _⟩ => ⟨S1x32x2560, .fp8e4m3⟩
  | .local _ .vmem, ⟨4, _⟩ => ⟨S1x1x2x128, .f32⟩
  | .local _ .vmem, ⟨5, _⟩ => ⟨S1x1x2x128, .f32⟩
  | .local _ .vmem, ⟨6, _⟩ => ⟨S1x1x2x128, .f32⟩
  | .local _ .vmem, ⟨7, _⟩ => ⟨S1x1x2x128, .f32⟩
  | .local _ .vmem, ⟨8, _⟩ => ⟨S1x256x2560, .fp8e5m2⟩
  | .local _ .vmem, ⟨9, _⟩ => ⟨S1x256x2560, .fp8e5m2⟩
  | .local _ .vmem, ⟨10, _⟩ => ⟨S1x1x2x128, .f32⟩
  | .local _ .vmem, ⟨11, _⟩ => ⟨S1x1x2x128, .f32⟩
  | .local _ .vmem, ⟨12, _⟩ => ⟨S16x2560, .f32⟩
  | .local _ .vmem, ⟨13, _⟩ => ⟨S1x256x2560, .bf16⟩
  | .local _ .vmem, ⟨14, _⟩ => ⟨S1x256x2560, .bf16⟩
  | .local _ .vmem, ⟨15, _⟩ => ⟨S8x2560, .f32⟩
  | .local _ .vmem, ⟨16, _⟩ => ⟨S20x264x128, .f32⟩
  | .local _ .vmem, ⟨17, _⟩ => ⟨S20x264x128, .f32⟩
  | .local _ .vmem, ⟨18, _⟩ => ⟨S16512x128, .f32⟩
  | .local _ .vmem, ⟨19, _⟩ => ⟨S264x128, .f32⟩
  | .local _ .vmem, ⟨20, _⟩ => ⟨S256x128, .f32⟩
  | .local _ .vmem, ⟨21, _⟩ => ⟨S20x5x8x128, .f32⟩
  | .local _ .smem, ⟨0, _⟩ => ⟨S128, .i32⟩
  | .local _ .smem, ⟨1, _⟩ => ⟨S514, .i32⟩
  | _, _ => ⟨S2x16384x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨1, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v12 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 64], ![false, false]⟩

abbrev pre0 : Pipeline.Prefetch sig := ⟨1, ![main_v12.idx], fun | 0 => main_v12.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

@[reducible] def k0_t1_loop : Scf.Loop 32 :=
  let c0_i32_134 : BitVec 32 := 0#32
  let c514_i32 : BitVec 32 := 514#32
  let v233 : BitVec 32 := Scalar.addi c0_i32_134 c514_i32
  let c1_i32_135 : BitVec 32 := 1#32
  ⟨c0_i32_134, v233, c1_i32_135⟩
def k0_off1 (k0_t1 : Fin k0_t1_loop.trips) : Fin 1 → Nat :=
  let c0_i32_134 : BitVec 32 := 0#32
  let c1_i32_135 : BitVec 32 := 1#32
  let arg19 : BitVec 32 := Scf.iv c0_i32_134 c1_i32_135 k0_t1
  let v237 : Index := Scalar.indexCast arg19
  ![v237.toNat]
@[reducible] def k0_t2_loop : Scf.Loop 32 :=
  let c0_i32_138 : BitVec 32 := 0#32
  let c129_i32 : BitVec 32 := 129#32
  let v235 : BitVec 32 := Scalar.addi c0_i32_138 c129_i32
  let c1_i32_139 : BitVec 32 := 1#32
  ⟨c0_i32_138, v235, c1_i32_139⟩
def k0_mult1 (k0_t2 : Fin k0_t2_loop.trips) : BitVec 32 :=
  let c0_i32_138 : BitVec 32 := 0#32
  let c1_i32_139 : BitVec 32 := 1#32
  let arg19 : BitVec 32 := Scf.iv c0_i32_138 c1_i32_139 k0_t2
  let c128_i32 : BitVec 32 := 128#32
  let v237 : BitVec 32 := Scalar.muli arg19 c128_i32
  v237
def k0_off2 (k0_t2 : Fin k0_t2_loop.trips) : Fin 2 → Nat :=
  let c0_i32_138 : BitVec 32 := 0#32
  let c1_i32_139 : BitVec 32 := 1#32
  let arg19 : BitVec 32 := Scf.iv c0_i32_138 c1_i32_139 k0_t2
  let c128_i32 : BitVec 32 := 128#32
  let v237 : BitVec 32 := Scalar.muli arg19 c128_i32
  let v238 : BitVec 32 := v237
  let v239 : Index := Scalar.indexCast v238
  let c0_144 : Index := 0#32
  ![v239.toNat, 0]
@[reducible] def k0_t3_loop : Scf.Loop 32 :=
  let c1_i32_141 : BitVec 32 := 1#32
  let c62_i32 : BitVec 32 := 62#32
  let v236 : BitVec 32 := Scalar.addi c1_i32_141 c62_i32
  let c1_i32_142 : BitVec 32 := 1#32
  ⟨c1_i32_141, v236, c1_i32_142⟩
def k0_off3 (i : grid0.Coords) (k0_t3 : Fin k0_t3_loop.trips) : Fin 1 → Nat :=
  let arg0 : BitVec 32 := BitVec.ofNat 32 (i 0).val
  let c64_i32 : BitVec 32 := 64#32
  let v237 : BitVec 32 := Scalar.muli arg0 c64_i32
  let c1_i32_141 : BitVec 32 := 1#32
  let c1_i32_142 : BitVec 32 := 1#32
  let arg19 : BitVec 32 := Scf.iv c1_i32_141 c1_i32_142 k0_t3
  let v238 : BitVec 32 := Scalar.addi v237 arg19
  let v239 : Index := Scalar.indexCast v238
  ![v239.toNat]
def k0_off4 (v240 : BitVec 32) : Fin 2 → Nat :=
  let c8_i32_145 : BitVec 32 := 8#32
  let v242 : BitVec 32 := Scalar.addi v240 c8_i32_145
  let v243 : Index := Scalar.indexCast v242
  let c0_146 : Index := 0#32
  ![v243.toNat, 0]

def k0_off5 (v240 : BitVec 32) : Fin 1 → Nat :=
  let c3_i32 : BitVec 32 := 3#32
  let v247 : BitVec 32 := Scalar.subi v240 c3_i32
  let c32_i32 : BitVec 32 := 32#32
  let v248 : BitVec 32 := Scalar.addi v247 c32_i32
  let c0_i32_148 : BitVec 32 := 0#32
  let v250 : BitVec 1 := Scalar.cmpi .sgt v248 c0_i32_148
  let v251 : BitVec 32 := Scalar.extui v250
  let c0_i32_149 : BitVec 32 := 0#32
  let v252 : BitVec 1 := Scalar.cmpi .slt v248 c0_i32_149
  let v253 : BitVec 32 := Scalar.extui v252
  let v254 : BitVec 32 := Scalar.subi v251 v253
  let c32_i32_147 : BitVec 32 := 32#32
  let c0_i32_150 : BitVec 32 := 0#32
  let v255 : BitVec 1 := Scalar.cmpi .sgt c32_i32_147 c0_i32_150
  let v256 : BitVec 32 := Scalar.extui v255
  let c0_i32_151 : BitVec 32 := 0#32
  let v257 : BitVec 1 := Scalar.cmpi .slt c32_i32_147 c0_i32_151
  let v258 : BitVec 32 := Scalar.extui v257
  let v259 : BitVec 32 := Scalar.subi v256 v258
  let v260 : BitVec 1 := Scalar.cmpi .ne v254 v259
  let v261 : BitVec 32 := Scalar.remsi v248 c32_i32_147
  let c0_i32_152 : BitVec 32 := 0#32
  let v262 : BitVec 1 := Scalar.cmpi .ne v261 c0_i32_152
  let v263 : BitVec 1 := Scalar.andi v260 v262
  let v249 : BitVec 32 := Scalar.divsi v248 c32_i32_147
  let c1_i32_153 : BitVec 32 := 1#32
  let v264 : BitVec 32 := Scalar.subi v249 c1_i32_153
  let v265 : BitVec 32 := Scalar.select v263 v264 v249
  let v266 : Index := Scalar.indexCast v265
  ![v266.toNat]
def k0_off6 (v240 : BitVec 32) : Fin 1 → Nat :=
  let c2_i32 : BitVec 32 := 2#32
  let v268 : BitVec 32 := Scalar.addi v240 c2_i32
  let c32_i32_155 : BitVec 32 := 32#32
  let v269 : BitVec 32 := Scalar.addi v268 c32_i32_155
  let c0_i32_157 : BitVec 32 := 0#32
  let v271 : BitVec 1 := Scalar.cmpi .sgt v269 c0_i32_157
  let v272 : BitVec 32 := Scalar.extui v271
  let c0_i32_158 : BitVec 32 := 0#32
  let v273 : BitVec 1 := Scalar.cmpi .slt v269 c0_i32_158
  let v274 : BitVec 32 := Scalar.extui v273
  let v275 : BitVec 32 := Scalar.subi v272 v274
  let c32_i32_156 : BitVec 32 := 32#32
  let c0_i32_159 : BitVec 32 := 0#32
  let v276 : BitVec 1 := Scalar.cmpi .sgt c32_i32_156 c0_i32_159
  let v277 : BitVec 32 := Scalar.extui v276
  let c0_i32_160 : BitVec 32 := 0#32
  let v278 : BitVec 1 := Scalar.cmpi .slt c32_i32_156 c0_i32_160
  let v279 : BitVec 32 := Scalar.extui v278
  let v280 : BitVec 32 := Scalar.subi v277 v279
  let v281 : BitVec 1 := Scalar.cmpi .ne v275 v280
  let v282 : BitVec 32 := Scalar.remsi v269 c32_i32_156
  let c0_i32_161 : BitVec 32 := 0#32
  let v283 : BitVec 1 := Scalar.cmpi .ne v282 c0_i32_161
  let v284 : BitVec 1 := Scalar.andi v281 v283
  let v270 : BitVec 32 := Scalar.divsi v269 c32_i32_156
  let c1_i32_162 : BitVec 32 := 1#32
  let v285 : BitVec 32 := Scalar.subi v270 c1_i32_162
  let v286 : BitVec 32 := Scalar.select v284 v285 v270
  let v287 : Index := Scalar.indexCast v286
  ![v287.toNat]

def k0_chk1 (i : grid0.Coords) (v240 : BitVec 32) : Prop :=
  (∀ (k0_h2 : k0_cond2 i = 1#1), ∀ a, (k0_off4 v240) a + S1x128.size a ≤ S16512x128.size a) ∧
  (∀ (k0_h2 : k0_cond2 i = 1#1), ∀ a, (k0_off5 v240) a + S1.size a ≤ S514.size a) ∧
  (∀ (k0_h2 : k0_cond2 i = 1#1), ∀ a, (k0_off6 v240) a + S1.size a ≤ S514.size a)
theorem k0_off4_inb : ∀ (i : grid0.Coords) (v240 : BitVec 32) (k0_hw1 : k0_chk1 i v240), ∀ (k0_h2 : k0_cond2 i = 1#1), ∀ a, (k0_off4 v240) a + S1x128.size a ≤ S16512x128.size a := fun i v240 k0_hw1 k0_h2 => k0_hw1.1 k0_h2
theorem k0_off5_inb : ∀ (i : grid0.Coords) (v240 : BitVec 32) (k0_hw1 : k0_chk1 i v240), ∀ (k0_h2 : k0_cond2 i = 1#1), ∀ a, (k0_off5 v240) a + S1.size a ≤ S514.size a := fun i v240 k0_hw1 k0_h2 => k0_hw1.2.1 k0_h2
theorem k0_off6_inb : ∀ (i : grid0.Coords) (v240 : BitVec 32) (k0_hw1 : k0_chk1 i v240), ∀ (k0_h2 : k0_cond2 i = 1#1), ∀ a, (k0_off6 v240) a + S1.size a ≤ S514.size a := fun i v240 k0_hw1 k0_h2 => k0_hw1.2.2 k0_h2

@[reducible] def k0_t4_loop : Scf.Loop 32 :=
  let c0_i32_121 : BitVec 32 := 0#32
  let c8_i32 : BitVec 32 := 8#32
  let v222 : BitVec 32 := Scalar.addi c0_i32_121 c8_i32
  let c1_i32 : BitVec 32 := 1#32
  ⟨c0_i32_121, v222, c1_i32⟩
def k0_mult2 (k0_t4 : Fin k0_t4_loop.trips) : BitVec 32 :=
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  v229
def k0_off7 (k0_t4 : Fin k0_t4_loop.trips) : Fin 2 → Nat :=
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_130 : BitVec 32 := 8#32
  let v231 : BitVec 32 := Scalar.addi v230 c8_i32_130
  let v232 : Index := Scalar.indexCast v231
  let c0_131 : Index := 0#32
  ![v232.toNat, 0]
def k0_off8 (k0_t4 : Fin k0_t4_loop.trips) : Fin 3 → Nat :=
  let c0_132 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v234 : Index := Scalar.indexCast v230
  let c0_133 : Index := 0#32
  ![0, v234.toNat, 0]
def k0_off9 (k0_t4 : Fin k0_t4_loop.trips) : Fin 3 → Nat :=
  let c0_135 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_134 : BitVec 32 := 8#32
  let v239 : BitVec 32 := Scalar.addi v230 c8_i32_134
  let v240 : Index := Scalar.indexCast v239
  let c0_136 : Index := 0#32
  ![0, v240.toNat, 0]
def k0_off10 (k0_t4 : Fin k0_t4_loop.trips) : Fin 3 → Nat :=
  let c0_137 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v244 : Index := Scalar.indexCast v230
  let c128_138 : Index := 128#32
  ![0, v244.toNat, 128]
def k0_off11 (k0_t4 : Fin k0_t4_loop.trips) : Fin 3 → Nat :=
  let c1_140 : Index := 1#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_139 : BitVec 32 := 8#32
  let v249 : BitVec 32 := Scalar.addi v230 c8_i32_139
  let v250 : Index := Scalar.indexCast v249
  let c0_141 : Index := 0#32
  ![1, v250.toNat, 0]
def k0_off12 (k0_t4 : Fin k0_t4_loop.trips) : Fin 3 → Nat :=
  let c0_142 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v254 : Index := Scalar.indexCast v230
  let c256_143 : Index := 256#32
  ![0, v254.toNat, 256]
def k0_off13 (k0_t4 : Fin k0_t4_loop.trips) : Fin 3 → Nat :=
  let c2_145 : Index := 2#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_144 : BitVec 32 := 8#32
  let v259 : BitVec 32 := Scalar.addi v230 c8_i32_144
  let v260 : Index := Scalar.indexCast v259
  let c0_146 : Index := 0#32
  ![2, v260.toNat, 0]
def k0_off14 (k0_t4 : Fin k0_t4_loop.trips) : Fin 3 → Nat :=
  let c0_147 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v264 : Index := Scalar.indexCast v230
  let c384_148 : Index := 384#32
  ![0, v264.toNat, 384]
def k0_off15 (k0_t4 : Fin k0_t4_loop.trips) : Fin 3 → Nat :=
  let c3_150 : Index := 3#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_149 : BitVec 32 := 8#32
  let v269 : BitVec 32 := Scalar.addi v230 c8_i32_149
  let v270 : Index := Scalar.indexCast v269
  let c0_151 : Index := 0#32
  ![3, v270.toNat, 0]
def k0_off16 (k0_t4 : Fin k0_t4_loop.trips) : Fin 3 → Nat :=
  let c0_152 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v274 : Index := Scalar.indexCast v230
  let c512_153 : Index := 512#32
  ![0, v274.toNat, 512]
def k0_off17 (k0_t4 : Fin k0_t4_loop.trips) : Fin 3 → Nat :=
  let c4_155 : Index := 4#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_154 : BitVec 32 := 8#32
  let v279 : BitVec 32 := Scalar.addi v230 c8_i32_154
  let v280 : Index := Scalar.indexCast v279
  let c0_156 : Index := 0#32
  ![4, v280.toNat, 0]
def k0_off18 (k0_t4 : Fin k0_t4_loop.trips) : Fin 3 → Nat :=
  let c0_157 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v284 : Index := Scalar.indexCast v230
  let c640_158 : Index := 640#32
  ![0, v284.toNat, 640]
def k0_off19 (k0_t4 : Fin k0_t4_loop.trips) : Fin 3 → Nat :=
  let c5_160 : Index := 5#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_159 : BitVec 32 := 8#32
  let v289 : BitVec 32 := Scalar.addi v230 c8_i32_159
  let v290 : Index := Scalar.indexCast v289
  let c0_161 : Index := 0#32
  ![5, v290.toNat, 0]
def k0_off20 (k0_t4 : Fin k0_t4_loop.trips) : Fin 3 → Nat :=
  let c0_162 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v294 : Index := Scalar.indexCast v230
  let c768_163 : Index := 768#32
  ![0, v294.toNat, 768]
def k0_off21 (k0_t4 : Fin k0_t4_loop.trips) : Fin 3 → Nat :=
  let c6_165 : Index := 6#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_164 : BitVec 32 := 8#32
  let v299 : BitVec 32 := Scalar.addi v230 c8_i32_164
  let v300 : Index := Scalar.indexCast v299
  let c0_166 : Index := 0#32
  ![6, v300.toNat, 0]
def k0_off22 (k0_t4 : Fin k0_t4_loop.trips) : Fin 3 → Nat :=
  let c0_167 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v304 : Index := Scalar.indexCast v230
  let c896_168 : Index := 896#32
  ![0, v304.toNat, 896]
def k0_off23 (k0_t4 : Fin k0_t4_loop.trips) : Fin 3 → Nat :=
  let c7_170 : Index := 7#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_169 : BitVec 32 := 8#32
  let v309 : BitVec 32 := Scalar.addi v230 c8_i32_169
  let v310 : Index := Scalar.indexCast v309
  let c0_171 : Index := 0#32
  ![7, v310.toNat, 0]
def k0_off24 (k0_t4 : Fin k0_t4_loop.trips) : Fin 3 → Nat :=
  let c0_172 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v314 : Index := Scalar.indexCast v230
  let c1024_173 : Index := 1024#32
  ![0, v314.toNat, 1024]
def k0_off25 (k0_t4 : Fin k0_t4_loop.trips) : Fin 3 → Nat :=
  let c8_175 : Index := 8#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_174 : BitVec 32 := 8#32
  let v319 : BitVec 32 := Scalar.addi v230 c8_i32_174
  let v320 : Index := Scalar.indexCast v319
  let c0_176 : Index := 0#32
  ![8, v320.toNat, 0]
def k0_off26 (k0_t4 : Fin k0_t4_loop.trips) : Fin 3 → Nat :=
  let c0_177 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v324 : Index := Scalar.indexCast v230
  let c1152_178 : Index := 1152#32
  ![0, v324.toNat, 1152]
def k0_off27 (k0_t4 : Fin k0_t4_loop.trips) : Fin 3 → Nat :=
  let c9_180 : Index := 9#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_179 : BitVec 32 := 8#32
  let v329 : BitVec 32 := Scalar.addi v230 c8_i32_179
  let v330 : Index := Scalar.indexCast v329
  let c0_181 : Index := 0#32
  ![9, v330.toNat, 0]
def k0_off28 (k0_t4 : Fin k0_t4_loop.trips) : Fin 3 → Nat :=
  let c0_182 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v334 : Index := Scalar.indexCast v230
  let c1280_183 : Index := 1280#32
  ![0, v334.toNat, 1280]
def k0_off29 (k0_t4 : Fin k0_t4_loop.trips) : Fin 3 → Nat :=
  let c10_185 : Index := 10#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_184 : BitVec 32 := 8#32
  let v339 : BitVec 32 := Scalar.addi v230 c8_i32_184
  let v340 : Index := Scalar.indexCast v339
  let c0_186 : Index := 0#32
  ![10, v340.toNat, 0]
def k0_off30 (k0_t4 : Fin k0_t4_loop.trips) : Fin 3 → Nat :=
  let c0_187 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v344 : Index := Scalar.indexCast v230
  let c1408_188 : Index := 1408#32
  ![0, v344.toNat, 1408]
def k0_off31 (k0_t4 : Fin k0_t4_loop.trips) : Fin 3 → Nat :=
  let c11_190 : Index := 11#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_189 : BitVec 32 := 8#32
  let v349 : BitVec 32 := Scalar.addi v230 c8_i32_189
  let v350 : Index := Scalar.indexCast v349
  let c0_191 : Index := 0#32
  ![11, v350.toNat, 0]
def k0_off32 (k0_t4 : Fin k0_t4_loop.trips) : Fin 3 → Nat :=
  let c0_192 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v354 : Index := Scalar.indexCast v230
  let c1536_193 : Index := 1536#32
  ![0, v354.toNat, 1536]
def k0_off33 (k0_t4 : Fin k0_t4_loop.trips) : Fin 3 → Nat :=
  let c12_195 : Index := 12#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_194 : BitVec 32 := 8#32
  let v359 : BitVec 32 := Scalar.addi v230 c8_i32_194
  let v360 : Index := Scalar.indexCast v359
  let c0_196 : Index := 0#32
  ![12, v360.toNat, 0]
def k0_off34 (k0_t4 : Fin k0_t4_loop.trips) : Fin 3 → Nat :=
  let c0_197 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v364 : Index := Scalar.indexCast v230
  let c1664_198 : Index := 1664#32
  ![0, v364.toNat, 1664]
def k0_off35 (k0_t4 : Fin k0_t4_loop.trips) : Fin 3 → Nat :=
  let c13_200 : Index := 13#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_199 : BitVec 32 := 8#32
  let v369 : BitVec 32 := Scalar.addi v230 c8_i32_199
  let v370 : Index := Scalar.indexCast v369
  let c0_201 : Index := 0#32
  ![13, v370.toNat, 0]
def k0_off36 (k0_t4 : Fin k0_t4_loop.trips) : Fin 3 → Nat :=
  let c0_202 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v374 : Index := Scalar.indexCast v230
  let c1792_203 : Index := 1792#32
  ![0, v374.toNat, 1792]
def k0_off37 (k0_t4 : Fin k0_t4_loop.trips) : Fin 3 → Nat :=
  let c14_205 : Index := 14#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_204 : BitVec 32 := 8#32
  let v379 : BitVec 32 := Scalar.addi v230 c8_i32_204
  let v380 : Index := Scalar.indexCast v379
  let c0_206 : Index := 0#32
  ![14, v380.toNat, 0]
def k0_off38 (k0_t4 : Fin k0_t4_loop.trips) : Fin 3 → Nat :=
  let c0_207 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v384 : Index := Scalar.indexCast v230
  let c1920_208 : Index := 1920#32
  ![0, v384.toNat, 1920]
def k0_off39 (k0_t4 : Fin k0_t4_loop.trips) : Fin 3 → Nat :=
  let c15_210 : Index := 15#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_209 : BitVec 32 := 8#32
  let v389 : BitVec 32 := Scalar.addi v230 c8_i32_209
  let v390 : Index := Scalar.indexCast v389
  let c0_211 : Index := 0#32
  ![15, v390.toNat, 0]
def k0_off40 (k0_t4 : Fin k0_t4_loop.trips) : Fin 3 → Nat :=
  let c0_212 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v394 : Index := Scalar.indexCast v230
  let c2048_213 : Index := 2048#32
  ![0, v394.toNat, 2048]
def k0_off41 (k0_t4 : Fin k0_t4_loop.trips) : Fin 3 → Nat :=
  let c16_215 : Index := 16#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_214 : BitVec 32 := 8#32
  let v399 : BitVec 32 := Scalar.addi v230 c8_i32_214
  let v400 : Index := Scalar.indexCast v399
  let c0_216 : Index := 0#32
  ![16, v400.toNat, 0]
def k0_off42 (k0_t4 : Fin k0_t4_loop.trips) : Fin 3 → Nat :=
  let c0_217 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v404 : Index := Scalar.indexCast v230
  let c2176_218 : Index := 2176#32
  ![0, v404.toNat, 2176]
def k0_off43 (k0_t4 : Fin k0_t4_loop.trips) : Fin 3 → Nat :=
  let c17_220 : Index := 17#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_219 : BitVec 32 := 8#32
  let v409 : BitVec 32 := Scalar.addi v230 c8_i32_219
  let v410 : Index := Scalar.indexCast v409
  let c0_221 : Index := 0#32
  ![17, v410.toNat, 0]
def k0_off44 (k0_t4 : Fin k0_t4_loop.trips) : Fin 3 → Nat :=
  let c0_222 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v414 : Index := Scalar.indexCast v230
  let c2304_223 : Index := 2304#32
  ![0, v414.toNat, 2304]
def k0_off45 (k0_t4 : Fin k0_t4_loop.trips) : Fin 3 → Nat :=
  let c18_225 : Index := 18#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_224 : BitVec 32 := 8#32
  let v419 : BitVec 32 := Scalar.addi v230 c8_i32_224
  let v420 : Index := Scalar.indexCast v419
  let c0_226 : Index := 0#32
  ![18, v420.toNat, 0]
def k0_off46 (k0_t4 : Fin k0_t4_loop.trips) : Fin 3 → Nat :=
  let c0_227 : Index := 0#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let v424 : Index := Scalar.indexCast v230
  let c2432_228 : Index := 2432#32
  ![0, v424.toNat, 2432]
def k0_off47 (k0_t4 : Fin k0_t4_loop.trips) : Fin 3 → Nat :=
  let c19_230 : Index := 19#32
  let c0_i32_121 : BitVec 32 := 0#32
  let c1_i32 : BitVec 32 := 1#32
  let arg19 : BitVec 32 := Scf.iv c0_i32_121 c1_i32 k0_t4
  let c32_i32 : BitVec 32 := 32#32
  let v229 : BitVec 32 := Scalar.muli arg19 c32_i32
  let v230 : BitVec 32 := v229
  let c8_i32_229 : BitVec 32 := 8#32
  let v429 : BitVec 32 := Scalar.addi v230 c8_i32_229
  let v430 : Index := Scalar.indexCast v429
  let c0_231 : Index := 0#32
  ![19, v430.toNat, 0]
@[reducible] def k0_t5_loop : Scf.Loop 32 :=
  let c0_i32_123 : BitVec 32 := 0#32
  let c8_i32_124 : BitVec 32 := 8#32
  let v223 : BitVec 32 := Scalar.addi c0_i32_123 c8_i32_124
  let c1_i32_125 : BitVec 32 := 1#32
  ⟨c0_i32_123, v223, c1_i32_125⟩
def k0_mult3 (k0_t5 : Fin k0_t5_loop.trips) : BitVec 32 :=
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  v230
def k0_off48 (i : grid0.Coords) (k0_t5 : Fin k0_t5_loop.trips) : Fin 1 → Nat :=
  let c63_i32 : BitVec 32 := 63#32
  let arg1 : BitVec 32 := BitVec.ofNat 32 (i 1).val
  let v0 : BitVec 32 := Scalar.subi c63_i32 arg1
  let c8_i32_130 : BitVec 32 := 8#32
  let v232 : BitVec 32 := Scalar.muli v0 c8_i32_130
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let v233 : BitVec 32 := Scalar.addi v232 v229
  let c1_i32_131 : BitVec 32 := 1#32
  let v234 : BitVec 32 := Scalar.addi v233 c1_i32_131
  let v235 : Index := Scalar.indexCast v234
  ![v235.toNat]
def k0_off49 (k0_t5 : Fin k0_t5_loop.trips) : Fin 2 → Nat :=
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v243 : Index := Scalar.indexCast v231
  let c0_135 : Index := 0#32
  ![v243.toNat, 0]
def k0_off50 (i : grid0.Coords) (k0_t5 : Fin k0_t5_loop.trips) (c_m2_i32 : BitVec 32) : Fin 2 → Nat :=
  let c63_i32 : BitVec 32 := 63#32
  let arg1 : BitVec 32 := BitVec.ofNat 32 (i 1).val
  let v0 : BitVec 32 := Scalar.subi c63_i32 arg1
  let c256_i32 : BitVec 32 := 256#32
  let v1 : BitVec 32 := Scalar.muli v0 c256_i32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v245 : BitVec 32 := Scalar.addi v1 v231
  let c8_i32_136 : BitVec 32 := 8#32
  let v246 : BitVec 32 := Scalar.addi v245 c8_i32_136
  let v247 : BitVec 32 := Scalar.addi v246 c_m2_i32
  let v248 : Index := Scalar.indexCast v247
  let c0_137 : Index := 0#32
  ![v248.toNat, 0]
def k0_off50_at (r : Fin 6) : BitVec 32 :=
  if r.val < 3 then
    if r.val < 1 then
      4294967294#32
    else
      if r.val < 2 then
        4294967295#32
      else
        0#32
  else
    if r.val < 4 then
      1#32
    else
      if r.val < 5 then
        2#32
      else
        3#32
def k0_off51 (k0_t5 : Fin k0_t5_loop.trips) (c0_i32_146 : BitVec 32) : Fin 3 → Nat :=
  let c0_147 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_145 : BitVec 32 := 8#32
  let v271 : BitVec 32 := Scalar.addi v231 c8_i32_145
  let v272 : BitVec 32 := Scalar.subi v271 c0_i32_146
  let v273 : Index := Scalar.indexCast v272
  let c0_148 : Index := 0#32
  ![0, v273.toNat, 0]
def k0_off52 (k0_t5 : Fin k0_t5_loop.trips) : Fin 3 → Nat :=
  let c0_171 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v318 : Index := Scalar.indexCast v231
  let c0_172 : Index := 0#32
  ![0, v318.toNat, 0]
def k0_off53 (k0_t5 : Fin k0_t5_loop.trips) : Fin 3 → Nat :=
  let c0_175 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v331 : Index := Scalar.indexCast v231
  let c0_176 : Index := 0#32
  ![0, v331.toNat, 0]
def k0_off54 (k0_t5 : Fin k0_t5_loop.trips) (c1_i32_219 : BitVec 32) : Fin 3 → Nat :=
  let c0_220 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v408 : BitVec 32 := Scalar.addi v231 c1_i32_219
  let v409 : Index := Scalar.indexCast v408
  let c0_221 : Index := 0#32
  ![0, v409.toNat, 0]
def k0_off55 (k0_t5 : Fin k0_t5_loop.trips) (c0_i32_237 : BitVec 32) : Fin 3 → Nat :=
  let c1_238 : Index := 1#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_236 : BitVec 32 := 8#32
  let v443 : BitVec 32 := Scalar.addi v231 c8_i32_236
  let v444 : BitVec 32 := Scalar.subi v443 c0_i32_237
  let v445 : Index := Scalar.indexCast v444
  let c0_239 : Index := 0#32
  ![1, v445.toNat, 0]
def k0_off56 (k0_t5 : Fin k0_t5_loop.trips) : Fin 3 → Nat :=
  let c0_262 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v490 : Index := Scalar.indexCast v231
  let c128_263 : Index := 128#32
  ![0, v490.toNat, 128]
def k0_off57 (k0_t5 : Fin k0_t5_loop.trips) : Fin 3 → Nat :=
  let c1_266 : Index := 1#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v503 : Index := Scalar.indexCast v231
  let c0_267 : Index := 0#32
  ![1, v503.toNat, 0]
def k0_off58 (k0_t5 : Fin k0_t5_loop.trips) (c1_i32_310 : BitVec 32) : Fin 3 → Nat :=
  let c1_311 : Index := 1#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v580 : BitVec 32 := Scalar.addi v231 c1_i32_310
  let v581 : Index := Scalar.indexCast v580
  let c0_312 : Index := 0#32
  ![1, v581.toNat, 0]
def k0_off59 (k0_t5 : Fin k0_t5_loop.trips) (c0_i32_328 : BitVec 32) : Fin 3 → Nat :=
  let c2_329 : Index := 2#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_327 : BitVec 32 := 8#32
  let v615 : BitVec 32 := Scalar.addi v231 c8_i32_327
  let v616 : BitVec 32 := Scalar.subi v615 c0_i32_328
  let v617 : Index := Scalar.indexCast v616
  let c0_330 : Index := 0#32
  ![2, v617.toNat, 0]
def k0_off60 (k0_t5 : Fin k0_t5_loop.trips) : Fin 3 → Nat :=
  let c0_353 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v662 : Index := Scalar.indexCast v231
  let c256_354 : Index := 256#32
  ![0, v662.toNat, 256]
def k0_off61 (k0_t5 : Fin k0_t5_loop.trips) : Fin 3 → Nat :=
  let c2_357 : Index := 2#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v675 : Index := Scalar.indexCast v231
  let c0_358 : Index := 0#32
  ![2, v675.toNat, 0]
def k0_off62 (k0_t5 : Fin k0_t5_loop.trips) (c1_i32_401 : BitVec 32) : Fin 3 → Nat :=
  let c2_402 : Index := 2#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v752 : BitVec 32 := Scalar.addi v231 c1_i32_401
  let v753 : Index := Scalar.indexCast v752
  let c0_403 : Index := 0#32
  ![2, v753.toNat, 0]
def k0_off63 (k0_t5 : Fin k0_t5_loop.trips) (c0_i32_419 : BitVec 32) : Fin 3 → Nat :=
  let c3_420 : Index := 3#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_418 : BitVec 32 := 8#32
  let v787 : BitVec 32 := Scalar.addi v231 c8_i32_418
  let v788 : BitVec 32 := Scalar.subi v787 c0_i32_419
  let v789 : Index := Scalar.indexCast v788
  let c0_421 : Index := 0#32
  ![3, v789.toNat, 0]
def k0_off64 (k0_t5 : Fin k0_t5_loop.trips) : Fin 3 → Nat :=
  let c0_444 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v834 : Index := Scalar.indexCast v231
  let c384_445 : Index := 384#32
  ![0, v834.toNat, 384]
def k0_off65 (k0_t5 : Fin k0_t5_loop.trips) : Fin 3 → Nat :=
  let c3_448 : Index := 3#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v847 : Index := Scalar.indexCast v231
  let c0_449 : Index := 0#32
  ![3, v847.toNat, 0]
def k0_off66 (k0_t5 : Fin k0_t5_loop.trips) (c1_i32_492 : BitVec 32) : Fin 3 → Nat :=
  let c3_493 : Index := 3#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v924 : BitVec 32 := Scalar.addi v231 c1_i32_492
  let v925 : Index := Scalar.indexCast v924
  let c0_494 : Index := 0#32
  ![3, v925.toNat, 0]
def k0_off67 (k0_t5 : Fin k0_t5_loop.trips) (c0_i32_510 : BitVec 32) : Fin 3 → Nat :=
  let c4_511 : Index := 4#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_509 : BitVec 32 := 8#32
  let v959 : BitVec 32 := Scalar.addi v231 c8_i32_509
  let v960 : BitVec 32 := Scalar.subi v959 c0_i32_510
  let v961 : Index := Scalar.indexCast v960
  let c0_512 : Index := 0#32
  ![4, v961.toNat, 0]
def k0_off68 (k0_t5 : Fin k0_t5_loop.trips) : Fin 3 → Nat :=
  let c0_535 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1006 : Index := Scalar.indexCast v231
  let c512_536 : Index := 512#32
  ![0, v1006.toNat, 512]
def k0_off69 (k0_t5 : Fin k0_t5_loop.trips) : Fin 3 → Nat :=
  let c4_539 : Index := 4#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1019 : Index := Scalar.indexCast v231
  let c0_540 : Index := 0#32
  ![4, v1019.toNat, 0]
def k0_off70 (k0_t5 : Fin k0_t5_loop.trips) (c1_i32_583 : BitVec 32) : Fin 3 → Nat :=
  let c4_584 : Index := 4#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1096 : BitVec 32 := Scalar.addi v231 c1_i32_583
  let v1097 : Index := Scalar.indexCast v1096
  let c0_585 : Index := 0#32
  ![4, v1097.toNat, 0]
def k0_off71 (k0_t5 : Fin k0_t5_loop.trips) (c0_i32_601 : BitVec 32) : Fin 3 → Nat :=
  let c5_602 : Index := 5#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_600 : BitVec 32 := 8#32
  let v1131 : BitVec 32 := Scalar.addi v231 c8_i32_600
  let v1132 : BitVec 32 := Scalar.subi v1131 c0_i32_601
  let v1133 : Index := Scalar.indexCast v1132
  let c0_603 : Index := 0#32
  ![5, v1133.toNat, 0]
def k0_off72 (k0_t5 : Fin k0_t5_loop.trips) : Fin 3 → Nat :=
  let c0_626 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1178 : Index := Scalar.indexCast v231
  let c640_627 : Index := 640#32
  ![0, v1178.toNat, 640]
def k0_off73 (k0_t5 : Fin k0_t5_loop.trips) : Fin 3 → Nat :=
  let c5_630 : Index := 5#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1191 : Index := Scalar.indexCast v231
  let c0_631 : Index := 0#32
  ![5, v1191.toNat, 0]
def k0_off74 (k0_t5 : Fin k0_t5_loop.trips) (c1_i32_674 : BitVec 32) : Fin 3 → Nat :=
  let c5_675 : Index := 5#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1268 : BitVec 32 := Scalar.addi v231 c1_i32_674
  let v1269 : Index := Scalar.indexCast v1268
  let c0_676 : Index := 0#32
  ![5, v1269.toNat, 0]
def k0_off75 (k0_t5 : Fin k0_t5_loop.trips) (c0_i32_692 : BitVec 32) : Fin 3 → Nat :=
  let c6_693 : Index := 6#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_691 : BitVec 32 := 8#32
  let v1303 : BitVec 32 := Scalar.addi v231 c8_i32_691
  let v1304 : BitVec 32 := Scalar.subi v1303 c0_i32_692
  let v1305 : Index := Scalar.indexCast v1304
  let c0_694 : Index := 0#32
  ![6, v1305.toNat, 0]
def k0_off76 (k0_t5 : Fin k0_t5_loop.trips) : Fin 3 → Nat :=
  let c0_717 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1350 : Index := Scalar.indexCast v231
  let c768_718 : Index := 768#32
  ![0, v1350.toNat, 768]
def k0_off77 (k0_t5 : Fin k0_t5_loop.trips) : Fin 3 → Nat :=
  let c6_721 : Index := 6#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1363 : Index := Scalar.indexCast v231
  let c0_722 : Index := 0#32
  ![6, v1363.toNat, 0]
def k0_off78 (k0_t5 : Fin k0_t5_loop.trips) (c1_i32_765 : BitVec 32) : Fin 3 → Nat :=
  let c6_766 : Index := 6#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1440 : BitVec 32 := Scalar.addi v231 c1_i32_765
  let v1441 : Index := Scalar.indexCast v1440
  let c0_767 : Index := 0#32
  ![6, v1441.toNat, 0]
def k0_off79 (k0_t5 : Fin k0_t5_loop.trips) (c0_i32_783 : BitVec 32) : Fin 3 → Nat :=
  let c7_784 : Index := 7#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_782 : BitVec 32 := 8#32
  let v1475 : BitVec 32 := Scalar.addi v231 c8_i32_782
  let v1476 : BitVec 32 := Scalar.subi v1475 c0_i32_783
  let v1477 : Index := Scalar.indexCast v1476
  let c0_785 : Index := 0#32
  ![7, v1477.toNat, 0]
def k0_off80 (k0_t5 : Fin k0_t5_loop.trips) : Fin 3 → Nat :=
  let c0_808 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1522 : Index := Scalar.indexCast v231
  let c896_809 : Index := 896#32
  ![0, v1522.toNat, 896]
def k0_off81 (k0_t5 : Fin k0_t5_loop.trips) : Fin 3 → Nat :=
  let c7_812 : Index := 7#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1535 : Index := Scalar.indexCast v231
  let c0_813 : Index := 0#32
  ![7, v1535.toNat, 0]
def k0_off82 (k0_t5 : Fin k0_t5_loop.trips) (c1_i32_856 : BitVec 32) : Fin 3 → Nat :=
  let c7_857 : Index := 7#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1612 : BitVec 32 := Scalar.addi v231 c1_i32_856
  let v1613 : Index := Scalar.indexCast v1612
  let c0_858 : Index := 0#32
  ![7, v1613.toNat, 0]
def k0_off83 (k0_t5 : Fin k0_t5_loop.trips) (c0_i32_874 : BitVec 32) : Fin 3 → Nat :=
  let c8_875 : Index := 8#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_873 : BitVec 32 := 8#32
  let v1647 : BitVec 32 := Scalar.addi v231 c8_i32_873
  let v1648 : BitVec 32 := Scalar.subi v1647 c0_i32_874
  let v1649 : Index := Scalar.indexCast v1648
  let c0_876 : Index := 0#32
  ![8, v1649.toNat, 0]
def k0_off84 (k0_t5 : Fin k0_t5_loop.trips) : Fin 3 → Nat :=
  let c0_899 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1694 : Index := Scalar.indexCast v231
  let c1024_900 : Index := 1024#32
  ![0, v1694.toNat, 1024]
def k0_off85 (k0_t5 : Fin k0_t5_loop.trips) : Fin 3 → Nat :=
  let c8_903 : Index := 8#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1707 : Index := Scalar.indexCast v231
  let c0_904 : Index := 0#32
  ![8, v1707.toNat, 0]
def k0_off86 (k0_t5 : Fin k0_t5_loop.trips) (c1_i32_947 : BitVec 32) : Fin 3 → Nat :=
  let c8_948 : Index := 8#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1784 : BitVec 32 := Scalar.addi v231 c1_i32_947
  let v1785 : Index := Scalar.indexCast v1784
  let c0_949 : Index := 0#32
  ![8, v1785.toNat, 0]
def k0_off87 (k0_t5 : Fin k0_t5_loop.trips) (c0_i32_965 : BitVec 32) : Fin 3 → Nat :=
  let c9_966 : Index := 9#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_964 : BitVec 32 := 8#32
  let v1819 : BitVec 32 := Scalar.addi v231 c8_i32_964
  let v1820 : BitVec 32 := Scalar.subi v1819 c0_i32_965
  let v1821 : Index := Scalar.indexCast v1820
  let c0_967 : Index := 0#32
  ![9, v1821.toNat, 0]
def k0_off88 (k0_t5 : Fin k0_t5_loop.trips) : Fin 3 → Nat :=
  let c0_990 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1866 : Index := Scalar.indexCast v231
  let c1152_991 : Index := 1152#32
  ![0, v1866.toNat, 1152]
def k0_off89 (k0_t5 : Fin k0_t5_loop.trips) : Fin 3 → Nat :=
  let c9_994 : Index := 9#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1879 : Index := Scalar.indexCast v231
  let c0_995 : Index := 0#32
  ![9, v1879.toNat, 0]
def k0_off90 (k0_t5 : Fin k0_t5_loop.trips) (c1_i32_1038 : BitVec 32) : Fin 3 → Nat :=
  let c9_1039 : Index := 9#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1956 : BitVec 32 := Scalar.addi v231 c1_i32_1038
  let v1957 : Index := Scalar.indexCast v1956
  let c0_1040 : Index := 0#32
  ![9, v1957.toNat, 0]
def k0_off91 (k0_t5 : Fin k0_t5_loop.trips) (c0_i32_1056 : BitVec 32) : Fin 3 → Nat :=
  let c10_1057 : Index := 10#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1055 : BitVec 32 := 8#32
  let v1991 : BitVec 32 := Scalar.addi v231 c8_i32_1055
  let v1992 : BitVec 32 := Scalar.subi v1991 c0_i32_1056
  let v1993 : Index := Scalar.indexCast v1992
  let c0_1058 : Index := 0#32
  ![10, v1993.toNat, 0]
def k0_off92 (k0_t5 : Fin k0_t5_loop.trips) : Fin 3 → Nat :=
  let c0_1081 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2038 : Index := Scalar.indexCast v231
  let c1280_1082 : Index := 1280#32
  ![0, v2038.toNat, 1280]
def k0_off93 (k0_t5 : Fin k0_t5_loop.trips) : Fin 3 → Nat :=
  let c10_1085 : Index := 10#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2051 : Index := Scalar.indexCast v231
  let c0_1086 : Index := 0#32
  ![10, v2051.toNat, 0]
def k0_off94 (k0_t5 : Fin k0_t5_loop.trips) (c1_i32_1129 : BitVec 32) : Fin 3 → Nat :=
  let c10_1130 : Index := 10#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2128 : BitVec 32 := Scalar.addi v231 c1_i32_1129
  let v2129 : Index := Scalar.indexCast v2128
  let c0_1131 : Index := 0#32
  ![10, v2129.toNat, 0]
def k0_off95 (k0_t5 : Fin k0_t5_loop.trips) (c0_i32_1147 : BitVec 32) : Fin 3 → Nat :=
  let c11_1148 : Index := 11#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1146 : BitVec 32 := 8#32
  let v2163 : BitVec 32 := Scalar.addi v231 c8_i32_1146
  let v2164 : BitVec 32 := Scalar.subi v2163 c0_i32_1147
  let v2165 : Index := Scalar.indexCast v2164
  let c0_1149 : Index := 0#32
  ![11, v2165.toNat, 0]
def k0_off96 (k0_t5 : Fin k0_t5_loop.trips) : Fin 3 → Nat :=
  let c0_1172 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2210 : Index := Scalar.indexCast v231
  let c1408_1173 : Index := 1408#32
  ![0, v2210.toNat, 1408]
def k0_off97 (k0_t5 : Fin k0_t5_loop.trips) : Fin 3 → Nat :=
  let c11_1176 : Index := 11#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2223 : Index := Scalar.indexCast v231
  let c0_1177 : Index := 0#32
  ![11, v2223.toNat, 0]
def k0_off98 (k0_t5 : Fin k0_t5_loop.trips) (c1_i32_1220 : BitVec 32) : Fin 3 → Nat :=
  let c11_1221 : Index := 11#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2300 : BitVec 32 := Scalar.addi v231 c1_i32_1220
  let v2301 : Index := Scalar.indexCast v2300
  let c0_1222 : Index := 0#32
  ![11, v2301.toNat, 0]
def k0_off99 (k0_t5 : Fin k0_t5_loop.trips) (c0_i32_1238 : BitVec 32) : Fin 3 → Nat :=
  let c12_1239 : Index := 12#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1237 : BitVec 32 := 8#32
  let v2335 : BitVec 32 := Scalar.addi v231 c8_i32_1237
  let v2336 : BitVec 32 := Scalar.subi v2335 c0_i32_1238
  let v2337 : Index := Scalar.indexCast v2336
  let c0_1240 : Index := 0#32
  ![12, v2337.toNat, 0]
def k0_off100 (k0_t5 : Fin k0_t5_loop.trips) : Fin 3 → Nat :=
  let c0_1263 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2382 : Index := Scalar.indexCast v231
  let c1536_1264 : Index := 1536#32
  ![0, v2382.toNat, 1536]
def k0_off101 (k0_t5 : Fin k0_t5_loop.trips) : Fin 3 → Nat :=
  let c12_1267 : Index := 12#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2395 : Index := Scalar.indexCast v231
  let c0_1268 : Index := 0#32
  ![12, v2395.toNat, 0]
def k0_off102 (k0_t5 : Fin k0_t5_loop.trips) (c1_i32_1311 : BitVec 32) : Fin 3 → Nat :=
  let c12_1312 : Index := 12#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2472 : BitVec 32 := Scalar.addi v231 c1_i32_1311
  let v2473 : Index := Scalar.indexCast v2472
  let c0_1313 : Index := 0#32
  ![12, v2473.toNat, 0]
def k0_off103 (k0_t5 : Fin k0_t5_loop.trips) (c0_i32_1329 : BitVec 32) : Fin 3 → Nat :=
  let c13_1330 : Index := 13#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1328 : BitVec 32 := 8#32
  let v2507 : BitVec 32 := Scalar.addi v231 c8_i32_1328
  let v2508 : BitVec 32 := Scalar.subi v2507 c0_i32_1329
  let v2509 : Index := Scalar.indexCast v2508
  let c0_1331 : Index := 0#32
  ![13, v2509.toNat, 0]
def k0_off104 (k0_t5 : Fin k0_t5_loop.trips) : Fin 3 → Nat :=
  let c0_1354 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2554 : Index := Scalar.indexCast v231
  let c1664_1355 : Index := 1664#32
  ![0, v2554.toNat, 1664]
def k0_off105 (k0_t5 : Fin k0_t5_loop.trips) : Fin 3 → Nat :=
  let c13_1358 : Index := 13#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2567 : Index := Scalar.indexCast v231
  let c0_1359 : Index := 0#32
  ![13, v2567.toNat, 0]
def k0_off106 (k0_t5 : Fin k0_t5_loop.trips) (c1_i32_1402 : BitVec 32) : Fin 3 → Nat :=
  let c13_1403 : Index := 13#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2644 : BitVec 32 := Scalar.addi v231 c1_i32_1402
  let v2645 : Index := Scalar.indexCast v2644
  let c0_1404 : Index := 0#32
  ![13, v2645.toNat, 0]
def k0_off107 (k0_t5 : Fin k0_t5_loop.trips) (c0_i32_1420 : BitVec 32) : Fin 3 → Nat :=
  let c14_1421 : Index := 14#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1419 : BitVec 32 := 8#32
  let v2679 : BitVec 32 := Scalar.addi v231 c8_i32_1419
  let v2680 : BitVec 32 := Scalar.subi v2679 c0_i32_1420
  let v2681 : Index := Scalar.indexCast v2680
  let c0_1422 : Index := 0#32
  ![14, v2681.toNat, 0]
def k0_off108 (k0_t5 : Fin k0_t5_loop.trips) : Fin 3 → Nat :=
  let c0_1445 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2726 : Index := Scalar.indexCast v231
  let c1792_1446 : Index := 1792#32
  ![0, v2726.toNat, 1792]
def k0_off109 (k0_t5 : Fin k0_t5_loop.trips) : Fin 3 → Nat :=
  let c14_1449 : Index := 14#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2739 : Index := Scalar.indexCast v231
  let c0_1450 : Index := 0#32
  ![14, v2739.toNat, 0]
def k0_off110 (k0_t5 : Fin k0_t5_loop.trips) (c1_i32_1493 : BitVec 32) : Fin 3 → Nat :=
  let c14_1494 : Index := 14#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2816 : BitVec 32 := Scalar.addi v231 c1_i32_1493
  let v2817 : Index := Scalar.indexCast v2816
  let c0_1495 : Index := 0#32
  ![14, v2817.toNat, 0]
def k0_off111 (k0_t5 : Fin k0_t5_loop.trips) (c0_i32_1511 : BitVec 32) : Fin 3 → Nat :=
  let c15_1512 : Index := 15#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1510 : BitVec 32 := 8#32
  let v2851 : BitVec 32 := Scalar.addi v231 c8_i32_1510
  let v2852 : BitVec 32 := Scalar.subi v2851 c0_i32_1511
  let v2853 : Index := Scalar.indexCast v2852
  let c0_1513 : Index := 0#32
  ![15, v2853.toNat, 0]
def k0_off112 (k0_t5 : Fin k0_t5_loop.trips) : Fin 3 → Nat :=
  let c0_1536 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2898 : Index := Scalar.indexCast v231
  let c1920_1537 : Index := 1920#32
  ![0, v2898.toNat, 1920]
def k0_off113 (k0_t5 : Fin k0_t5_loop.trips) : Fin 3 → Nat :=
  let c15_1540 : Index := 15#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2911 : Index := Scalar.indexCast v231
  let c0_1541 : Index := 0#32
  ![15, v2911.toNat, 0]
def k0_off114 (k0_t5 : Fin k0_t5_loop.trips) (c1_i32_1584 : BitVec 32) : Fin 3 → Nat :=
  let c15_1585 : Index := 15#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2988 : BitVec 32 := Scalar.addi v231 c1_i32_1584
  let v2989 : Index := Scalar.indexCast v2988
  let c0_1586 : Index := 0#32
  ![15, v2989.toNat, 0]
def k0_off115 (k0_t5 : Fin k0_t5_loop.trips) (c0_i32_1602 : BitVec 32) : Fin 3 → Nat :=
  let c16_1603 : Index := 16#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1601 : BitVec 32 := 8#32
  let v3023 : BitVec 32 := Scalar.addi v231 c8_i32_1601
  let v3024 : BitVec 32 := Scalar.subi v3023 c0_i32_1602
  let v3025 : Index := Scalar.indexCast v3024
  let c0_1604 : Index := 0#32
  ![16, v3025.toNat, 0]
def k0_off116 (k0_t5 : Fin k0_t5_loop.trips) : Fin 3 → Nat :=
  let c0_1627 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3070 : Index := Scalar.indexCast v231
  let c2048_1628 : Index := 2048#32
  ![0, v3070.toNat, 2048]
def k0_off117 (k0_t5 : Fin k0_t5_loop.trips) : Fin 3 → Nat :=
  let c16_1631 : Index := 16#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3083 : Index := Scalar.indexCast v231
  let c0_1632 : Index := 0#32
  ![16, v3083.toNat, 0]
def k0_off118 (k0_t5 : Fin k0_t5_loop.trips) (c1_i32_1675 : BitVec 32) : Fin 3 → Nat :=
  let c16_1676 : Index := 16#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3160 : BitVec 32 := Scalar.addi v231 c1_i32_1675
  let v3161 : Index := Scalar.indexCast v3160
  let c0_1677 : Index := 0#32
  ![16, v3161.toNat, 0]
def k0_off119 (k0_t5 : Fin k0_t5_loop.trips) (c0_i32_1693 : BitVec 32) : Fin 3 → Nat :=
  let c17_1694 : Index := 17#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1692 : BitVec 32 := 8#32
  let v3195 : BitVec 32 := Scalar.addi v231 c8_i32_1692
  let v3196 : BitVec 32 := Scalar.subi v3195 c0_i32_1693
  let v3197 : Index := Scalar.indexCast v3196
  let c0_1695 : Index := 0#32
  ![17, v3197.toNat, 0]
def k0_off120 (k0_t5 : Fin k0_t5_loop.trips) : Fin 3 → Nat :=
  let c0_1718 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3242 : Index := Scalar.indexCast v231
  let c2176_1719 : Index := 2176#32
  ![0, v3242.toNat, 2176]
def k0_off121 (k0_t5 : Fin k0_t5_loop.trips) : Fin 3 → Nat :=
  let c17_1722 : Index := 17#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3255 : Index := Scalar.indexCast v231
  let c0_1723 : Index := 0#32
  ![17, v3255.toNat, 0]
def k0_off122 (k0_t5 : Fin k0_t5_loop.trips) (c1_i32_1766 : BitVec 32) : Fin 3 → Nat :=
  let c17_1767 : Index := 17#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3332 : BitVec 32 := Scalar.addi v231 c1_i32_1766
  let v3333 : Index := Scalar.indexCast v3332
  let c0_1768 : Index := 0#32
  ![17, v3333.toNat, 0]
def k0_off123 (k0_t5 : Fin k0_t5_loop.trips) (c0_i32_1784 : BitVec 32) : Fin 3 → Nat :=
  let c18_1785 : Index := 18#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1783 : BitVec 32 := 8#32
  let v3367 : BitVec 32 := Scalar.addi v231 c8_i32_1783
  let v3368 : BitVec 32 := Scalar.subi v3367 c0_i32_1784
  let v3369 : Index := Scalar.indexCast v3368
  let c0_1786 : Index := 0#32
  ![18, v3369.toNat, 0]
def k0_off124 (k0_t5 : Fin k0_t5_loop.trips) : Fin 3 → Nat :=
  let c0_1809 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3414 : Index := Scalar.indexCast v231
  let c2304_1810 : Index := 2304#32
  ![0, v3414.toNat, 2304]
def k0_off125 (k0_t5 : Fin k0_t5_loop.trips) : Fin 3 → Nat :=
  let c18_1813 : Index := 18#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3427 : Index := Scalar.indexCast v231
  let c0_1814 : Index := 0#32
  ![18, v3427.toNat, 0]
def k0_off126 (k0_t5 : Fin k0_t5_loop.trips) (c1_i32_1857 : BitVec 32) : Fin 3 → Nat :=
  let c18_1858 : Index := 18#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3504 : BitVec 32 := Scalar.addi v231 c1_i32_1857
  let v3505 : Index := Scalar.indexCast v3504
  let c0_1859 : Index := 0#32
  ![18, v3505.toNat, 0]
def k0_off127 (k0_t5 : Fin k0_t5_loop.trips) (c0_i32_1875 : BitVec 32) : Fin 3 → Nat :=
  let c19_1876 : Index := 19#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1874 : BitVec 32 := 8#32
  let v3539 : BitVec 32 := Scalar.addi v231 c8_i32_1874
  let v3540 : BitVec 32 := Scalar.subi v3539 c0_i32_1875
  let v3541 : Index := Scalar.indexCast v3540
  let c0_1877 : Index := 0#32
  ![19, v3541.toNat, 0]
def k0_off128 (k0_t5 : Fin k0_t5_loop.trips) : Fin 3 → Nat :=
  let c0_1900 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3586 : Index := Scalar.indexCast v231
  let c2432_1901 : Index := 2432#32
  ![0, v3586.toNat, 2432]
def k0_off129 (k0_t5 : Fin k0_t5_loop.trips) : Fin 3 → Nat :=
  let c19_1904 : Index := 19#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3599 : Index := Scalar.indexCast v231
  let c0_1905 : Index := 0#32
  ![19, v3599.toNat, 0]
def k0_off130 (k0_t5 : Fin k0_t5_loop.trips) (c1_i32_1948 : BitVec 32) : Fin 3 → Nat :=
  let c19_1949 : Index := 19#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3676 : BitVec 32 := Scalar.addi v231 c1_i32_1948
  let v3677 : Index := Scalar.indexCast v3676
  let c0_1950 : Index := 0#32
  ![19, v3677.toNat, 0]
def k0_off131 (k0_t5 : Fin k0_t5_loop.trips) : Fin 2 → Nat :=
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v243 : Index := Scalar.indexCast v231
  let c0_135 : Index := 0#32
  ![v243.toNat, 0]
def k0_off132 (k0_t5 : Fin k0_t5_loop.trips) (c0_i32_137 : BitVec 32) : Fin 3 → Nat :=
  let c0_138 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_136 : BitVec 32 := 8#32
  let v245 : BitVec 32 := Scalar.addi v231 c8_i32_136
  let v246 : BitVec 32 := Scalar.subi v245 c0_i32_137
  let v247 : Index := Scalar.indexCast v246
  let c0_139 : Index := 0#32
  ![0, v247.toNat, 0]
def k0_off133 (k0_t5 : Fin k0_t5_loop.trips) : Fin 3 → Nat :=
  let c0_160 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v289 : Index := Scalar.indexCast v231
  let c0_161 : Index := 0#32
  ![0, v289.toNat, 0]
def k0_off134 (k0_t5 : Fin k0_t5_loop.trips) : Fin 3 → Nat :=
  let c0_164 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v302 : Index := Scalar.indexCast v231
  let c0_165 : Index := 0#32
  ![0, v302.toNat, 0]
def k0_off135 (k0_t5 : Fin k0_t5_loop.trips) (c1_i32_208 : BitVec 32) : Fin 3 → Nat :=
  let c0_209 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v379 : BitVec 32 := Scalar.addi v231 c1_i32_208
  let v380 : Index := Scalar.indexCast v379
  let c0_210 : Index := 0#32
  ![0, v380.toNat, 0]
def k0_off136 (k0_t5 : Fin k0_t5_loop.trips) (c0_i32_226 : BitVec 32) : Fin 3 → Nat :=
  let c1_227 : Index := 1#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_225 : BitVec 32 := 8#32
  let v411 : BitVec 32 := Scalar.addi v231 c8_i32_225
  let v412 : BitVec 32 := Scalar.subi v411 c0_i32_226
  let v413 : Index := Scalar.indexCast v412
  let c0_228 : Index := 0#32
  ![1, v413.toNat, 0]
def k0_off137 (k0_t5 : Fin k0_t5_loop.trips) : Fin 3 → Nat :=
  let c0_251 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v455 : Index := Scalar.indexCast v231
  let c128_252 : Index := 128#32
  ![0, v455.toNat, 128]
def k0_off138 (k0_t5 : Fin k0_t5_loop.trips) : Fin 3 → Nat :=
  let c1_255 : Index := 1#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v468 : Index := Scalar.indexCast v231
  let c0_256 : Index := 0#32
  ![1, v468.toNat, 0]
def k0_off139 (k0_t5 : Fin k0_t5_loop.trips) (c1_i32_299 : BitVec 32) : Fin 3 → Nat :=
  let c1_300 : Index := 1#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v545 : BitVec 32 := Scalar.addi v231 c1_i32_299
  let v546 : Index := Scalar.indexCast v545
  let c0_301 : Index := 0#32
  ![1, v546.toNat, 0]
def k0_off140 (k0_t5 : Fin k0_t5_loop.trips) (c0_i32_317 : BitVec 32) : Fin 3 → Nat :=
  let c2_318 : Index := 2#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_316 : BitVec 32 := 8#32
  let v577 : BitVec 32 := Scalar.addi v231 c8_i32_316
  let v578 : BitVec 32 := Scalar.subi v577 c0_i32_317
  let v579 : Index := Scalar.indexCast v578
  let c0_319 : Index := 0#32
  ![2, v579.toNat, 0]
def k0_off141 (k0_t5 : Fin k0_t5_loop.trips) : Fin 3 → Nat :=
  let c0_342 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v621 : Index := Scalar.indexCast v231
  let c256_343 : Index := 256#32
  ![0, v621.toNat, 256]
def k0_off142 (k0_t5 : Fin k0_t5_loop.trips) : Fin 3 → Nat :=
  let c2_346 : Index := 2#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v634 : Index := Scalar.indexCast v231
  let c0_347 : Index := 0#32
  ![2, v634.toNat, 0]
def k0_off143 (k0_t5 : Fin k0_t5_loop.trips) (c1_i32_390 : BitVec 32) : Fin 3 → Nat :=
  let c2_391 : Index := 2#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v711 : BitVec 32 := Scalar.addi v231 c1_i32_390
  let v712 : Index := Scalar.indexCast v711
  let c0_392 : Index := 0#32
  ![2, v712.toNat, 0]
def k0_off144 (k0_t5 : Fin k0_t5_loop.trips) (c0_i32_408 : BitVec 32) : Fin 3 → Nat :=
  let c3_409 : Index := 3#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_407 : BitVec 32 := 8#32
  let v743 : BitVec 32 := Scalar.addi v231 c8_i32_407
  let v744 : BitVec 32 := Scalar.subi v743 c0_i32_408
  let v745 : Index := Scalar.indexCast v744
  let c0_410 : Index := 0#32
  ![3, v745.toNat, 0]
def k0_off145 (k0_t5 : Fin k0_t5_loop.trips) : Fin 3 → Nat :=
  let c0_433 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v787 : Index := Scalar.indexCast v231
  let c384_434 : Index := 384#32
  ![0, v787.toNat, 384]
def k0_off146 (k0_t5 : Fin k0_t5_loop.trips) : Fin 3 → Nat :=
  let c3_437 : Index := 3#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v800 : Index := Scalar.indexCast v231
  let c0_438 : Index := 0#32
  ![3, v800.toNat, 0]
def k0_off147 (k0_t5 : Fin k0_t5_loop.trips) (c1_i32_481 : BitVec 32) : Fin 3 → Nat :=
  let c3_482 : Index := 3#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v877 : BitVec 32 := Scalar.addi v231 c1_i32_481
  let v878 : Index := Scalar.indexCast v877
  let c0_483 : Index := 0#32
  ![3, v878.toNat, 0]
def k0_off148 (k0_t5 : Fin k0_t5_loop.trips) (c0_i32_499 : BitVec 32) : Fin 3 → Nat :=
  let c4_500 : Index := 4#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_498 : BitVec 32 := 8#32
  let v909 : BitVec 32 := Scalar.addi v231 c8_i32_498
  let v910 : BitVec 32 := Scalar.subi v909 c0_i32_499
  let v911 : Index := Scalar.indexCast v910
  let c0_501 : Index := 0#32
  ![4, v911.toNat, 0]
def k0_off149 (k0_t5 : Fin k0_t5_loop.trips) : Fin 3 → Nat :=
  let c0_524 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v953 : Index := Scalar.indexCast v231
  let c512_525 : Index := 512#32
  ![0, v953.toNat, 512]
def k0_off150 (k0_t5 : Fin k0_t5_loop.trips) : Fin 3 → Nat :=
  let c4_528 : Index := 4#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v966 : Index := Scalar.indexCast v231
  let c0_529 : Index := 0#32
  ![4, v966.toNat, 0]
def k0_off151 (k0_t5 : Fin k0_t5_loop.trips) (c1_i32_572 : BitVec 32) : Fin 3 → Nat :=
  let c4_573 : Index := 4#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1043 : BitVec 32 := Scalar.addi v231 c1_i32_572
  let v1044 : Index := Scalar.indexCast v1043
  let c0_574 : Index := 0#32
  ![4, v1044.toNat, 0]
def k0_off152 (k0_t5 : Fin k0_t5_loop.trips) (c0_i32_590 : BitVec 32) : Fin 3 → Nat :=
  let c5_591 : Index := 5#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_589 : BitVec 32 := 8#32
  let v1075 : BitVec 32 := Scalar.addi v231 c8_i32_589
  let v1076 : BitVec 32 := Scalar.subi v1075 c0_i32_590
  let v1077 : Index := Scalar.indexCast v1076
  let c0_592 : Index := 0#32
  ![5, v1077.toNat, 0]
def k0_off153 (k0_t5 : Fin k0_t5_loop.trips) : Fin 3 → Nat :=
  let c0_615 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1119 : Index := Scalar.indexCast v231
  let c640_616 : Index := 640#32
  ![0, v1119.toNat, 640]
def k0_off154 (k0_t5 : Fin k0_t5_loop.trips) : Fin 3 → Nat :=
  let c5_619 : Index := 5#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1132 : Index := Scalar.indexCast v231
  let c0_620 : Index := 0#32
  ![5, v1132.toNat, 0]
def k0_off155 (k0_t5 : Fin k0_t5_loop.trips) (c1_i32_663 : BitVec 32) : Fin 3 → Nat :=
  let c5_664 : Index := 5#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1209 : BitVec 32 := Scalar.addi v231 c1_i32_663
  let v1210 : Index := Scalar.indexCast v1209
  let c0_665 : Index := 0#32
  ![5, v1210.toNat, 0]
def k0_off156 (k0_t5 : Fin k0_t5_loop.trips) (c0_i32_681 : BitVec 32) : Fin 3 → Nat :=
  let c6_682 : Index := 6#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_680 : BitVec 32 := 8#32
  let v1241 : BitVec 32 := Scalar.addi v231 c8_i32_680
  let v1242 : BitVec 32 := Scalar.subi v1241 c0_i32_681
  let v1243 : Index := Scalar.indexCast v1242
  let c0_683 : Index := 0#32
  ![6, v1243.toNat, 0]
def k0_off157 (k0_t5 : Fin k0_t5_loop.trips) : Fin 3 → Nat :=
  let c0_706 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1285 : Index := Scalar.indexCast v231
  let c768_707 : Index := 768#32
  ![0, v1285.toNat, 768]
def k0_off158 (k0_t5 : Fin k0_t5_loop.trips) : Fin 3 → Nat :=
  let c6_710 : Index := 6#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1298 : Index := Scalar.indexCast v231
  let c0_711 : Index := 0#32
  ![6, v1298.toNat, 0]
def k0_off159 (k0_t5 : Fin k0_t5_loop.trips) (c1_i32_754 : BitVec 32) : Fin 3 → Nat :=
  let c6_755 : Index := 6#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1375 : BitVec 32 := Scalar.addi v231 c1_i32_754
  let v1376 : Index := Scalar.indexCast v1375
  let c0_756 : Index := 0#32
  ![6, v1376.toNat, 0]
def k0_off160 (k0_t5 : Fin k0_t5_loop.trips) (c0_i32_772 : BitVec 32) : Fin 3 → Nat :=
  let c7_773 : Index := 7#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_771 : BitVec 32 := 8#32
  let v1407 : BitVec 32 := Scalar.addi v231 c8_i32_771
  let v1408 : BitVec 32 := Scalar.subi v1407 c0_i32_772
  let v1409 : Index := Scalar.indexCast v1408
  let c0_774 : Index := 0#32
  ![7, v1409.toNat, 0]
def k0_off161 (k0_t5 : Fin k0_t5_loop.trips) : Fin 3 → Nat :=
  let c0_797 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1451 : Index := Scalar.indexCast v231
  let c896_798 : Index := 896#32
  ![0, v1451.toNat, 896]
def k0_off162 (k0_t5 : Fin k0_t5_loop.trips) : Fin 3 → Nat :=
  let c7_801 : Index := 7#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1464 : Index := Scalar.indexCast v231
  let c0_802 : Index := 0#32
  ![7, v1464.toNat, 0]
def k0_off163 (k0_t5 : Fin k0_t5_loop.trips) (c1_i32_845 : BitVec 32) : Fin 3 → Nat :=
  let c7_846 : Index := 7#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1541 : BitVec 32 := Scalar.addi v231 c1_i32_845
  let v1542 : Index := Scalar.indexCast v1541
  let c0_847 : Index := 0#32
  ![7, v1542.toNat, 0]
def k0_off164 (k0_t5 : Fin k0_t5_loop.trips) (c0_i32_863 : BitVec 32) : Fin 3 → Nat :=
  let c8_864 : Index := 8#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_862 : BitVec 32 := 8#32
  let v1573 : BitVec 32 := Scalar.addi v231 c8_i32_862
  let v1574 : BitVec 32 := Scalar.subi v1573 c0_i32_863
  let v1575 : Index := Scalar.indexCast v1574
  let c0_865 : Index := 0#32
  ![8, v1575.toNat, 0]
def k0_off165 (k0_t5 : Fin k0_t5_loop.trips) : Fin 3 → Nat :=
  let c0_888 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1617 : Index := Scalar.indexCast v231
  let c1024_889 : Index := 1024#32
  ![0, v1617.toNat, 1024]
def k0_off166 (k0_t5 : Fin k0_t5_loop.trips) : Fin 3 → Nat :=
  let c8_892 : Index := 8#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1630 : Index := Scalar.indexCast v231
  let c0_893 : Index := 0#32
  ![8, v1630.toNat, 0]
def k0_off167 (k0_t5 : Fin k0_t5_loop.trips) (c1_i32_936 : BitVec 32) : Fin 3 → Nat :=
  let c8_937 : Index := 8#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1707 : BitVec 32 := Scalar.addi v231 c1_i32_936
  let v1708 : Index := Scalar.indexCast v1707
  let c0_938 : Index := 0#32
  ![8, v1708.toNat, 0]
def k0_off168 (k0_t5 : Fin k0_t5_loop.trips) (c0_i32_954 : BitVec 32) : Fin 3 → Nat :=
  let c9_955 : Index := 9#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_953 : BitVec 32 := 8#32
  let v1739 : BitVec 32 := Scalar.addi v231 c8_i32_953
  let v1740 : BitVec 32 := Scalar.subi v1739 c0_i32_954
  let v1741 : Index := Scalar.indexCast v1740
  let c0_956 : Index := 0#32
  ![9, v1741.toNat, 0]
def k0_off169 (k0_t5 : Fin k0_t5_loop.trips) : Fin 3 → Nat :=
  let c0_979 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1783 : Index := Scalar.indexCast v231
  let c1152_980 : Index := 1152#32
  ![0, v1783.toNat, 1152]
def k0_off170 (k0_t5 : Fin k0_t5_loop.trips) : Fin 3 → Nat :=
  let c9_983 : Index := 9#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1796 : Index := Scalar.indexCast v231
  let c0_984 : Index := 0#32
  ![9, v1796.toNat, 0]
def k0_off171 (k0_t5 : Fin k0_t5_loop.trips) (c1_i32_1027 : BitVec 32) : Fin 3 → Nat :=
  let c9_1028 : Index := 9#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1873 : BitVec 32 := Scalar.addi v231 c1_i32_1027
  let v1874 : Index := Scalar.indexCast v1873
  let c0_1029 : Index := 0#32
  ![9, v1874.toNat, 0]
def k0_off172 (k0_t5 : Fin k0_t5_loop.trips) (c0_i32_1045 : BitVec 32) : Fin 3 → Nat :=
  let c10_1046 : Index := 10#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1044 : BitVec 32 := 8#32
  let v1905 : BitVec 32 := Scalar.addi v231 c8_i32_1044
  let v1906 : BitVec 32 := Scalar.subi v1905 c0_i32_1045
  let v1907 : Index := Scalar.indexCast v1906
  let c0_1047 : Index := 0#32
  ![10, v1907.toNat, 0]
def k0_off173 (k0_t5 : Fin k0_t5_loop.trips) : Fin 3 → Nat :=
  let c0_1070 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1949 : Index := Scalar.indexCast v231
  let c1280_1071 : Index := 1280#32
  ![0, v1949.toNat, 1280]
def k0_off174 (k0_t5 : Fin k0_t5_loop.trips) : Fin 3 → Nat :=
  let c10_1074 : Index := 10#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v1962 : Index := Scalar.indexCast v231
  let c0_1075 : Index := 0#32
  ![10, v1962.toNat, 0]
def k0_off175 (k0_t5 : Fin k0_t5_loop.trips) (c1_i32_1118 : BitVec 32) : Fin 3 → Nat :=
  let c10_1119 : Index := 10#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2039 : BitVec 32 := Scalar.addi v231 c1_i32_1118
  let v2040 : Index := Scalar.indexCast v2039
  let c0_1120 : Index := 0#32
  ![10, v2040.toNat, 0]
def k0_off176 (k0_t5 : Fin k0_t5_loop.trips) (c0_i32_1136 : BitVec 32) : Fin 3 → Nat :=
  let c11_1137 : Index := 11#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1135 : BitVec 32 := 8#32
  let v2071 : BitVec 32 := Scalar.addi v231 c8_i32_1135
  let v2072 : BitVec 32 := Scalar.subi v2071 c0_i32_1136
  let v2073 : Index := Scalar.indexCast v2072
  let c0_1138 : Index := 0#32
  ![11, v2073.toNat, 0]
def k0_off177 (k0_t5 : Fin k0_t5_loop.trips) : Fin 3 → Nat :=
  let c0_1161 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2115 : Index := Scalar.indexCast v231
  let c1408_1162 : Index := 1408#32
  ![0, v2115.toNat, 1408]
def k0_off178 (k0_t5 : Fin k0_t5_loop.trips) : Fin 3 → Nat :=
  let c11_1165 : Index := 11#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2128 : Index := Scalar.indexCast v231
  let c0_1166 : Index := 0#32
  ![11, v2128.toNat, 0]
def k0_off179 (k0_t5 : Fin k0_t5_loop.trips) (c1_i32_1209 : BitVec 32) : Fin 3 → Nat :=
  let c11_1210 : Index := 11#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2205 : BitVec 32 := Scalar.addi v231 c1_i32_1209
  let v2206 : Index := Scalar.indexCast v2205
  let c0_1211 : Index := 0#32
  ![11, v2206.toNat, 0]
def k0_off180 (k0_t5 : Fin k0_t5_loop.trips) (c0_i32_1227 : BitVec 32) : Fin 3 → Nat :=
  let c12_1228 : Index := 12#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1226 : BitVec 32 := 8#32
  let v2237 : BitVec 32 := Scalar.addi v231 c8_i32_1226
  let v2238 : BitVec 32 := Scalar.subi v2237 c0_i32_1227
  let v2239 : Index := Scalar.indexCast v2238
  let c0_1229 : Index := 0#32
  ![12, v2239.toNat, 0]
def k0_off181 (k0_t5 : Fin k0_t5_loop.trips) : Fin 3 → Nat :=
  let c0_1252 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2281 : Index := Scalar.indexCast v231
  let c1536_1253 : Index := 1536#32
  ![0, v2281.toNat, 1536]
def k0_off182 (k0_t5 : Fin k0_t5_loop.trips) : Fin 3 → Nat :=
  let c12_1256 : Index := 12#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2294 : Index := Scalar.indexCast v231
  let c0_1257 : Index := 0#32
  ![12, v2294.toNat, 0]
def k0_off183 (k0_t5 : Fin k0_t5_loop.trips) (c1_i32_1300 : BitVec 32) : Fin 3 → Nat :=
  let c12_1301 : Index := 12#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2371 : BitVec 32 := Scalar.addi v231 c1_i32_1300
  let v2372 : Index := Scalar.indexCast v2371
  let c0_1302 : Index := 0#32
  ![12, v2372.toNat, 0]
def k0_off184 (k0_t5 : Fin k0_t5_loop.trips) (c0_i32_1318 : BitVec 32) : Fin 3 → Nat :=
  let c13_1319 : Index := 13#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1317 : BitVec 32 := 8#32
  let v2403 : BitVec 32 := Scalar.addi v231 c8_i32_1317
  let v2404 : BitVec 32 := Scalar.subi v2403 c0_i32_1318
  let v2405 : Index := Scalar.indexCast v2404
  let c0_1320 : Index := 0#32
  ![13, v2405.toNat, 0]
def k0_off185 (k0_t5 : Fin k0_t5_loop.trips) : Fin 3 → Nat :=
  let c0_1343 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2447 : Index := Scalar.indexCast v231
  let c1664_1344 : Index := 1664#32
  ![0, v2447.toNat, 1664]
def k0_off186 (k0_t5 : Fin k0_t5_loop.trips) : Fin 3 → Nat :=
  let c13_1347 : Index := 13#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2460 : Index := Scalar.indexCast v231
  let c0_1348 : Index := 0#32
  ![13, v2460.toNat, 0]
def k0_off187 (k0_t5 : Fin k0_t5_loop.trips) (c1_i32_1391 : BitVec 32) : Fin 3 → Nat :=
  let c13_1392 : Index := 13#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2537 : BitVec 32 := Scalar.addi v231 c1_i32_1391
  let v2538 : Index := Scalar.indexCast v2537
  let c0_1393 : Index := 0#32
  ![13, v2538.toNat, 0]
def k0_off188 (k0_t5 : Fin k0_t5_loop.trips) (c0_i32_1409 : BitVec 32) : Fin 3 → Nat :=
  let c14_1410 : Index := 14#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1408 : BitVec 32 := 8#32
  let v2569 : BitVec 32 := Scalar.addi v231 c8_i32_1408
  let v2570 : BitVec 32 := Scalar.subi v2569 c0_i32_1409
  let v2571 : Index := Scalar.indexCast v2570
  let c0_1411 : Index := 0#32
  ![14, v2571.toNat, 0]
def k0_off189 (k0_t5 : Fin k0_t5_loop.trips) : Fin 3 → Nat :=
  let c0_1434 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2613 : Index := Scalar.indexCast v231
  let c1792_1435 : Index := 1792#32
  ![0, v2613.toNat, 1792]
def k0_off190 (k0_t5 : Fin k0_t5_loop.trips) : Fin 3 → Nat :=
  let c14_1438 : Index := 14#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2626 : Index := Scalar.indexCast v231
  let c0_1439 : Index := 0#32
  ![14, v2626.toNat, 0]
def k0_off191 (k0_t5 : Fin k0_t5_loop.trips) (c1_i32_1482 : BitVec 32) : Fin 3 → Nat :=
  let c14_1483 : Index := 14#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2703 : BitVec 32 := Scalar.addi v231 c1_i32_1482
  let v2704 : Index := Scalar.indexCast v2703
  let c0_1484 : Index := 0#32
  ![14, v2704.toNat, 0]
def k0_off192 (k0_t5 : Fin k0_t5_loop.trips) (c0_i32_1500 : BitVec 32) : Fin 3 → Nat :=
  let c15_1501 : Index := 15#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1499 : BitVec 32 := 8#32
  let v2735 : BitVec 32 := Scalar.addi v231 c8_i32_1499
  let v2736 : BitVec 32 := Scalar.subi v2735 c0_i32_1500
  let v2737 : Index := Scalar.indexCast v2736
  let c0_1502 : Index := 0#32
  ![15, v2737.toNat, 0]
def k0_off193 (k0_t5 : Fin k0_t5_loop.trips) : Fin 3 → Nat :=
  let c0_1525 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2779 : Index := Scalar.indexCast v231
  let c1920_1526 : Index := 1920#32
  ![0, v2779.toNat, 1920]
def k0_off194 (k0_t5 : Fin k0_t5_loop.trips) : Fin 3 → Nat :=
  let c15_1529 : Index := 15#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2792 : Index := Scalar.indexCast v231
  let c0_1530 : Index := 0#32
  ![15, v2792.toNat, 0]
def k0_off195 (k0_t5 : Fin k0_t5_loop.trips) (c1_i32_1573 : BitVec 32) : Fin 3 → Nat :=
  let c15_1574 : Index := 15#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2869 : BitVec 32 := Scalar.addi v231 c1_i32_1573
  let v2870 : Index := Scalar.indexCast v2869
  let c0_1575 : Index := 0#32
  ![15, v2870.toNat, 0]
def k0_off196 (k0_t5 : Fin k0_t5_loop.trips) (c0_i32_1591 : BitVec 32) : Fin 3 → Nat :=
  let c16_1592 : Index := 16#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1590 : BitVec 32 := 8#32
  let v2901 : BitVec 32 := Scalar.addi v231 c8_i32_1590
  let v2902 : BitVec 32 := Scalar.subi v2901 c0_i32_1591
  let v2903 : Index := Scalar.indexCast v2902
  let c0_1593 : Index := 0#32
  ![16, v2903.toNat, 0]
def k0_off197 (k0_t5 : Fin k0_t5_loop.trips) : Fin 3 → Nat :=
  let c0_1616 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2945 : Index := Scalar.indexCast v231
  let c2048_1617 : Index := 2048#32
  ![0, v2945.toNat, 2048]
def k0_off198 (k0_t5 : Fin k0_t5_loop.trips) : Fin 3 → Nat :=
  let c16_1620 : Index := 16#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v2958 : Index := Scalar.indexCast v231
  let c0_1621 : Index := 0#32
  ![16, v2958.toNat, 0]
def k0_off199 (k0_t5 : Fin k0_t5_loop.trips) (c1_i32_1664 : BitVec 32) : Fin 3 → Nat :=
  let c16_1665 : Index := 16#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3035 : BitVec 32 := Scalar.addi v231 c1_i32_1664
  let v3036 : Index := Scalar.indexCast v3035
  let c0_1666 : Index := 0#32
  ![16, v3036.toNat, 0]
def k0_off200 (k0_t5 : Fin k0_t5_loop.trips) (c0_i32_1682 : BitVec 32) : Fin 3 → Nat :=
  let c17_1683 : Index := 17#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1681 : BitVec 32 := 8#32
  let v3067 : BitVec 32 := Scalar.addi v231 c8_i32_1681
  let v3068 : BitVec 32 := Scalar.subi v3067 c0_i32_1682
  let v3069 : Index := Scalar.indexCast v3068
  let c0_1684 : Index := 0#32
  ![17, v3069.toNat, 0]
def k0_off201 (k0_t5 : Fin k0_t5_loop.trips) : Fin 3 → Nat :=
  let c0_1707 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3111 : Index := Scalar.indexCast v231
  let c2176_1708 : Index := 2176#32
  ![0, v3111.toNat, 2176]
def k0_off202 (k0_t5 : Fin k0_t5_loop.trips) : Fin 3 → Nat :=
  let c17_1711 : Index := 17#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3124 : Index := Scalar.indexCast v231
  let c0_1712 : Index := 0#32
  ![17, v3124.toNat, 0]
def k0_off203 (k0_t5 : Fin k0_t5_loop.trips) (c1_i32_1755 : BitVec 32) : Fin 3 → Nat :=
  let c17_1756 : Index := 17#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3201 : BitVec 32 := Scalar.addi v231 c1_i32_1755
  let v3202 : Index := Scalar.indexCast v3201
  let c0_1757 : Index := 0#32
  ![17, v3202.toNat, 0]
def k0_off204 (k0_t5 : Fin k0_t5_loop.trips) (c0_i32_1773 : BitVec 32) : Fin 3 → Nat :=
  let c18_1774 : Index := 18#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1772 : BitVec 32 := 8#32
  let v3233 : BitVec 32 := Scalar.addi v231 c8_i32_1772
  let v3234 : BitVec 32 := Scalar.subi v3233 c0_i32_1773
  let v3235 : Index := Scalar.indexCast v3234
  let c0_1775 : Index := 0#32
  ![18, v3235.toNat, 0]
def k0_off205 (k0_t5 : Fin k0_t5_loop.trips) : Fin 3 → Nat :=
  let c0_1798 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3277 : Index := Scalar.indexCast v231
  let c2304_1799 : Index := 2304#32
  ![0, v3277.toNat, 2304]
def k0_off206 (k0_t5 : Fin k0_t5_loop.trips) : Fin 3 → Nat :=
  let c18_1802 : Index := 18#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3290 : Index := Scalar.indexCast v231
  let c0_1803 : Index := 0#32
  ![18, v3290.toNat, 0]
def k0_off207 (k0_t5 : Fin k0_t5_loop.trips) (c1_i32_1846 : BitVec 32) : Fin 3 → Nat :=
  let c18_1847 : Index := 18#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3367 : BitVec 32 := Scalar.addi v231 c1_i32_1846
  let v3368 : Index := Scalar.indexCast v3367
  let c0_1848 : Index := 0#32
  ![18, v3368.toNat, 0]
def k0_off208 (k0_t5 : Fin k0_t5_loop.trips) (c0_i32_1864 : BitVec 32) : Fin 3 → Nat :=
  let c19_1865 : Index := 19#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let c8_i32_1863 : BitVec 32 := 8#32
  let v3399 : BitVec 32 := Scalar.addi v231 c8_i32_1863
  let v3400 : BitVec 32 := Scalar.subi v3399 c0_i32_1864
  let v3401 : Index := Scalar.indexCast v3400
  let c0_1866 : Index := 0#32
  ![19, v3401.toNat, 0]
def k0_off209 (k0_t5 : Fin k0_t5_loop.trips) : Fin 3 → Nat :=
  let c0_1889 : Index := 0#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3443 : Index := Scalar.indexCast v231
  let c2432_1890 : Index := 2432#32
  ![0, v3443.toNat, 2432]
def k0_off210 (k0_t5 : Fin k0_t5_loop.trips) : Fin 3 → Nat :=
  let c19_1893 : Index := 19#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3456 : Index := Scalar.indexCast v231
  let c0_1894 : Index := 0#32
  ![19, v3456.toNat, 0]
def k0_off211 (k0_t5 : Fin k0_t5_loop.trips) (c1_i32_1937 : BitVec 32) : Fin 3 → Nat :=
  let c19_1938 : Index := 19#32
  let c7_i32 : BitVec 32 := 7#32
  let c0_i32_123 : BitVec 32 := 0#32
  let c1_i32_125 : BitVec 32 := 1#32
  let arg19 : BitVec 32 := Scf.iv c0_i32_123 c1_i32_125 k0_t5
  let v229 : BitVec 32 := Scalar.subi c7_i32 arg19
  let c32_i32 : BitVec 32 := 32#32
  let v230 : BitVec 32 := Scalar.muli v229 c32_i32
  let v231 : BitVec 32 := v230
  let v3533 : BitVec 32 := Scalar.addi v231 c1_i32_1937
  let v3534 : Index := Scalar.indexCast v3533
  let c0_1939 : Index := 0#32
  ![19, v3534.toNat, 0]
def k0_cond6 (i : grid0.Coords) : BitVec 1 :=
  let arg0 : BitVec 32 := BitVec.ofNat 32 (i 0).val
  let c1_i32_127 : BitVec 32 := 1#32
  let v224 : BitVec 1 := Scalar.cmpi .eq arg0 c1_i32_127
  let arg1 : BitVec 32 := BitVec.ofNat 32 (i 1).val
  let c63_i32_128 : BitVec 32 := 63#32
  let v225 : BitVec 1 := Scalar.cmpi .eq arg1 c63_i32_128
  let v226 : BitVec 1 := Scalar.andi v224 v225
  let v227 : BitVec 32 := Scalar.extui v226
  let c0_i32_129 : BitVec 32 := 0#32
  let v228 : BitVec 1 := Scalar.cmpi .ne v227 c0_i32_129
  v228

def cc0_transform_0 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![arg0.toNat, v3.toNat, c0_i32_0.toNat]

def cc0_transform_2 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c62_i32 : BitVec 32 := 62#32
  let v0 : BitVec 32 := Scalar.subi c62_i32 arg1
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_5 (i : grid0.Coords) : Fin 4 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c63_i32 : BitVec 32 := 63#32
  let v0 : BitVec 32 := Scalar.subi c63_i32 arg1
  let c0_i32 : BitVec 32 := 0#32
  let c0_i32_0 : BitVec 32 := 0#32
  ![arg0.toNat, v0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x2560 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2560 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x2560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x2560 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S2x16384x2560 : Shape := ⟨3, ![2, 16384, 2560]⟩
abbrev S2x16384 : Shape := ⟨2, ![2, 16384]⟩
abbrev S2560x4 : Shape := ⟨2, ![2560, 4]⟩
abbrev S2560 : Shape := ⟨1, ![2560]⟩
abbrev S2x64 : Shape := ⟨2, ![2, 64]⟩
abbrev S16384 : Shape := ⟨1, ![16384]⟩
abbrev S2x63 : Shape := ⟨2, ![2, 63]⟩
abbrev S1x16384 : Shape := ⟨2, ![1, 16384]⟩
abbrev S2x63x1 : Shape := ⟨3, ![2, 63, 1]⟩
abbrev S1x1x16384 : Shape := ⟨3, ![1, 1, 16384]⟩
abbrev S2x63x16384 : Shape := ⟨3, ![2, 63, 16384]⟩
abbrev S_ : Shape := ⟨0, ![]⟩
abbrev S2x16384x1 : Shape := ⟨3, ![2, 16384, 1]⟩
abbrev S2x3x2560 : Shape := ⟨3, ![2, 3, 2560]⟩
abbrev S2x16387x2560 : Shape := ⟨3, ![2, 16387, 2560]⟩
abbrev S2560x1 : Shape := ⟨2, ![2560, 1]⟩
abbrev S1x1x2560 : Shape := ⟨3, ![1, 1, 2560]⟩

abbrev nBuf : Space → Nat
  | .hbm => 50
  | .vmem => 11
  | .smem => 0
  | _ => 0

abbrev bufTy : (tb : Table) → Fin (tcTables nBuf tb) → BufTy
  | .hbm, ⟨0, _⟩ => ⟨S2x16384x2560, .fp8e4m3⟩
  | .hbm, ⟨1, _⟩ => ⟨S2x16384, .f32⟩
  | .hbm, ⟨2, _⟩ => ⟨S2x16384x2560, .fp8e5m2⟩
  | .hbm, ⟨3, _⟩ => ⟨S2x16384, .f32⟩
  | .hbm, ⟨4, _⟩ => ⟨S2560x4, .bf16⟩
  | .hbm, ⟨5, _⟩ => ⟨S2560, .f32⟩
  | .hbm, ⟨6, _⟩ => ⟨S2x64, .i32⟩
  | .hbm, ⟨7, _⟩ => ⟨S16384, .i32⟩
  | .hbm, ⟨8, _⟩ => ⟨S2x63, .i32⟩
  | .hbm, ⟨9, _⟩ => ⟨S1x16384, .i32⟩
  | .hbm, ⟨10, _⟩ => ⟨S2x63x1, .i32⟩
  | .hbm, ⟨11, _⟩ => ⟨S1x1x16384, .i32⟩
  | .hbm, ⟨12, _⟩ => ⟨S2x63x16384, .i32⟩
  | .hbm, ⟨13, _⟩ => ⟨S2x63x16384, .i32⟩
  | .hbm, ⟨14, _⟩ => ⟨S2x63x16384, .i1⟩
  | .hbm, ⟨15, _⟩ => ⟨S2x63x16384, .i32⟩
  | .hbm, ⟨16, _⟩ => ⟨S_, .i32⟩
  | .hbm, ⟨17, _⟩ => ⟨S2x16384, .i32⟩
  | .hbm, ⟨18, _⟩ => ⟨S_, .i32⟩
  | .hbm, ⟨19, _⟩ => ⟨S2x16384, .i32⟩
  | .hbm, ⟨20, _⟩ => ⟨S2x16384, .i1⟩
  | .hbm, ⟨21, _⟩ => ⟨S_, .i32⟩
  | .hbm, ⟨22, _⟩ => ⟨S2x16384, .i32⟩
  | .hbm, ⟨23, _⟩ => ⟨S2x16384, .i32⟩
  | .hbm, ⟨24, _⟩ => ⟨S2x16384, .i32⟩
  | .hbm, ⟨25, _⟩ => ⟨S2x16384x1, .i32⟩
  | .hbm, ⟨26, _⟩ => ⟨S2x16384, .i32⟩
  | .hbm, ⟨27, _⟩ => ⟨S_, .i32⟩
  | .hbm, ⟨28, _⟩ => ⟨S2x16384, .i32⟩
  | .hbm, ⟨29, _⟩ => ⟨S2x16384, .i32⟩
  | .hbm, ⟨30, _⟩ => ⟨S_, .i32⟩
  | .hbm, ⟨31, _⟩ => ⟨S2x16384, .i32⟩
  | .hbm, ⟨32, _⟩ => ⟨S2x16384, .i1⟩
  | .hbm, ⟨33, _⟩ => ⟨S_, .i32⟩
  | .hbm, ⟨34, _⟩ => ⟨S2x16384, .i32⟩
  | .hbm, ⟨35, _⟩ => ⟨S2x16384, .i32⟩
  | .hbm, ⟨36, _⟩ => ⟨S2x16384, .i32⟩
  | .hbm, ⟨37, _⟩ => ⟨S2x16384x1, .i32⟩
  | .hbm, ⟨38, _⟩ => ⟨S2x16384, .i32⟩
  | .hbm, ⟨39, _⟩ => ⟨S16384, .i32⟩
  | .hbm, ⟨40, _⟩ => ⟨S1x16384, .i32⟩
  | .hbm, ⟨41, _⟩ => ⟨S2x16384, .i32⟩
  | .hbm, ⟨42, _⟩ => ⟨S2x16384, .i32⟩
  | .hbm, ⟨43, _⟩ => ⟨S2x16384x1, .i32⟩
  | .hbm, ⟨44, _⟩ => ⟨S2x16384, .i32⟩
  | .hbm, ⟨45, _⟩ => ⟨S2x16384, .i32⟩
  | .hbm, ⟨46, _⟩ => ⟨S2x16384x1, .i32⟩
  | .hbm, ⟨47, _⟩ => ⟨S2x16384x2560, .bf16⟩
  | .hbm, ⟨48, _⟩ => ⟨S2560x4, .f32⟩
  | .hbm, ⟨49, _⟩ => ⟨S2560, .f32⟩
  | .local _ .vmem, ⟨0, _⟩ => ⟨S2x16384x2560, .fp8e4m3⟩
  | .local _ .vmem, ⟨1, _⟩ => ⟨S2x16384, .f32⟩
  | .local _ .vmem, ⟨2, _⟩ => ⟨S2x16384x2560, .fp8e5m2⟩
  | .local _ .vmem, ⟨3, _⟩ => ⟨S2x16384, .f32⟩
  | .local _ .vmem, ⟨4, _⟩ => ⟨S2560x4, .bf16⟩
  | .local _ .vmem, ⟨5, _⟩ => ⟨S2560, .f32⟩
  | .local _ .vmem, ⟨6, _⟩ => ⟨S2x16384x1, .i32⟩
  | .local _ .vmem, ⟨7, _⟩ => ⟨S2x16384x1, .i32⟩
  | .local _ .vmem, ⟨8, _⟩ => ⟨S2x16384x2560, .bf16⟩
  | .local _ .vmem, ⟨9, _⟩ => ⟨S2560x4, .f32⟩
  | .local _ .vmem, ⟨10, _⟩ => ⟨S2560, .f32⟩
  | _, _ => ⟨S2x16384x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_c : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_c_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_c_2 : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x16384x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x16384x2560 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16384x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x16384x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2560x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Host.lean ====
/- The program around the kernel: what the host operations before it leave, the table of boundaries the kernel reads, and
   each staged block as the part of its array. -/
module

public import proofs.«01_k».proof.Proof.Gen.KernelIdeal.Launch
public import Idealize.ShloMosaic.Lib.Pipeline.FrameSuffix
public import Idealize.ShloMosaic.Lib.Pipeline.FrameBody
public import Idealize.ShloMosaic.Lib.Tactic

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the buffers hold when the kernel starts: the host operations before it done. -/
abbrev V0 (c : Dev nD) : Valuation τ sig (Elt F) := StableHlo.after (List.flatten [hostOps0]) (fun b => m (c, b))
/-- The same at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is its host operations, the kernel, and its last host operations. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The last operations touch no table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl | rfl | rfl
  all_goals intro j; fin_cases j <;> simp only [StableHlo.nullary_bufs, StableHlo.unary_bufs, StableHlo.binary_bufs, StableHlo.reshape_bufs, Finset.mem_insert, Finset.mem_singleton, not_or] <;> and_intros <;> exact StableHlo.devRef_ne_of_ne (by decide)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 4000000 in
/-- They write none of the kernel's arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The boundary table as the kernel finds it. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)

/-- The table's half that the kernel holds, as an owned buffer. -/
theorem PhiT0_eq (c : Dev nD) : (Pipeline.ΦT pre0 (tbl m) c : sProp 𝕄) = owns (c : Thread nD τ) (Memref.whole main_v12) fullShare.right (tbl m 0) := by
  unfold Pipeline.ΦT Pipeline.prefHeld
  rw [show (Finset.univ : Finset (Fin 1)) = {(0 : Fin 1)} from by decide, bigSep_singleton]
  exact (owns_whole (Ix := Unit) (Val := Elt F) (Name := ℕ) (U := UR sig nD τ) (Lvl := ℕ) (c : Thread nD τ) main_v12 fullShare.right (tbl m 0)).symm

/-! ## The staged blocks -/

/-- Window `w`'s block at point `t`. -/
def iblk (c : Dev nD) (w : Fin 9) (t : Fin grid0.N) : (((cfgM m).win w).xblock ((cfgM m).grid.coords t)).Idx → Elt F ((cfgM m).win w).elt :=
  (((cfgM m).win w).blk t).view.read (Elt F) (V m c (Pipeline.arrRef spec0 w))

/-! An input's staged buffer holds its block at every point. -/

theorem before_of0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin grid0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin grid0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin grid0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin grid0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ (cfgM m) c) (hA : dat.A 4 = V m c (Pipeline.arrRef spec0 4))
    (hafter : ∀ t, dat.after 4 t = iblk m c 4 t) (t : Fin grid0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of5 {c : Dev nD} (dat : Dat τ (Elt F) Unit ℕ (UR sig nD τ) ℕ (cfgM m) c) (hA : dat.A 5 = V m c (Pipeline.arrRef spec0 5))
    (hafter : ∀ t, dat.after 5 t = iblk m c 5 t) (t : Fin grid0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_of6 {c : Dev nD} (dat : Dat τ (Elt F) Unit ℕ (UR sig nD τ) ℕ (cfgM m) c) (hA : dat.A 6 = V m c (Pipeline.arrRef spec0 6))
    (hafter : ∀ t, dat.after 6 t = iblk m c 6 t) (t : Fin grid0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem oneBlock8 : grid0.oneBlock reads0_8 = true := by decide

/-- The sums' block is written back at the last point only. -/
theorem flush8 (t : Fin grid0.N) : ((cfgM m).win 8).flush t = true ↔ t.val = 127 := by
  have := Window.flush_oneBlock ((cfgM m).win 8) rfl oneBlock8 (n := 128) (m := 127) N_0 rfl t
  rw [this, Nat.mod_eq_of_lt (t.isLt.trans_eq N_0)]

theorem coord0 : ∀ t : Fin grid0.N, (grid0.coords t 0).val = t.val / 64 := by decide +kernel
theorem coord1 : ∀ t : Fin grid0.N, (grid0.coords t 1).val = t.val % 64 := by decide +kernel

end Cert.KernelIdeal.Conv
-- ==== Proof.Body.lean ====
/- The body of the kernel, told once per group of 128 channels. The printed program spells every one of the twenty
   groups out; here one group is a program with the group as a parameter (`groupP`, `loadGroupP`, `prevGroupP`,
   `redGroupP`), and the body (`bodyP`) runs it twenty times. Mirror.lean proves the printed program equal to it. -/
module

public import proofs.«01_k».proof.Proof.Gen.KernelIdeal

@[expose] public section

noncomputable section

namespace Cert.KernelIdeal.Conv

open Idealize.ShloMosaic Idealize.SL.Sem
open Cert.KernelIdeal Facts₀ Facts

variable {F : FTy → Type} [FloatOps F]

/-- The buffers of one grid point: the table of document boundaries, the staged blocks, the scratches. -/
structure Refs where
  arg2 : Memref sig .tc .smem S128 .i32
  harg2 : arg2.IsWhole
  arg3 : Memref sig .tc .vmem S1x256x2560 .fp8e4m3
  harg3 : arg3.IsWhole
  arg4 : Memref sig .tc .vmem S1x32x2560 .fp8e4m3
  harg4 : arg4.IsWhole
  arg5 : Memref sig .tc .vmem S1x1x2x128 .f32
  harg5 : arg5.IsWhole
  arg6 : Memref sig .tc .vmem S1x1x2x128 .f32
  harg6 : arg6.IsWhole
  arg7 : Memref sig .tc .vmem S1x256x2560 .fp8e5m2
  harg7 : arg7.IsWhole
  arg8 : Memref sig .tc .vmem S1x1x2x128 .f32
  harg8 : arg8.IsWhole
  arg9 : Memref sig .tc .vmem S16x2560 .f32
  harg9 : arg9.IsWhole
  arg10 : Memref sig .tc .vmem S1x256x2560 .bf16
  harg10 : arg10.IsWhole
  arg11 : Memref sig .tc .vmem S8x2560 .f32
  harg11 : arg11.IsWhole
  arg12 : Memref sig .tc .vmem S20x264x128 .f32
  harg12 : arg12.IsWhole
  arg13 : Memref sig .tc .vmem S20x264x128 .f32
  harg13 : arg13.IsWhole
  arg14 : Memref sig .tc .vmem S16512x128 .f32
  harg14 : arg14.IsWhole
  arg15 : Memref sig .tc .vmem S264x128 .f32
  harg15 : arg15.IsWhole
  arg16 : Memref sig .tc .vmem S256x128 .f32
  harg16 : arg16.IsWhole
  arg17 : Memref sig .tc .vmem S20x5x8x128 .f32
  harg17 : arg17.IsWhole
  arg18 : Memref sig .tc .smem S514 .i32
  harg18 : arg18.IsWhole

/-- Programs of the kernel's core. -/
abbrev P (F : FTy → Type) [FloatOps F] := Prog (TpuEff nD τ sig (Elt F) Λ₀ .tc)

/-! ## Windows inside their buffers -/

theorem inb2 {n0 n1 s0 s1 a b : ℕ} (h0 : a + s0 ≤ n0) (h1 : b + s1 ≤ n1) :
    ∀ x : Fin 2, (![a, b] : Fin 2 → ℕ) x + (![s0, s1] : Fin 2 → ℕ) x ≤ (![n0, n1] : Fin 2 → ℕ) x := by
  intro x; fin_cases x <;> assumption

theorem inb3 {n0 n1 n2 s0 s1 s2 a b c : ℕ} (h0 : a + s0 ≤ n0) (h1 : b + s1 ≤ n1) (h2 : c + s2 ≤ n2) :
    ∀ x : Fin 3, (![a, b, c] : Fin 3 → ℕ) x + (![s0, s1, s2] : Fin 3 → ℕ) x ≤ (![n0, n1, n2] : Fin 3 → ℕ) x := by
  intro x; fin_cases x <;> assumption

theorem inb4 {n0 n1 n2 n3 s0 s1 s2 s3 a b c d : ℕ} (h0 : a + s0 ≤ n0) (h1 : b + s1 ≤ n1) (h2 : c + s2 ≤ n2)
    (h3 : d + s3 ≤ n3) :
    ∀ x : Fin 4, (![a, b, c, d] : Fin 4 → ℕ) x + (![s0, s1, s2, s3] : Fin 4 → ℕ) x ≤ (![n0, n1, n2, n3] : Fin 4 → ℕ) x := by
  intro x; fin_cases x <;> assumption

/-! ## Where a chunk's rows lie -/

/-- First row of chunk `t` of the x-loading loop. -/
def ldRow (t : Fin k0_t4_loop.trips) : ℕ := (Scalar.indexCast (k0_mult2 t)).toNat
/-- The same row behind the eight rows of the previous block. -/
def ldRow8 (t : Fin k0_t4_loop.trips) : ℕ := (Scalar.indexCast (Scalar.addi (k0_mult2 t) 8#32)).toNat
/-- First row of the chunk of trip `t` of the main loop, which runs backwards. -/
def chRow (t : Fin k0_t5_loop.trips) : ℕ := (Scalar.indexCast (k0_mult3 t)).toNat
/-- The row of the x scratch that tap `j` of the chunk begins at. -/
def xRow (t : Fin k0_t5_loop.trips) (j : BitVec 32) : ℕ :=
  (Scalar.indexCast (Scalar.subi (Scalar.addi (k0_mult3 t) 8#32) j)).toNat
/-- The row of the dz scratch that tap `j` of the chunk begins at. -/
def zRow (t : Fin k0_t5_loop.trips) (j : BitVec 32) : ℕ :=
  (Scalar.indexCast (Scalar.addi (k0_mult3 t) j)).toNat

theorem ldRow_eq : ∀ t : Fin k0_t4_loop.trips, ldRow t = 32 * t.val := by decide +kernel
theorem ldRow8_eq : ∀ t : Fin k0_t4_loop.trips, ldRow8 t = 32 * t.val + 8 := by decide +kernel
theorem chRow_eq : ∀ t : Fin k0_t5_loop.trips, chRow t = 32 * (7 - t.val) := by decide +kernel
theorem xRow_eq : ∀ (t : Fin k0_t5_loop.trips) (j : Fin 4), xRow t (BitVec.ofNat 32 j.val) = 32 * (7 - t.val) + 8 - j.val := by
  decide +kernel
theorem zRow_eq : ∀ (t : Fin k0_t5_loop.trips) (j : Fin 4), zRow t (BitVec.ofNat 32 j.val) = 32 * (7 - t.val) + j.val := by
  decide +kernel

theorem trips4 : k0_t4_loop.trips = 8 := by decide
theorem trips5 : k0_t5_loop.trips = 8 := by decide

theorem ldRow_le (t : Fin k0_t4_loop.trips) : ldRow t + 32 ≤ 256 := by
  have : t.val < 8 := t.isLt.trans_eq trips4; rw [ldRow_eq]; omega
theorem ldRow8_le (t : Fin k0_t4_loop.trips) : ldRow8 t + 32 ≤ 264 := by
  have : t.val < 8 := t.isLt.trans_eq trips4; rw [ldRow8_eq]; omega
theorem chRow_le (t : Fin k0_t5_loop.trips) : chRow t + 32 ≤ 256 := by rw [chRow_eq]; omega
theorem chRow_le' (t : Fin k0_t5_loop.trips) : chRow t + 32 ≤ 264 := by have := chRow_le t; omega
theorem xRow_le (t : Fin k0_t5_loop.trips) (j : Fin 4) : xRow t (BitVec.ofNat 32 j.val) + 32 ≤ 264 := by
  rw [xRow_eq]; omega
theorem zRow_le (t : Fin k0_t5_loop.trips) (j : Fin 4) : zRow t (BitVec.ofNat 32 j.val) + 32 ≤ 264 := by
  rw [zRow_eq]; omega

theorem grp {g : ℕ} (h : g < 20) : g + 1 ≤ 20 := h
theorem col {g : ℕ} (h : g < 20) : 128 * g + 128 ≤ 2560 := by omega

/-- A chunk's rows of the dx block are whole words. -/
theorem chRow_packed (t : Fin k0_t5_loop.trips) {g : ℕ} (h : g < 20) :
    (Rect.unit (s := S1x256x2560) ![0, chRow t, 128 * g] S1x32x128.size
      (inb3 (by decide) (chRow_le t) (col h))).PackedRows (EltTy.packing .bf16) := by
  refine .inr ⟨by decide, rfl, .inl ⟨?_, ⟨16, rfl⟩⟩⟩
  show EltTy.packing .bf16 ∣ chRow t
  rw [chRow_eq]
  exact ⟨16 * (7 - t.val), by show _ = 2 * _; omega⟩

/-! ## Values -/

/-- The f32 constants 0, 1, 1/2. -/
abbrev c0 : F .f32 := Scalar.ofBits .f32 0x00000000#32
abbrev c1 : F .f32 := Scalar.ofBits .f32 0x3F800000#32
abbrev cHalf : F .f32 := Scalar.ofBits .f32 0x3F000000#32

/-- A row of 128 channels along 32 rows. -/
def bc (p : Vec F S1x128 .f32) : FVec F S32x128 .f32 :=
  broadcastTo S32x128 (shapeCast S1x128 p shapeCasts_S1x128_S1x128) broadcasts_S1x128_S32x128

abbrev flat {e : EltTy} (x : Vec F S1x32x128 e) : Vec F S32x128 e := shapeCast S32x128 x shapeCasts_S1x32x128_S32x128
abbrev unflat {e : EltTy} (x : Vec F S32x128 e) : Vec F S1x32x128 e := shapeCast S1x32x128 x shapeCasts_S32x128_S1x32x128

/-- Half the convolution's value: the four taps and the bias, their weights halved. -/
def hOf (p3 p4 p2 p1 p0 : Vec F S1x128 .f32) (x0 x1 x2 x3 : FVec F S32x128 .f32) : FVec F S32x128 .f32 :=
  addf (addf (addf (addf (mulf (bc p3) x0) (bc p4)) (mulf (bc p2) x1)) (mulf (bc p1) x2)) (mulf (bc p0) x3)

/-- The gradient at the convolution's value from half that value `h`, the cotangent `dy` and half its scale. -/
def dzOf (h : FVec F S32x128 .f32) (dy : Vec F S1x32x128 .fp8e5m2) (sc : Vec F S32x128 .f32) : FVec F S32x128 .f32 :=
  mulf (mulf (extf .f32 (flat dy) bitsLt_fp8e5m2_f32) sc)
    (addf (addf (broadcast S32x128 c1) (tanh h)) (mulf h (subf (broadcast S32x128 c1) (mulf (tanh h) (tanh h)))))

/-- Thirty-two rows folded to eight. -/
def fold8 (v : FVec F S32x128 .f32) : FVec F S8x128 .f32 :=
  addf (addf (addf (extractStridedSlice S8x128 ![0, 0] v slices_S32x128_o0_0_S8x128)
    (extractStridedSlice S8x128 ![8, 0] v slices_S32x128_o8_0_S8x128))
    (extractStridedSlice S8x128 ![16, 0] v slices_S32x128_o16_0_S8x128))
    (extractStridedSlice S8x128 ![24, 0] v slices_S32x128_o24_0_S8x128)

/-- One accumulator with a chunk's rows added. -/
def accOf (a : Vec F S1x1x8x128 .f32) (v : FVec F S32x128 .f32) : FVec F S1x1x8x128 .f32 :=
  shapeCast S1x1x8x128 (addf (shapeCast S8x128 a shapeCasts_S1x1x8x128_S8x128) (fold8 v)) shapeCasts_S8x128_S1x1x8x128

/-- What a chunk keeps of a neighbouring row's value: tap 1, 2, 3 of x behind it, of dz ahead of it. -/
structure Masks (F : FTy → Type) [FloatOps F] where
  x1 : FVec F S32x128 .f32 → FVec F S32x128 .f32
  x2 : FVec F S32x128 .f32 → FVec F S32x128 .f32
  x3 : FVec F S32x128 .f32 → FVec F S32x128 .f32
  z1 : FVec F S32x128 .f32 → FVec F S32x128 .f32
  z2 : FVec F S32x128 .f32 → FVec F S32x128 .f32
  z3 : FVec F S32x128 .f32 → FVec F S32x128 .f32

/-- A chunk with no boundary near keeps everything. -/
def Masks.all : Masks F := ⟨id, id, id, id, id, id⟩

/-- The masks of a chunk from the keep rows around it: `km2 … k3` begin 2 rows behind … 3 rows ahead. -/
def Masks.of (km2 km1 k0 k1 k2 k3 : FVec F S32x128 .f32) : Masks F where
  x1 := fun x => mulf x k0
  x2 := fun x => mulf x (mulf k0 km1)
  x3 := fun x => mulf x (mulf (mulf k0 km1) km2)
  z1 := fun z => mulf z k1
  z2 := fun z => mulf z (mulf k1 k2)
  z3 := fun z => mulf z (mulf (mulf k1 k2) k3)

/-! ## Programs -/

section progs
variable (R : Refs)

/-- One row of 128 channels of the parameters. -/
def paramP (k : ℕ) (hk : k + 1 ≤ 16) (g : ℕ) (h : g < 20) : P F (Vec F S1x128 .f32) :=
  Prog.lift (.load R.arg9 (Rect.unit (s := S16x2560) ![k, 128 * g] S1x128.size (inb2 hk (col h))).toLoadRect (View.loadsAt_vmem h_S1x128))

/-- A chunk's tap of the x scratch. -/
def xTapP (t : Fin k0_t5_loop.trips) (j : Fin 4) (g : ℕ) (h : g < 20) : P F (Vec F S1x32x128 .f32) :=
  Prog.lift (.load R.arg12 (Rect.unit (s := S20x264x128) ![g, xRow t (BitVec.ofNat 32 j.val), 0] S1x32x128.size
    (inb3 (grp h) (xRow_le t j) (by decide))).toLoadRect (View.loadsAt_vmem h_S1x32x128))

/-- A chunk's tap of the dz scratch. -/
def zTapP (t : Fin k0_t5_loop.trips) (j : Fin 4) (g : ℕ) (h : g < 20) : P F (Vec F S1x32x128 .f32) :=
  Prog.lift (.load R.arg13 (Rect.unit (s := S20x264x128) ![g, zRow t (BitVec.ofNat 32 j.val), 0] S1x32x128.size
    (inb3 (grp h) (zRow_le t j) (by decide))).toLoadRect (View.loadsAt_vmem h_S1x32x128))

/-- Accumulator `k` of a group takes a chunk's rows. -/
def accP (k : ℕ) (hk : k + 1 ≤ 5) (g : ℕ) (h : g < 20) (v : FVec F S32x128 .f32) : P F PUnit := do
  let a : Vec F S1x1x8x128 .f32 ← Prog.lift (.load R.arg17 (Rect.unit (s := S20x5x8x128) ![g, k, 0, 0] S1x1x8x128.size
    (inb4 (grp h) hk (by decide) (by decide))).toLoadRect (View.loadsAt_vmem h_S1x1x8x128))
  let _ : Vec F S1x1x8x128 .f32 ← Prog.lift (.load R.arg17 (Rect.unit (s := S20x5x8x128) ![g, k, 0, 0] S1x1x8x128.size
    (inb4 (grp h) hk (by decide) (by decide))).toLoadRect (View.loadsAt_vmem h_S1x1x8x128))
  Prog.lift (.store R.arg17 (Rect.unit (s := S20x5x8x128) ![g, k, 0, 0] S1x1x8x128.size (inb4 (grp h) hk (by decide) (by decide)))
    (accOf a v) Finset.univ (View.stores_vmem_bits_univ h_S1x1x8x128 rfl) (.inl rfl))

/-- One chunk of one group: dz from the taps, the accumulators, dx. -/
def groupP (t : Fin k0_t5_loop.trips) (sc : Vec F S32x128 .f32) (M : Masks F) (g : ℕ) (h : g < 20) : P F PUnit := do
  let a0 ← xTapP R t 0 g h
  let a1 ← xTapP R t 1 g h
  let a2 ← xTapP R t 2 g h
  let a3 ← xTapP R t 3 g h
  let p3 ← paramP R 3 (by decide) g h
  let p4 ← paramP R 4 (by decide) g h
  let p2 ← paramP R 2 (by decide) g h
  let p1 ← paramP R 1 (by decide) g h
  let p0 ← paramP R 0 (by decide) g h
  let dy : Vec F S1x32x128 .fp8e5m2 ← Prog.lift (.load R.arg7 (Rect.unit (s := S1x256x2560) ![0, chRow t, 128 * g] S1x32x128.size
    (inb3 (by decide) (chRow_le t) (col h))).toLoadRect (View.loadsAt_vmem h_S1x32x128))
  let _ : Vec F S1x32x128 .f32 ← Prog.lift (.load R.arg13 (Rect.unit (s := S20x264x128) ![g, chRow t, 0] S1x32x128.size
    (inb3 (grp h) (chRow_le' t) (by decide))).toLoadRect (View.loadsAt_vmem h_S1x32x128))
  Prog.lift (.store R.arg13 (Rect.unit (s := S20x264x128) ![g, chRow t, 0] S1x32x128.size (inb3 (grp h) (chRow_le' t) (by decide)))
    (unflat (dzOf (hOf p3 p4 p2 p1 p0 (flat a0) (M.x1 (flat a1)) (M.x2 (flat a2)) (M.x3 (flat a3))) dy sc))
    Finset.univ (View.stores_vmem_bits_univ h_S1x32x128 rfl) (.inl rfl))
  let dz : FVec F S32x128 .f32 := dzOf (hOf p3 p4 p2 p1 p0 (flat a0) (M.x1 (flat a1)) (M.x2 (flat a2)) (M.x3 (flat a3))) dy sc
  accP R 3 (by decide) g h (mulf dz (flat a0))
  accP R 2 (by decide) g h (mulf dz (M.x1 (flat a1)))
  accP R 1 (by decide) g h (mulf dz (M.x2 (flat a2)))
  accP R 0 (by decide) g h (mulf dz (M.x3 (flat a3)))
  accP R 4 (by decide) g h dz
  let w0 ← paramP R 11 (by decide) g h
  let z1 ← zTapP R t 1 g h
  let w1 ← paramP R 10 (by decide) g h
  let z2 ← zTapP R t 2 g h
  let w2 ← paramP R 9 (by decide) g h
  let z3 ← zTapP R t 3 g h
  let w3 ← paramP R 8 (by decide) g h
  let _ : Vec F S1x32x128 .bf16 ← Prog.lift (.load R.arg10 (Rect.unit (s := S1x256x2560) ![0, chRow t, 128 * g] S1x32x128.size
    (inb3 (by decide) (chRow_le t) (col h))).toLoadRect (View.loadsAt_vmem h_S1x32x128))
  Prog.lift (.store R.arg10 (Rect.unit (s := S1x256x2560) ![0, chRow t, 128 * g] S1x32x128.size (inb3 (by decide) (chRow_le t) (col h)))
    (unflat (truncf .bf16 (addf (addf (addf (mulf (bc w0) dz) (mulf (bc w1) (M.z1 (flat z1)))) (mulf (bc w2) (M.z2 (flat z2))))
      (mulf (bc w3) (M.z3 (flat z3)))) bitsLt_bf16_f32))
    Finset.univ (View.stores_vmem h_S1x32x128 (R.harg10.storeExact_slice rfl _ (chRow_packed t h)) (fun _ => rfl)) (.inl rfl))

/-- A program per group, group by group from `g` on. -/
def groups (f : (g : ℕ) → g < 20 → P F PUnit) : (k g : ℕ) → k + g = 20 → P F PUnit
  | 0, _, _ => pure ⟨⟩
  | k + 1, g, e => do f g (by omega); groups f k (g + 1) (by omega)

/-- A program for each of the twenty groups. -/
def eachGroup (f : (g : ℕ) → g < 20 → P F PUnit) : P F PUnit := groups f 20 0 rfl

/-- Rows of the keep scratch around a chunk. -/
def keepP (i : grid0.Coords) (t : Fin k0_t5_loop.trips) (c : BitVec 32)
    (hr : ∀ a, (k0_off50 i t c) a + S32x128.size a ≤ S16512x128.size a) : P F (Vec F S32x128 .f32) :=
  Prog.lift (.load R.arg14 (Rect.unit (s := S16512x128) (k0_off50 i t c) S32x128.size hr).toLoadRect (View.loadsAt_vmem h_S32x128))

/-- Half the cotangent's scale along a chunk. -/
def scaleP (t : Fin k0_t5_loop.trips) : P F (Vec F S32x128 .f32) :=
  Prog.lift (.load R.arg16 (Rect.unit (s := S256x128) ![chRow t, 0] S32x128.size (inb2 (chRow_le t) (by decide))).toLoadRect (View.loadsAt_vmem h_S32x128))

/-- A chunk near a document boundary. -/
def maskedP (i : grid0.Coords) (t : Fin k0_t5_loop.trips) : P F PUnit := do
  let sc ← scaleP R t
  let km2 ← keepP R i t 4294967294#32 (k0_off50_inb i t 0)
  let km1 ← keepP R i t 4294967295#32 (k0_off50_inb i t 1)
  let k0 ← keepP R i t 0#32 (k0_off50_inb i t 2)
  let k1 ← keepP R i t 1#32 (k0_off50_inb i t 3)
  let k2 ← keepP R i t 2#32 (k0_off50_inb i t 4)
  let k3 ← keepP R i t 3#32 (k0_off50_inb i t 5)
  eachGroup (groupP R t sc (Masks.of km2 km1 k0 k1 k2 k3))

/-- A chunk with no boundary near. -/
def plainP (t : Fin k0_t5_loop.trips) : P F PUnit := do
  let sc ← scaleP R t
  eachGroup (groupP R t sc Masks.all)

/-- One group of a chunk of x, scaled, into its scratch. -/
def loadGroupP (t : Fin k0_t4_loop.trips) (sc : Vec F S32x128 .f32) (g : ℕ) (h : g < 20) : P F PUnit := do
  let x : Vec F S1x32x128 .fp8e4m3 ← Prog.lift (.load R.arg3 (Rect.unit (s := S1x256x2560) ![0, ldRow t, 128 * g] S1x32x128.size
    (inb3 (by decide) (ldRow_le t) (col h))).toLoadRect (View.loadsAt_vmem h_S1x32x128))
  let _ : Vec F S1x32x128 .f32 ← Prog.lift (.load R.arg12 (Rect.unit (s := S20x264x128) ![g, ldRow8 t, 0] S1x32x128.size
    (inb3 (grp h) (ldRow8_le t) (by decide))).toLoadRect (View.loadsAt_vmem h_S1x32x128))
  Prog.lift (.store R.arg12 (Rect.unit (s := S20x264x128) ![g, ldRow8 t, 0] S1x32x128.size (inb3 (grp h) (ldRow8_le t) (by decide)))
    (unflat (mulf (extf .f32 (flat x) bitsLt_fp8e4m3_f32) sc)) Finset.univ (View.stores_vmem_bits_univ h_S1x32x128 rfl) (.inl rfl))

/-- A chunk of x, scaled, into its scratch. -/
def loadP (t : Fin k0_t4_loop.trips) : P F PUnit := do
  let sc : Vec F S32x128 .f32 ← Prog.lift (.load R.arg15 (Rect.unit (s := S264x128) ![ldRow8 t, 0] S32x128.size
    (inb2 (ldRow8_le t) (by decide))).toLoadRect (View.loadsAt_vmem h_S32x128))
  eachGroup (loadGroupP R t sc)

/-- One group of the eight rows of x before the block. -/
def prevGroupP (sc : Vec F S8x128 .f32) (g : ℕ) (h : g < 20) : P F PUnit := do
  let x : Vec F S1x32x128 .fp8e4m3 ← Prog.lift (.load R.arg4 (Rect.unit (s := S1x32x2560) ![0, 0, 128 * g] S1x32x128.size
    (inb3 (by decide) (by decide) (col h))).toLoadRect (View.loadsAt_vmem h_S1x32x128))
  let _ : Vec F S1x8x128 .f32 ← Prog.lift (.load R.arg12 (Rect.unit (s := S20x264x128) ![g, 0, 0] S1x8x128.size
    (inb3 (grp h) (by decide) (by decide))).toLoadRect (View.loadsAt_vmem h_S1x8x128))
  Prog.lift (.store R.arg12 (Rect.unit (s := S20x264x128) ![g, 0, 0] S1x8x128.size (inb3 (grp h) (by decide) (by decide)))
    (shapeCast S1x8x128 (mulf (extractStridedSlice S8x128 ![24, 0] (extf .f32 (flat x) bitsLt_fp8e4m3_f32 : FVec F S32x128 .f32) slices_S32x128_o24_0_S8x128) sc)
      shapeCasts_S8x128_S1x8x128) Finset.univ (View.stores_vmem_bits_univ h_S1x8x128 rfl) (.inl rfl))

/-- Accumulator `k` of a group summed over its eight rows into row `k` of the sums. -/
def redRowP (k : ℕ) (hk : k + 1 ≤ 5) (g : ℕ) (h : g < 20) : P F PUnit := do
  let a : Vec F S1x1x8x128 .f32 ← Prog.lift (.load R.arg17 (Rect.unit (s := S20x5x8x128) ![g, k, 0, 0] S1x1x8x128.size
    (inb4 (grp h) hk (by decide) (by decide))).toLoadRect (View.loadsAt_vmem h_S1x1x8x128))
  let _ : Vec F S1x128 .f32 ← Prog.lift (.load R.arg11 (Rect.unit (s := S8x2560) ![k, 128 * g] S1x128.size
    (inb2 (by omega) (col h))).toLoadRect (View.loadsAt_vmem h_S1x128))
  Prog.lift (.store R.arg11 (Rect.unit (s := S8x2560) ![k, 128 * g] S1x128.size (inb2 (by omega) (col h)))
    (shapeCast S1x128 (multiReduction .add [0] S128 (shapeCast S8x128 a shapeCasts_S1x1x8x128_S8x128) 0x00000000#32 reduces_S8x128_S128 (.inl rfl) rfl : FVec F S128 .f32)
      shapeCasts_S128_S1x128) Finset.univ (View.stores_vmem_bits_univ h_S1x128 rfl) (.inl rfl))

/-- One group of the sums: five rows, and three of zeros. -/
def redGroupP (g : ℕ) (h : g < 20) : P F PUnit := do
  redRowP R 0 (by decide) g h
  redRowP R 1 (by decide) g h
  redRowP R 2 (by decide) g h
  redRowP R 3 (by decide) g h
  redRowP R 4 (by decide) g h
  let _ : Vec F S3x128 .f32 ← Prog.lift (.load R.arg11 (Rect.unit (s := S8x2560) ![5, 128 * g] S3x128.size
    (inb2 (by decide) (col h))).toLoadRect (View.loadsAt_vmem h_S3x128))
  Prog.lift (.store R.arg11 (Rect.unit (s := S8x2560) ![5, 128 * g] S3x128.size (inb2 (by decide) (col h)))
    (broadcast S3x128 c0) Finset.univ (View.stores_vmem_bits_univ h_S3x128 rfl) (.inl rfl))

/-- The flags are cleared one by one. -/
def clearFlagP (i : grid0.Coords) (h : k0_cond2 i = 1#1) (t : Fin k0_t1_loop.trips) : P F PUnit := do
  let _ : Elt F .i32 ← smemLoad R.arg18 (Rect.unit (s := S514) (k0_off1 t) S1.size (k0_off1_inb i t h)) numel1_S1 rfl
  Prog.lift (.store R.arg18 (Rect.unit (s := S514) (k0_off1 t) S1.size (k0_off1_inb i t h)) (fun _ => (0#32 : BitVec 32)) Finset.univ
    (View.stores_smem_one rfl numel1_S1) (.inl rfl))

/-- The keep rows are set to one, 128 rows at a time. -/
def clearKeepP (i : grid0.Coords) (h : k0_cond2 i = 1#1) (t : Fin k0_t2_loop.trips) : P F PUnit := do
  let _ : Vec F S128x128 .f32 ← Prog.lift (.load R.arg14 (Rect.unit (s := S16512x128) (k0_off2 t) S128x128.size (k0_off2_inb i t h)).toLoadRect
    (View.loadsAt_vmem h_S128x128))
  Prog.lift (.store R.arg14 (Rect.unit (s := S16512x128) (k0_off2 t) S128x128.size (k0_off2_inb i t h))
    (shapeCast S128x128 (broadcast S128x128 (c1 : F .f32)) shapeCasts_S128x128_S128x128)
    Finset.univ (View.stores_vmem_bits_univ h_S128x128 rfl) (.inl rfl))

/-- A flag is set. -/
def setFlagP (off : Fin S514.rank → ℕ) (hr : ∀ a, off a + S1.size a ≤ S514.size a) : P F PUnit := do
  let _ : Elt F .i32 ← smemLoad R.arg18 (Rect.unit (s := S514) off S1.size hr) numel1_S1 rfl
  Prog.lift (.store R.arg18 (Rect.unit (s := S514) off S1.size hr) (fun _ => (1#32 : BitVec 32)) Finset.univ
    (View.stores_smem_one rfl numel1_S1) (.inl rfl))

/-- One document boundary: its keep row becomes zero, the flags of the chunks that look across it are set. -/
def markP (i : grid0.Coords) (h : k0_cond2 i = 1#1) (t : Fin k0_t3_loop.trips) : P F PUnit := do
  let c : Elt F .i32 ← smemLoad R.arg2 (Rect.unit (s := S128) (k0_off3 i t) S1.size (k0_off3_inb i t h)) numel1_S1 rfl
  let hw ← Prog.lift (.assume (k0_chk1 i c) (k0_chk1.dec i c))
  let _ : Vec F S1x128 .f32 ← Prog.lift (.load R.arg14 (Rect.unit (s := S16512x128) (k0_off4 c) S1x128.size (k0_off4_inb i c hw.down h)).toLoadRect
    (View.loadsAt_vmem h_S1x128))
  Prog.lift (.store R.arg14 (Rect.unit (s := S16512x128) (k0_off4 c) S1x128.size (k0_off4_inb i c hw.down h))
    (shapeCast S1x128 (broadcast S1x128 (c0 : F .f32)) shapeCasts_S1x128_S1x128)
    Finset.univ (View.stores_vmem_bits_univ h_S1x128 rfl) (.inl rfl))
  setFlagP R (k0_off5 c) (k0_off5_inb i c hw.down h)
  setFlagP R (k0_off6 c) (k0_off6_inb i c hw.down h)

/-- Blocks left before this one in its row. -/
def blkOf (i : grid0.Coords) : BitVec 32 := Scalar.subi 63#32 (BitVec.ofNat 32 (i 1).val)

/-- The accumulators become zero. -/
def resetAccP : P F PUnit := do
  let _ : Vec F S20x5x8x128 .f32 ← Prog.lift (.load R.arg17 (Rect.unit (s := S20x5x8x128) ![0, 0, 0, 0] S20x5x8x128.size
    inb_S20x5x8x128_S20x5x8x128_0_0_0_0).toLoadRect (View.loadsAt_vmem h_S20x5x8x128))
  Prog.lift (.store R.arg17 (Rect.unit (s := S20x5x8x128) ![0, 0, 0, 0] S20x5x8x128.size inb_S20x5x8x128_S20x5x8x128_0_0_0_0)
    (shapeCast S20x5x8x128 (broadcast S20x5x8x128 (c0 : F .f32)) shapeCasts_S20x5x8x128_S20x5x8x128)
    Finset.univ (View.stores_vmem_bits_univ h_S20x5x8x128 rfl) (.inl rfl))
  pure ⟨⟩

/-- The eight rows behind the block's end, in the dz scratch. -/
def putTailP (v : Vec F S20x8x128 .f32) : P F PUnit := do
  let _ : Vec F S20x8x128 .f32 ← Prog.lift (.load R.arg13 (Rect.unit (s := S20x264x128) ![0, 256, 0] S20x8x128.size
    inb_S20x264x128_S20x8x128_0_256_0).toLoadRect (View.loadsAt_vmem h_S20x8x128))
  Prog.lift (.store R.arg13 (Rect.unit (s := S20x264x128) ![0, 256, 0] S20x8x128.size inb_S20x264x128_S20x8x128_0_256_0)
    (shapeCast S20x8x128 v shapeCasts_S20x8x128_S20x8x128) Finset.univ (View.stores_vmem_bits_univ h_S20x8x128 rfl) (.inl rfl))

/-- The next block's first eight rows of dz become the rows behind this block's end. -/
def carryP : P F PUnit := do
  let v : Vec F S20x8x128 .f32 ← Prog.lift (.load R.arg13 (Rect.unit (s := S20x264x128) ![0, 0, 0] S20x8x128.size
    inb_S20x264x128_S20x8x128_0_0_0).toLoadRect (View.loadsAt_vmem h_S20x8x128))
  putTailP R v
  pure ⟨⟩

/-- A row of 128 scales turned into a column, along 128 lanes. -/
def upright (v : FVec F S1x128 .f32) : FVec F S128x128 .f32 :=
  transpose S128x128 [1, 0] (broadcastTo S128x128 (shapeCast S1x128 v shapeCasts_S1x128_S1x128) broadcasts_S1x128_S128x128)
    transposes_S128x128_p1_0_S128x128

/-- The scales of x of one half of the block, upright. -/
def scaleXP (r o : ℕ) (hr : r + 1 ≤ 2) (ho : o + 128 ≤ 264) : P F PUnit := do
  let v : Vec F S1x1x1x128 .f32 ← Prog.lift (.load R.arg5 (Rect.unit (s := S1x1x2x128) ![0, 0, r, 0] S1x1x1x128.size
    (inb4 (by decide) (by decide) hr (by decide))).toLoadRect (View.loadsAt_vmem h_S1x1x1x128))
  let _ : Vec F S128x128 .f32 ← Prog.lift (.load R.arg15 (Rect.unit (s := S264x128) ![o, 0] S128x128.size (inb2 ho (by decide))).toLoadRect
    (View.loadsAt_vmem h_S128x128))
  Prog.lift (.store R.arg15 (Rect.unit (s := S264x128) ![o, 0] S128x128.size (inb2 ho (by decide)))
    (shapeCast S128x128 (upright (shapeCast S1x128 v shapeCasts_S1x1x1x128_S1x128)) shapeCasts_S128x128_S128x128)
    Finset.univ (View.stores_vmem_bits_univ h_S128x128 rfl) (.inl rfl))

/-- Half the scales of dy of one half of the block, upright. -/
def scaleDyP (r o : ℕ) (hr : r + 1 ≤ 2) (ho : o + 128 ≤ 256) : P F PUnit := do
  let v : Vec F S1x1x1x128 .f32 ← Prog.lift (.load R.arg8 (Rect.unit (s := S1x1x2x128) ![0, 0, r, 0] S1x1x1x128.size
    (inb4 (by decide) (by decide) hr (by decide))).toLoadRect (View.loadsAt_vmem h_S1x1x1x128))
  let _ : Vec F S128x128 .f32 ← Prog.lift (.load R.arg16 (Rect.unit (s := S256x128) ![o, 0] S128x128.size (inb2 ho (by decide))).toLoadRect
    (View.loadsAt_vmem h_S128x128))
  Prog.lift (.store R.arg16 (Rect.unit (s := S256x128) ![o, 0] S128x128.size (inb2 ho (by decide)))
    (shapeCast S128x128 (upright (mulf (broadcast S1x128 (cHalf : F .f32)) (shapeCast S1x128 v shapeCasts_S1x1x1x128_S1x128)))
      shapeCasts_S128x128_S128x128)
    Finset.univ (View.stores_vmem_bits_univ h_S128x128 rfl) (.inl rfl))

/-- The scales of the eight rows of x before the block; zero before the first block. -/
def scalePrevP (blk : BitVec 32) : P F (Vec F S8x128 .f32) := do
  let v : Vec F S1x1x1x128 .f32 ← Prog.lift (.load R.arg6 (Rect.unit (s := S1x1x2x128) ![0, 0, 1, 0] S1x1x1x128.size
    inb_S1x1x2x128_S1x1x1x128_0_0_1_0).toLoadRect (View.loadsAt_vmem h_S1x1x1x128))
  let _ : Vec F S8x128 .f32 ← Prog.lift (.load R.arg15 (Rect.unit (s := S264x128) ![0, 0] S8x128.size inb_S264x128_S8x128_0_0).toLoadRect
    (View.loadsAt_vmem h_S8x128))
  Prog.lift (.store R.arg15 (Rect.unit (s := S264x128) ![0, 0] S8x128.size inb_S264x128_S8x128_0_0)
    (shapeCast S8x128 (Scalar.select (Scalar.cmpi .sgt blk 0#32)
      (extractStridedSlice S8x128 ![120, 0] (upright (shapeCast S1x128 v shapeCasts_S1x1x1x128_S1x128) : FVec F S128x128 .f32) slices_S128x128_o120_0_S8x128)
      (broadcast S8x128 (c0 : F .f32)) : FVec F S8x128 .f32) shapeCasts_S8x128_S8x128)
    Finset.univ (View.stores_vmem_bits_univ h_S8x128 rfl) (.inl rfl))
  Prog.lift (.load R.arg15 (Rect.unit (s := S264x128) ![0, 0] S8x128.size inb_S264x128_S8x128_0_0).toLoadRect (View.loadsAt_vmem h_S8x128))

/-- One chunk of the main loop: masked where its flag is set. -/
def chunkP (i : grid0.Coords) (t : Fin k0_t5_loop.trips) : P F PUnit := do
  let v : Elt F .i32 ← smemLoad R.arg18 (Rect.unit (s := S514) (k0_off48 i t) S1.size (k0_off48_inb i t)) numel1_S1 rfl
  if Scalar.cmpi .ne (Scalar.extui (Scalar.cmpi .ne v 0#32) : BitVec 32) 0#32 = 1#1 then do
    maskedP R i t
  else do
    pure ⟨⟩
  if Scalar.cmpi .ne (Scalar.extui (Scalar.xori (Scalar.cmpi .ne v 0#32) 1#1) : BitVec 32) 0#32 = 1#1 then do
    plainP R t
  else do
    pure ⟨⟩
  pure ⟨⟩

/-- The body up to the first half's scales. Its value: the grid point's words, the block's number and first row. -/
def headP (i : grid0.Coords) : P F (Σ' (_ : BitVec 32) (_ : BitVec 32) (_ : BitVec 32), BitVec 32) := do
  if _h : Scalar.cmpi .ne (Scalar.extui (Scalar.andi (Scalar.cmpi .eq (BitVec.ofNat 32 (i 0).val) 0#32)
      (Scalar.cmpi .eq (BitVec.ofNat 32 (i 1).val) 0#32)) : BitVec 32) 0#32 = 1#1 then do
    resetAccP R
  else do
    pure ⟨⟩
  if h : k0_cond2 i = 1#1 then do
    putTailP R (broadcast S20x8x128 (c0 : F .f32))
    Scf.Loop.for k0_t1_loop (k0_t1_ok i h) ⟨⟩ fun t _ => clearFlagP R i h t
    Scf.Loop.for k0_t2_loop (k0_t2_ok i h) ⟨⟩ fun t _ => clearKeepP R i h t
    Scf.Loop.for k0_t3_loop (k0_t3_ok i h) ⟨⟩ fun t _ => markP R i h t
    pure ⟨⟩
  else do
    pure ⟨⟩
  if _h : Scalar.cmpi .ne (Scalar.extui (Scalar.cmpi .sgt (BitVec.ofNat 32 (i 1).val) 0#32) : BitVec 32) 0#32 = 1#1 then do
    carryP R
  else do
    pure ⟨⟩
  scaleXP R 0 8 (by decide) (by decide)
  scaleDyP R 0 0 (by decide) (by decide)
  pure ⟨BitVec.ofNat 32 (i 0).val, BitVec.ofNat 32 (i 1).val, blkOf i, Scalar.muli (blkOf i) 256#32⟩

/-- The body of the kernel at grid point `i`. -/
def bodyP (i : grid0.Coords) : P F PUnit := do
  let ⟨_, _, blk, _⟩ ← headP R i
  scaleXP R 1 136 (by decide) (by decide)
  scaleDyP R 1 128 (by decide) (by decide)
  let sp ← scalePrevP R blk
  eachGroup (prevGroupP R sp)
  Scf.Loop.for k0_t4_loop k0_t4_ok ⟨⟩ fun t _ => loadP R t
  Scf.Loop.for k0_t5_loop k0_t5_ok ⟨⟩ fun t _ => chunkP R i t
  if _h : k0_cond6 i = 1#1 then do
    eachGroup (redGroupP R)
  else do
    pure ⟨⟩
  pure ⟨⟩

end progs

end Cert.KernelIdeal.Conv
-- ==== Proof.Sim.lean ====
/- Running a program of the kernel's core over contents. A grid point owns its buffers; what they hold is a pair of
   records, `In` (read only) and `St` (written). `Runs p st Post` says that from the contents `st` the program `p` is
   safe and ends with a value and contents of which `Post` holds. The rules below are those of the program's few
   operations, so that the modules after this one speak of contents alone. -/
module

public import proofs.«01_k».proof.Proof.Body
public import Idealize.ShloMosaic.Lib.VecWindow
public import Idealize.ShloMosaic.Lib.Exec.Geometry
public import Idealize.ShloMosaic.Lib.Memref
public import Idealize.ShloMosaic.Lib.Scf
public import Idealize.ShloMosaic.Rules.Step
public import Idealize.ShloMosaic.Lib.Pipeline.FrameSuffix
public import Idealize.ShloMosaic.Lib.Tactic

@[expose] public section

noncomputable section

namespace Cert.KernelIdeal.Conv

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts
open VecWindow (window put)

variable {F : FTy → Type} [FloatOps F]

local notation "𝕄" => MT nD τ sig Unit (Elt F) ℕ (UR sig nD τ) ℕ

/-- What the buffers hold that the body only reads. -/
structure In (F : FTy → Type) [FloatOps F] where
  cu : Vec F S128 .i32
  x : Vec F S1x256x2560 .fp8e4m3
  xp : Vec F S1x32x2560 .fp8e4m3
  sx : Vec F S1x1x2x128 .f32
  sxp : Vec F S1x1x2x128 .f32
  dy : Vec F S1x256x2560 .fp8e5m2
  sdy : Vec F S1x1x2x128 .f32
  par : Vec F S16x2560 .f32

/-- What the buffers hold that the body writes. -/
structure St (F : FTy → Type) [FloatOps F] where
  dx : Vec F S1x256x2560 .bf16
  red : Vec F S8x2560 .f32
  xs : Vec F S20x264x128 .f32
  dz : Vec F S20x264x128 .f32
  keep : Vec F S16512x128 .f32
  sx : Vec F S264x128 .f32
  sdy : Vec F S256x128 .f32
  acc : Vec F S20x5x8x128 .f32
  flag : Vec F S514 .i32

/-! The contents with one buffer's replaced. -/

abbrev St.setDx (st : St F) (v : Vec F S1x256x2560 .bf16) : St F := { st with dx := v }
abbrev St.setRed (st : St F) (v : Vec F S8x2560 .f32) : St F := { st with red := v }
abbrev St.setXs (st : St F) (v : Vec F S20x264x128 .f32) : St F := { st with xs := v }
abbrev St.setDz (st : St F) (v : Vec F S20x264x128 .f32) : St F := { st with dz := v }
abbrev St.setKeep (st : St F) (v : Vec F S16512x128 .f32) : St F := { st with keep := v }
abbrev St.setSx (st : St F) (v : Vec F S264x128 .f32) : St F := { st with sx := v }
abbrev St.setSdy (st : St F) (v : Vec F S256x128 .f32) : St F := { st with sdy := v }
abbrev St.setAcc (st : St F) (v : Vec F S20x5x8x128 .f32) : St F := { st with acc := v }
abbrev St.setFlag (st : St F) (v : Vec F S514 .i32) : St F := { st with flag := v }

section rules
variable (R : Refs) (c : Dev nD) (I : In F)

/-- The buffers read only; the table of boundaries at half a share. -/
def ownIn : sProp 𝕄 :=
  iprop(owns (c : Thread nD τ) R.arg2 fullShare.right I.cu ∗ owns (c : Thread nD τ) R.arg3 fullShare I.x ∗ owns (c : Thread nD τ) R.arg4 fullShare I.xp ∗ owns (c : Thread nD τ) R.arg5 fullShare I.sx ∗ owns (c : Thread nD τ) R.arg6 fullShare I.sxp ∗ owns (c : Thread nD τ) R.arg7 fullShare I.dy ∗ owns (c : Thread nD τ) R.arg8 fullShare I.sdy ∗ owns (c : Thread nD τ) R.arg9 fullShare I.par)

/-- The buffers written. -/
def ownSt (st : St F) : sProp 𝕄 :=
  iprop(owns (c : Thread nD τ) R.arg10 fullShare st.dx ∗ owns (c : Thread nD τ) R.arg11 fullShare st.red ∗ owns (c : Thread nD τ) R.arg12 fullShare st.xs ∗ owns (c : Thread nD τ) R.arg13 fullShare st.dz ∗ owns (c : Thread nD τ) R.arg14 fullShare st.keep ∗ owns (c : Thread nD τ) R.arg15 fullShare st.sx ∗ owns (c : Thread nD τ) R.arg16 fullShare st.sdy ∗ owns (c : Thread nD τ) R.arg17 fullShare st.acc ∗ owns (c : Thread nD τ) R.arg18 fullShare st.flag)

/-- All of them. -/
def own (st : St F) : sProp 𝕄 := iprop(ownIn R c I ∗ ownSt R c st)

theorem focusIn_cu (st : St F) : own R c I st ⊢ iprop(owns (c : Thread nD τ) R.arg2 fullShare.right I.cu ∗ (owns (c : Thread nD τ) R.arg2 fullShare.right I.cu -∗ own R c I st)) := by
  unfold own ownIn
  iintro ⟨⟨Harg2, Harg3, Harg4, Harg5, Harg6, Harg7, Harg8, Harg9⟩, HS⟩
  isplitl [Harg2]
  · iexact Harg2
  · iintro Harg2
    iframe Harg2 Harg3 Harg4 Harg5 Harg6 Harg7 Harg8 Harg9 HS
theorem focusIn_x (st : St F) : own R c I st ⊢ iprop(owns (c : Thread nD τ) R.arg3 fullShare I.x ∗ (owns (c : Thread nD τ) R.arg3 fullShare I.x -∗ own R c I st)) := by
  unfold own ownIn
  iintro ⟨⟨Harg2, Harg3, Harg4, Harg5, Harg6, Harg7, Harg8, Harg9⟩, HS⟩
  isplitl [Harg3]
  · iexact Harg3
  · iintro Harg3
    iframe Harg2 Harg3 Harg4 Harg5 Harg6 Harg7 Harg8 Harg9 HS
theorem focusIn_xp (st : St F) : own R c I st ⊢ iprop(owns (c : Thread nD τ) R.arg4 fullShare I.xp ∗ (owns (c : Thread nD τ) R.arg4 fullShare I.xp -∗ own R c I st)) := by
  unfold own ownIn
  iintro ⟨⟨Harg2, Harg3, Harg4, Harg5, Harg6, Harg7, Harg8, Harg9⟩, HS⟩
  isplitl [Harg4]
  · iexact Harg4
  · iintro Harg4
    iframe Harg2 Harg3 Harg4 Harg5 Harg6 Harg7 Harg8 Harg9 HS
theorem focusIn_sx (st : St F) : own R c I st ⊢ iprop(owns (c : Thread nD τ) R.arg5 fullShare I.sx ∗ (owns (c : Thread nD τ) R.arg5 fullShare I.sx -∗ own R c I st)) := by
  unfold own ownIn
  iintro ⟨⟨Harg2, Harg3, Harg4, Harg5, Harg6, Harg7, Harg8, Harg9⟩, HS⟩
  isplitl [Harg5]
  · iexact Harg5
  · iintro Harg5
    iframe Harg2 Harg3 Harg4 Harg5 Harg6 Harg7 Harg8 Harg9 HS
theorem focusIn_sxp (st : St F) : own R c I st ⊢ iprop(owns (c : Thread nD τ) R.arg6 fullShare I.sxp ∗ (owns (c : Thread nD τ) R.arg6 fullShare I.sxp -∗ own R c I st)) := by
  unfold own ownIn
  iintro ⟨⟨Harg2, Harg3, Harg4, Harg5, Harg6, Harg7, Harg8, Harg9⟩, HS⟩
  isplitl [Harg6]
  · iexact Harg6
  · iintro Harg6
    iframe Harg2 Harg3 Harg4 Harg5 Harg6 Harg7 Harg8 Harg9 HS
theorem focusIn_dy (st : St F) : own R c I st ⊢ iprop(owns (c : Thread nD τ) R.arg7 fullShare I.dy ∗ (owns (c : Thread nD τ) R.arg7 fullShare I.dy -∗ own R c I st)) := by
  unfold own ownIn
  iintro ⟨⟨Harg2, Harg3, Harg4, Harg5, Harg6, Harg7, Harg8, Harg9⟩, HS⟩
  isplitl [Harg7]
  · iexact Harg7
  · iintro Harg7
    iframe Harg2 Harg3 Harg4 Harg5 Harg6 Harg7 Harg8 Harg9 HS
theorem focusIn_sdy (st : St F) : own R c I st ⊢ iprop(owns (c : Thread nD τ) R.arg8 fullShare I.sdy ∗ (owns (c : Thread nD τ) R.arg8 fullShare I.sdy -∗ own R c I st)) := by
  unfold own ownIn
  iintro ⟨⟨Harg2, Harg3, Harg4, Harg5, Harg6, Harg7, Harg8, Harg9⟩, HS⟩
  isplitl [Harg8]
  · iexact Harg8
  · iintro Harg8
    iframe Harg2 Harg3 Harg4 Harg5 Harg6 Harg7 Harg8 Harg9 HS
theorem focusIn_par (st : St F) : own R c I st ⊢ iprop(owns (c : Thread nD τ) R.arg9 fullShare I.par ∗ (owns (c : Thread nD τ) R.arg9 fullShare I.par -∗ own R c I st)) := by
  unfold own ownIn
  iintro ⟨⟨Harg2, Harg3, Harg4, Harg5, Harg6, Harg7, Harg8, Harg9⟩, HS⟩
  isplitl [Harg9]
  · iexact Harg9
  · iintro Harg9
    iframe Harg2 Harg3 Harg4 Harg5 Harg6 Harg7 Harg8 Harg9 HS
theorem focus_dx (st : St F) : own R c I st ⊢ iprop(owns (c : Thread nD τ) R.arg10 fullShare st.dx ∗ ∀ v, owns (c : Thread nD τ) R.arg10 fullShare v -∗ own R c I (st.setDx v)) := by
  unfold own ownSt
  iintro ⟨HI, Harg10, Harg11, Harg12, Harg13, Harg14, Harg15, Harg16, Harg17, Harg18⟩
  isplitl [Harg10]
  · iexact Harg10
  · iintro %v Harg10
    iframe HI Harg10 Harg11 Harg12 Harg13 Harg14 Harg15 Harg16 Harg17 Harg18
theorem focus_red (st : St F) : own R c I st ⊢ iprop(owns (c : Thread nD τ) R.arg11 fullShare st.red ∗ ∀ v, owns (c : Thread nD τ) R.arg11 fullShare v -∗ own R c I (st.setRed v)) := by
  unfold own ownSt
  iintro ⟨HI, Harg10, Harg11, Harg12, Harg13, Harg14, Harg15, Harg16, Harg17, Harg18⟩
  isplitl [Harg11]
  · iexact Harg11
  · iintro %v Harg11
    iframe HI Harg10 Harg11 Harg12 Harg13 Harg14 Harg15 Harg16 Harg17 Harg18
theorem focus_xs (st : St F) : own R c I st ⊢ iprop(owns (c : Thread nD τ) R.arg12 fullShare st.xs ∗ ∀ v, owns (c : Thread nD τ) R.arg12 fullShare v -∗ own R c I (st.setXs v)) := by
  unfold own ownSt
  iintro ⟨HI, Harg10, Harg11, Harg12, Harg13, Harg14, Harg15, Harg16, Harg17, Harg18⟩
  isplitl [Harg12]
  · iexact Harg12
  · iintro %v Harg12
    iframe HI Harg10 Harg11 Harg12 Harg13 Harg14 Harg15 Harg16 Harg17 Harg18
theorem focus_dz (st : St F) : own R c I st ⊢ iprop(owns (c : Thread nD τ) R.arg13 fullShare st.dz ∗ ∀ v, owns (c : Thread nD τ) R.arg13 fullShare v -∗ own R c I (st.setDz v)) := by
  unfold own ownSt
  iintro ⟨HI, Harg10, Harg11, Harg12, Harg13, Harg14, Harg15, Harg16, Harg17, Harg18⟩
  isplitl [Harg13]
  · iexact Harg13
  · iintro %v Harg13
    iframe HI Harg10 Harg11 Harg12 Harg13 Harg14 Harg15 Harg16 Harg17 Harg18
theorem focus_keep (st : St F) : own R c I st ⊢ iprop(owns (c : Thread nD τ) R.arg14 fullShare st.keep ∗ ∀ v, owns (c : Thread nD τ) R.arg14 fullShare v -∗ own R c I (st.setKeep v)) := by
  unfold own ownSt
  iintro ⟨HI, Harg10, Harg11, Harg12, Harg13, Harg14, Harg15, Harg16, Harg17, Harg18⟩
  isplitl [Harg14]
  · iexact Harg14
  · iintro %v Harg14
    iframe HI Harg10 Harg11 Harg12 Harg13 Harg14 Harg15 Harg16 Harg17 Harg18
theorem focus_sx (st : St F) : own R c I st ⊢ iprop(owns (c : Thread nD τ) R.arg15 fullShare st.sx ∗ ∀ v, owns (c : Thread nD τ) R.arg15 fullShare v -∗ own R c I (st.setSx v)) := by
  unfold own ownSt
  iintro ⟨HI, Harg10, Harg11, Harg12, Harg13, Harg14, Harg15, Harg16, Harg17, Harg18⟩
  isplitl [Harg15]
  · iexact Harg15
  · iintro %v Harg15
    iframe HI Harg10 Harg11 Harg12 Harg13 Harg14 Harg15 Harg16 Harg17 Harg18
theorem focus_sdy (st : St F) : own R c I st ⊢ iprop(owns (c : Thread nD τ) R.arg16 fullShare st.sdy ∗ ∀ v, owns (c : Thread nD τ) R.arg16 fullShare v -∗ own R c I (st.setSdy v)) := by
  unfold own ownSt
  iintro ⟨HI, Harg10, Harg11, Harg12, Harg13, Harg14, Harg15, Harg16, Harg17, Harg18⟩
  isplitl [Harg16]
  · iexact Harg16
  · iintro %v Harg16
    iframe HI Harg10 Harg11 Harg12 Harg13 Harg14 Harg15 Harg16 Harg17 Harg18
theorem focus_acc (st : St F) : own R c I st ⊢ iprop(owns (c : Thread nD τ) R.arg17 fullShare st.acc ∗ ∀ v, owns (c : Thread nD τ) R.arg17 fullShare v -∗ own R c I (st.setAcc v)) := by
  unfold own ownSt
  iintro ⟨HI, Harg10, Harg11, Harg12, Harg13, Harg14, Harg15, Harg16, Harg17, Harg18⟩
  isplitl [Harg17]
  · iexact Harg17
  · iintro %v Harg17
    iframe HI Harg10 Harg11 Harg12 Harg13 Harg14 Harg15 Harg16 Harg17 Harg18
theorem focus_flag (st : St F) : own R c I st ⊢ iprop(owns (c : Thread nD τ) R.arg18 fullShare st.flag ∗ ∀ v, owns (c : Thread nD τ) R.arg18 fullShare v -∗ own R c I (st.setFlag v)) := by
  unfold own ownSt
  iintro ⟨HI, Harg10, Harg11, Harg12, Harg13, Harg14, Harg15, Harg16, Harg17, Harg18⟩
  isplitl [Harg18]
  · iexact Harg18
  · iintro %v Harg18
    iframe HI Harg10 Harg11 Harg12 Harg13 Harg14 Harg15 Harg16 Harg17 Harg18

variable (bd : Defs nD τ sig (Elt F) Λ₀) (vs : Variants)

/-- From the contents `st` the program is safe and ends at a value and contents of which `Post` holds. -/
def Runs {α : Type} (p : P F α) (st : St F) (Post : α → St F → Prop) : Prop :=
  ∀ Q : α → sProp 𝕄, (∀ a st', Post a st' → own R c I st' ⊢ Q a) →
    own R c I st ⊢ wp frame (wpE bd vs (c : Thread nD τ) none) Set.univ p Q

variable {R c I bd vs}
variable {α β : Type}

theorem Runs.ret {a : α} {st : St F} {Post : α → St F → Prop} (h : Post a st) : Runs R c I bd vs (pure a) st Post := by
  intro Q hQ
  rw [wp_pure]
  iintro H
  imodintro
  iapply (hQ a st h)
  iexact H

theorem Runs.bind {p : P F α} {k : α → P F β} {st : St F} {Post : β → St F → Prop}
    (h : Runs R c I bd vs p st fun a st' => Runs R c I bd vs (k a) st' Post) : Runs R c I bd vs (p >>= k) st Post := by
  intro Q hQ
  rw [wp_bind]
  exact h _ fun a st' h' => h' Q hQ

theorem Runs.mono {p : P F α} {st : St F} {Post Post' : α → St F → Prop} (h : Runs R c I bd vs p st Post)
    (hp : ∀ a st', Post a st' → Post' a st') : Runs R c I bd vs p st Post' :=
  fun Q hQ => h Q fun a st' h' => hQ a st' (hp a st' h')

/-- A load of a buffer whose contents are known. -/
theorem Runs.load {cs : CoreSpace} {s : Shape} {e : EltTy} {m : Memref sig .tc cs s e} {q : PosShare TreeShare} {X : s.Idx → Elt F e}
    {st : St F} (hf : own R c I st ⊢ iprop(owns (c : Thread nD τ) m q X ∗ (owns (c : Thread nD τ) m q X -∗ own R c I st)))
    {off size : Fin s.rank → ℕ} {inb : ∀ a, off a + size a ≤ s.size a} {hl : m.view.LoadsAt (Rect.unit off size inb).toLoadRect}
    {Post : ((Rect.unit off size inb).shape.Idx → Elt F e) → St F → Prop} (h : Post (window X off size inb) st) :
    Runs R c I bd vs (Prog.lift (.load m (Rect.unit off size inb).toLoadRect hl)) st Post := by
  intro Q hQ
  refine hf.trans ?_
  unfold owns
  iintro ⟨⟨%f, %hr, Hp⟩, Hk⟩
  iapply (wp_load (defs := bd) vs (c : Thread nD τ) none Set.univ (m := m) (r := (Rect.unit off size inb).toLoadRect) (hl := hl) (q := q) (f := f)
    (S := m.view.set) (Finset.map_subset_map.mpr (Finset.subset_univ _))) $$ Hp
  iintro Hp
  rw [show m.view.readAt (Elt F) (Rect.unit off size inb).toLoadRect f = window X off size inb from by
    rw [View.readAt_unit m.view f inb rfl inb, hr]]
  rw [wp_ret]
  imodintro
  iapply (hQ _ st h)
  iapply Hk
  iexists f
  isplitr
  · ipureintro; exact hr
  · iexact Hp

/-- A load whose value nothing needs. -/
theorem Runs.loadAny {cs : CoreSpace} {s : Shape} {e : EltTy} {m : Memref sig .tc cs s e} {q : PosShare TreeShare} {X : s.Idx → Elt F e}
    {st : St F} (hf : own R c I st ⊢ iprop(owns (c : Thread nD τ) m q X ∗ (owns (c : Thread nD τ) m q X -∗ own R c I st)))
    {off size : Fin s.rank → ℕ} {inb : ∀ a, off a + size a ≤ s.size a} {hl : m.view.LoadsAt (Rect.unit off size inb).toLoadRect}
    {Post : ((Rect.unit off size inb).shape.Idx → Elt F e) → St F → Prop} (h : ∀ v, Post v st) :
    Runs R c I bd vs (Prog.lift (.load m (Rect.unit off size inb).toLoadRect hl)) st Post :=
  Runs.load hf (h _)

/-- A written buffer is owned, and owned again at the same contents gives the whole back. -/
theorem keep_of {sp : Space} {s : Shape} {e : EltTy} {m : Memref sig .tc sp s e} {X : s.Idx → Elt F e} {P : sProp 𝕄}
    {G : (s.Idx → Elt F e) → sProp 𝕄} (hG : G X = P)
    (hf : P ⊢ iprop(owns (c : Thread nD τ) m fullShare X ∗ ∀ v, owns (c : Thread nD τ) m fullShare v -∗ G v)) :
    P ⊢ iprop(owns (c : Thread nD τ) m fullShare X ∗ (owns (c : Thread nD τ) m fullShare X -∗ P)) := by
  subst hG
  refine hf.trans ?_
  iintro ⟨H, Hk⟩
  isplitl [H]
  · iexact H
  · iintro H
    iapply Hk
    iexact H

/-- A store over a rectangle: the contents with the payload put there. -/
theorem Runs.store {cs : CoreSpace} {s : Shape} {e : EltTy} {m : Memref sig .tc cs s e} {X : s.Idx → Elt F e}
    {st : St F} {G : (s.Idx → Elt F e) → St F}
    (hf : own R c I st ⊢ iprop(owns (c : Thread nD τ) m fullShare X ∗ ∀ v, owns (c : Thread nD τ) m fullShare v -∗ own R c I (G v)))
    {off size : Fin s.rank → ℕ} {inb : ∀ a, off a + size a ≤ s.size a} {w : (Rect.unit off size inb).shape.Idx → Elt F e}
    {hx : (m.access (Rect.unit off size inb)).Stores Finset.univ} {hm}
    {Post : PUnit → St F → Prop} (h : Post ⟨⟩ (G (put X off size w))) :
    Runs R c I bd vs (Prog.lift (.store m (Rect.unit off size inb) w Finset.univ hx hm)) st Post := by
  intro Q hQ
  refine hf.trans ?_
  unfold owns
  iintro ⟨⟨%f, %hr, Hp⟩, Hk⟩
  iapply (wp_store (defs := bd) vs (c : Thread nD τ) none Set.univ (m := m) (r := Rect.unit off size inb) (w := w) (Mk := Finset.univ) (hx := hx) (hm := hm) (f := f)
    (S := m.view.set) (View.setOn_slice_subset_set m.view (Rect.unit off size inb) Finset.univ)) $$ Hp
  iintro Hp
  rw [wp_ret]
  imodintro
  iapply (hQ _ _ h)
  iapply Hk
  iexists ((m.access (Rect.unit off size inb)).write (Elt F) f w Finset.univ)
  isplitr
  · ipureintro
    have h1 := View.read_writes_cons_put (Val := Elt F) m.view f inb w [] rfl
    rw [View.writes_nil, hr] at h1
    exact h1
  · iexact Hp

/-- A load of one word of the scalar memory. -/
theorem Runs.word {s : Shape} {e : EltTy} {m : Memref sig .tc .smem s e} {q : PosShare TreeShare} {X : s.Idx → Elt F e}
    {st : St F} (hf : own R c I st ⊢ iprop(owns (c : Thread nD τ) m q X ∗ (owns (c : Thread nD τ) m q X -∗ own R c I st)))
    {off size : Fin s.rank → ℕ} {inb : ∀ a, off a + size a ≤ s.size a} {h1 : (Rect.unit off size inb).shape.numel = 1} {hp : e.packing = 1}
    {Post : Elt F e → St F → Prop} (h : Post (window X off size inb (Shape.Idx.first (h1.symm ▸ Nat.one_pos))) st) :
    Runs R c I bd vs (smemLoad m (Rect.unit off size inb) h1 hp) st Post := by
  have h2 : Runs R c I bd vs (Prog.lift (.load m (Rect.unit off size inb).toLoadRect (View.loadsAt_rect (View.loads_smem_one hp h1))) >>=
      fun f => (pure (f (Shape.Idx.first (h1.symm ▸ Nat.one_pos))) : P F (Elt F e))) st Post :=
    Runs.bind (Runs.load hf (Runs.ret h))
  exact h2

/-- An assertion that holds. -/
theorem Runs.assume {p : Prop} {d : Decidable p} {st : St F} {Post : PLift p → St F → Prop} (hp : p) (h : Post ⟨hp⟩ st) :
    Runs R c I bd vs (Prog.lift (.assume p d)) st Post := by
  intro Q hQ
  refine BIBase.Entails.trans ?_ (wp_assume (defs := bd) vs (c : Thread nD τ) none Set.univ (k := fun h => .ret h) hp)
  rw [wp_ret]
  iintro H
  imodintro
  iapply (hQ _ _ h)
  iexact H

/-- A counted loop, by an invariant of the contents. -/
theorem Runs.loop (l : Scf.Loop 32) (hok : l.OK) (body : Fin l.trips → P F PUnit) (Inv : ℕ → St F → Prop) {st : St F}
    (h0 : Inv 0 st) (hs : ∀ (k : Fin l.trips) (st : St F), Inv k.val st → Runs R c I bd vs (body k) st fun _ st' => Inv (k.val + 1) st')
    {Post : PUnit → St F → Prop} (hp : ∀ st', Inv l.trips st' → Post ⟨⟩ st') :
    Runs R c I bd vs (Scf.Loop.for l hok ⟨⟩ fun t _ => body t) st Post := by
  have key : ∀ (j k : ℕ) (_ : k + j = l.trips) (st : St F), Inv k st →
      Runs R c I bd vs (Scf.forFrom (fun (t : Fin l.trips) (_ : PUnit) => body t) ((List.finRange l.trips).drop k) ⟨⟩) st
        fun _ st' => Inv l.trips st' := by
    intro j
    induction j with
    | zero =>
      intro k hk st h
      rw [List.drop_of_length_le (by simp; omega), Scf.forFrom_nil]
      obtain rfl : k = l.trips := by omega
      exact Runs.ret h
    | succ j ih =>
      intro k hk st h
      have hlt : k < l.trips := by omega
      rw [List.drop_eq_getElem_cons (by simpa using hlt), List.getElem_finRange, Fin.cast_mk, Scf.forFrom_cons]
      exact Runs.bind ((hs ⟨k, hlt⟩ st h).mono fun _ st' h' => ih (k + 1) (by omega) st' h')
  have h := key l.trips 0 (by omega) st h0
  rw [List.drop_zero] at h
  show Runs R c I bd vs (Scf.for l.lb l.ub l.st hok ⟨⟩ fun t _ => body t) st Post
  rw [Scf.for_eq]
  exact h.mono fun _ st' h' => hp st' h'

/-- A program per group, by an invariant of the contents. -/
theorem Runs.each (f : (g : ℕ) → g < 20 → P F PUnit) (Inv : ℕ → St F → Prop) {st : St F} (h0 : Inv 0 st)
    (hs : ∀ (g : ℕ) (h : g < 20) (st : St F), Inv g st → Runs R c I bd vs (f g h) st fun _ st' => Inv (g + 1) st')
    {Post : PUnit → St F → Prop} (hp : ∀ st', Inv 20 st' → Post ⟨⟩ st') :
    Runs R c I bd vs (eachGroup f) st Post := by
  have key : ∀ (k g : ℕ) (e : k + g = 20) (st : St F), Inv g st → Runs R c I bd vs (groups f k g e) st fun _ st' => Inv 20 st' := by
    intro k
    induction k with
    | zero =>
      intro g e st h
      obtain rfl : g = 20 := by omega
      exact Runs.ret h
    | succ k ih =>
      intro g e st h
      exact Runs.bind ((hs g (by omega) st h).mono fun _ st' h' => ih (g + 1) (by omega) st' h')
  exact (key 20 0 rfl st h0).mono fun _ st' h' => hp st' h'

theorem Runs.ite {q : Prop} [Decidable q] {a b : P F α} {st : St F} {Post : α → St F → Prop} (ha : q → Runs R c I bd vs a st Post)
    (hb : ¬ q → Runs R c I bd vs b st Post) : Runs R c I bd vs (if q then a else b) st Post := by
  split
  · exact ha ‹_›
  · exact hb ‹_›

theorem Runs.dite {q : Prop} [Decidable q] {a : q → P F α} {b : ¬ q → P F α} {st : St F} {Post : α → St F → Prop}
    (ha : ∀ h, Runs R c I bd vs (a h) st Post) (hb : ∀ h, Runs R c I bd vs (b h) st Post) :
    Runs R c I bd vs (if h : q then a h else b h) st Post := by
  split
  · exact ha _
  · exact hb _

end rules

end Cert.KernelIdeal.Conv
-- ==== Proof.Offsets.lean ====
/- Where the body's computed offsets lie, as plain numbers. -/
module

public import proofs.«01_k».proof.Proof.Body

@[expose] public section

set_option maxRecDepth 100000

namespace Cert.KernelIdeal.Conv

open Idealize.ShloMosaic
open Cert.KernelIdeal

theorem trips1 : k0_t1_loop.trips = 514 := by decide +kernel
theorem trips2 : k0_t2_loop.trips = 129 := by decide +kernel
theorem trips3 : k0_t3_loop.trips = 62 := by decide +kernel

theorem coord0_lt (i : grid0.Coords) : (i 0).val < 2 := (i 0).isLt
theorem coord1_lt (i : grid0.Coords) : (i 1).val < 64 := (i 1).isLt

theorem off1_eq : ∀ t : Fin k0_t1_loop.trips, k0_off1 t 0 = t.val := by decide +kernel
theorem off2_eq : ∀ t : Fin k0_t2_loop.trips, k0_off2 t 0 = 128 * t.val := by decide +kernel
theorem off2_eq1 (t : Fin k0_t2_loop.trips) : k0_off2 t 1 = 0 := rfl

theorem off3_eq (i : grid0.Coords) (t : Fin k0_t3_loop.trips) : k0_off3 i t 0 = 64 * (i 0).val + t.val + 1 := by
  have h : ∀ (b : Fin 2) (t : Fin k0_t3_loop.trips),
      (Scalar.indexCast (Scalar.addi (Scalar.muli (BitVec.ofNat 32 b.val) 64#32) (Scf.iv 1#32 1#32 t.val))).toNat = 64 * b.val + t.val + 1 := by
    decide +kernel
  exact h ⟨(i 0).val, coord0_lt i⟩ t

theorem off48_eq (i : grid0.Coords) (t : Fin k0_t5_loop.trips) : k0_off48 i t 0 = 8 * (63 - (i 1).val) + (7 - t.val) + 1 := by
  have h : ∀ (s : Fin 64) (t : Fin k0_t5_loop.trips),
      (Scalar.indexCast (Scalar.addi (Scalar.addi (Scalar.muli (Scalar.subi 63#32 (BitVec.ofNat 32 s.val)) 8#32)
        (Scalar.subi 7#32 (Scf.iv 0#32 1#32 t.val))) 1#32)).toNat = 8 * (63 - s.val) + (7 - t.val) + 1 := by
    decide +kernel
  exact h ⟨(i 1).val, coord1_lt i⟩ t

/-- The row of the keep scratch `d` rows from a chunk's first one, `d` from 2 behind (0) to 3 ahead (5). -/
theorem off50_eq (i : grid0.Coords) (t : Fin k0_t5_loop.trips) (d : Fin 6) :
    k0_off50 i t (BitVec.ofNat 32 d.val - 2#32) 0 = 256 * (63 - (i 1).val) + 32 * (7 - t.val) + 6 + d.val := by
  have h : ∀ (s : Fin 64) (t : Fin k0_t5_loop.trips) (d : Fin 6),
      (Scalar.indexCast (Scalar.addi (Scalar.addi (Scalar.addi (Scalar.muli (Scalar.subi 63#32 (BitVec.ofNat 32 s.val)) 256#32)
        (Scalar.muli (Scalar.subi 7#32 (Scf.iv 0#32 1#32 t.val)) 32#32)) 8#32) (BitVec.ofNat 32 d.val - 2#32))).toNat
        = 256 * (63 - s.val) + 32 * (7 - t.val) + 6 + d.val := by
    decide +kernel
  exact h ⟨(i 1).val, coord1_lt i⟩ t d
theorem off50_eq1 (i : grid0.Coords) (t : Fin k0_t5_loop.trips) (d : BitVec 32) : k0_off50 i t d 1 = 0 := rfl

/-- A boundary inside the sequence: its keep row, and the flags of the chunks that look across it. -/
theorem off4_eq (v : BitVec 32) (hv : v.toNat ≤ 16384) : k0_off4 v 0 = v.toNat + 8 := by
  have h : ∀ n : Fin 16385, k0_off4 (BitVec.ofNat 32 n.val) 0 = n.val + 8 := by decide +kernel
  have := h ⟨v.toNat, by omega⟩
  rwa [BitVec.ofNat_toNat, BitVec.setWidth_eq] at this
theorem off4_eq1 (v : BitVec 32) : k0_off4 v 1 = 0 := rfl
theorem off5_eq (v : BitVec 32) (hv : v.toNat ≤ 16384) : k0_off5 v 0 = (v.toNat + 29) / 32 := by
  have h : ∀ n : Fin 16385, k0_off5 (BitVec.ofNat 32 n.val) 0 = (n.val + 29) / 32 := by decide +kernel
  have := h ⟨v.toNat, by omega⟩
  rwa [BitVec.ofNat_toNat, BitVec.setWidth_eq] at this
theorem off6_eq (v : BitVec 32) (hv : v.toNat ≤ 16384) : k0_off6 v 0 = (v.toNat + 34) / 32 := by
  have h : ∀ n : Fin 16385, k0_off6 (BitVec.ofNat 32 n.val) 0 = (n.val + 34) / 32 := by decide +kernel
  have := h ⟨v.toNat, by omega⟩
  rwa [BitVec.ofNat_toNat, BitVec.setWidth_eq] at this

theorem chk1 (i : grid0.Coords) (v : BitVec 32) (hv : v.toNat ≤ 16384) : k0_chk1 i v := by
  refine ⟨fun _ a => ?_, fun _ a => ?_, fun _ a => ?_⟩
  · match a with
    | ⟨0, _⟩ => show k0_off4 v 0 + 1 ≤ 16512; rw [off4_eq v hv]; omega
    | ⟨1, _⟩ => show k0_off4 v 1 + 128 ≤ 128; rw [off4_eq1 v]
  · match a with
    | ⟨0, _⟩ => show k0_off5 v 0 + 1 ≤ 514; rw [off5_eq v hv]; omega
  · match a with
    | ⟨0, _⟩ => show k0_off6 v 0 + 1 ≤ 514; rw [off6_eq v hv]; omega

/-- The first step of a row of blocks. -/
theorem cond2_iff (i : grid0.Coords) : k0_cond2 i = 1#1 ↔ (i 1).val = 0 := by
  have h : ∀ s : Fin 64, (Scalar.cmpi .ne (Scalar.extui (Scalar.cmpi .eq (BitVec.ofNat 32 s.val) 0#32) : BitVec 32) 0#32 = 1#1) ↔ s.val = 0 := by
    decide +kernel
  exact h ⟨(i 1).val, coord1_lt i⟩
theorem later_iff (i : grid0.Coords) :
    Scalar.cmpi .ne (Scalar.extui (Scalar.cmpi .sgt (BitVec.ofNat 32 (i 1).val) 0#32) : BitVec 32) 0#32 = 1#1 ↔ (i 1).val ≠ 0 := by
  have h : ∀ s : Fin 64, (Scalar.cmpi .ne (Scalar.extui (Scalar.cmpi .sgt (BitVec.ofNat 32 s.val) 0#32) : BitVec 32) 0#32 = 1#1) ↔ s.val ≠ 0 := by
    decide +kernel
  exact h ⟨(i 1).val, coord1_lt i⟩
theorem first_iff (i : grid0.Coords) :
    Scalar.cmpi .ne (Scalar.extui (Scalar.andi (Scalar.cmpi .eq (BitVec.ofNat 32 (i 0).val) 0#32)
      (Scalar.cmpi .eq (BitVec.ofNat 32 (i 1).val) 0#32)) : BitVec 32) 0#32 = 1#1 ↔ (i 0).val = 0 ∧ (i 1).val = 0 := by
  have h : ∀ (b : Fin 2) (s : Fin 64), (Scalar.cmpi .ne (Scalar.extui (Scalar.andi (Scalar.cmpi .eq (BitVec.ofNat 32 b.val) 0#32)
      (Scalar.cmpi .eq (BitVec.ofNat 32 s.val) 0#32)) : BitVec 32) 0#32 = 1#1) ↔ b.val = 0 ∧ s.val = 0 := by
    decide +kernel
  exact h ⟨(i 0).val, coord0_lt i⟩ ⟨(i 1).val, coord1_lt i⟩
theorem last_iff (i : grid0.Coords) : k0_cond6 i = 1#1 ↔ (i 0).val = 1 ∧ (i 1).val = 63 := by
  have h : ∀ (b : Fin 2) (s : Fin 64), (Scalar.cmpi .ne (Scalar.extui (Scalar.andi (Scalar.cmpi .eq (BitVec.ofNat 32 b.val) 1#32)
      (Scalar.cmpi .eq (BitVec.ofNat 32 s.val) 63#32)) : BitVec 32) 0#32 = 1#1) ↔ b.val = 1 ∧ s.val = 63 := by
    decide +kernel
  exact h ⟨(i 0).val, coord0_lt i⟩ ⟨(i 1).val, coord1_lt i⟩
/-- A block other than the first of its row. -/
theorem behind_iff (i : grid0.Coords) : Scalar.cmpi .sgt (blkOf i) 0#32 = 1#1 ↔ (i 1).val ≠ 63 := by
  have h : ∀ s : Fin 64, Scalar.cmpi .sgt (Scalar.subi 63#32 (BitVec.ofNat 32 s.val)) 0#32 = 1#1 ↔ s.val ≠ 63 := by decide +kernel
  exact h ⟨(i 1).val, coord1_lt i⟩

end Cert.KernelIdeal.Conv
-- ==== Proof.Values.lean ====
/- What the buffers of a grid point hold, element by element, as functions of the coordinates. -/
module

public import proofs.«01_k».proof.Proof.Sim
public import proofs.«01_k».proof.Proof.Offsets
public import Idealize.ShloMosaic.Lib.Pipeline.Value

@[expose] public section

noncomputable section

namespace Cert.KernelIdeal.Conv

open Idealize.ShloMosaic
open Cert.KernelIdeal Facts₀ Facts
open VecWindow (window put)

variable {F : FTy → Type} [FloatOps F]

/-! ## Reading an array at plain numbers -/

/-- The element of `x` at the coordinates `v`; `d` where they lie outside. -/
def get {α : Type} {s : Shape} (x : s.Idx → α) (d : α) (v : Fin s.rank → ℕ) : α :=
  if h : ∀ a, v a < s.size a then x fun a => ⟨v a, h a⟩ else d

theorem get_eq {α : Type} {s : Shape} (x : s.Idx → α) (d : α) (v : Fin s.rank → ℕ) (y : s.Idx) (h : ∀ a, (y a).val = v a) :
    get x d v = x y := by
  have hv : ∀ a, v a < s.size a := fun a => by rw [← h a]; exact (y a).isLt
  unfold get
  rw [dif_pos hv]
  exact congrArg x (funext fun a => Fin.ext (h a).symm)

/-! ## The elements of the program's vector expressions -/

theorem flat_apply {e : EltTy} (x : Vec F S1x32x128 e) (q : S32x128.Idx) (k : S1x32x128.Idx)
    (h1 : (k 1).val = (q 0).val) (h2 : (k 2).val = (q 1).val) : flat x q = x k := by
  refine shapeCast_apply _ _ q k ?_
  refine (Shape.rowMajor_val_three (d := ![1, 32, 128]) k).trans (Eq.trans ?_ (Shape.rowMajor_val_two (d := ![32, 128]) q).symm)
  have h0 : (k 0).val < 1 := (k 0).isLt
  show ((k 0).val * 32 + (k 1).val) * 128 + (k 2).val = (q 0).val * 128 + (q 1).val
  rw [h1, h2]; omega

theorem unflat_apply {e : EltTy} (x : Vec F S32x128 e) (k : S1x32x128.Idx) (q : S32x128.Idx)
    (h1 : (k 1).val = (q 0).val) (h2 : (k 2).val = (q 1).val) : unflat x k = x q := by
  refine shapeCast_apply _ _ k q ?_
  refine (Shape.rowMajor_val_two (d := ![32, 128]) q).trans (Eq.trans ?_ (Shape.rowMajor_val_three (d := ![1, 32, 128]) k).symm)
  have h0 : (k 0).val < 1 := (k 0).isLt
  show (q 0).val * 128 + (q 1).val = ((k 0).val * 32 + (k 1).val) * 128 + (k 2).val
  rw [h1, h2]; omega

theorem bc_apply (p : Vec F S1x128 .f32) (q : S32x128.Idx) (k : S1x128.Idx) (h : (k 1).val = (q 1).val) : bc p q = p k := by
  unfold bc
  refine (broadcastTo_apply _ _ q k fun a => ?_).trans (shapeCast_apply p _ k k rfl)
  match a with
  | ⟨0, _⟩ =>
    show (k 0).val = if (1 : ℕ) = 1 then 0 else _
    rw [if_pos rfl]
    have h0 : (k 0).val < 1 := (k 0).isLt
    omega
  | ⟨1, _⟩ =>
    show (k 1).val = if (128 : ℕ) = 1 then 0 else (q 1).val
    rw [if_neg (by decide), h]

/-- A row of 128 upright: its rows are the row's elements. -/
theorem upright_apply (v : FVec F S1x128 .f32) (q : S128x128.Idx) (k : S1x128.Idx) (h : (k 1).val = (q 0).val) : upright v q = v k := by
  unfold upright
  refine (transpose_apply _ _ _ q (fun a => match a with | ⟨0, _⟩ => q 1 | ⟨1, _⟩ => q 0 : S128x128.Idx) fun b => ?_).trans ?_
  · match b with
    | ⟨0, _⟩ => rfl
    | ⟨1, _⟩ => rfl
  refine (broadcastTo_apply _ _ _ k fun a => ?_).trans (shapeCast_apply v _ k k rfl)
  match a with
  | ⟨0, _⟩ =>
    show (k 0).val = if (1 : ℕ) = 1 then 0 else _
    rw [if_pos rfl]
    have h0 : (k 0).val < 1 := (k 0).isLt
    omega
  | ⟨1, _⟩ =>
    show (k 1).val = if (128 : ℕ) = 1 then 0 else (q 0).val
    rw [if_neg (by decide), h]

/-! ## The values of one grid point -/

/-- A boundary table's word. -/
def word (cu : Vec F S128 .i32) (n : ℕ) : ℕ := BitVec.toNat (get (s := S128) cu 0#32 ![n])

/-- The keep rows of batch row `b`: zero where an inner boundary lies, eight rows further down. -/
def keepV (cu : Vec F S128 .i32) (b : ℕ) (n : ℕ) (r : ℕ) : F .f32 :=
  open Classical in if ∃ k < n, word cu (64 * b + k + 1) + 8 = r then c0 else c1

/-- The flags of batch row `b`: set for the chunks that look across an inner boundary. -/
def flagV (cu : Vec F S128 .i32) (b : ℕ) (n : ℕ) (q : ℕ) : BitVec 32 :=
  open Classical in if ∃ k < n, (word cu (64 * b + k + 1) + 29) / 32 = q ∨ (word cu (64 * b + k + 1) + 34) / 32 = q then 1#32 else 0#32

section point
variable (I : In F) (i : grid0.Coords)

/-- The block's number in its row. -/
def blk : ℕ := 63 - (i 1).val

/-- The scales of x, eight rows of the block before first. -/
def sxV (r : ℕ) : F .f32 :=
  if r < 8 then (if (i 1).val ≠ 63 then get (s := S1x1x2x128) I.sxp c0 ![0, 0, 1, 120 + r] else c0)
  else get (s := S1x1x2x128) I.sx c0 ![0, 0, (r - 8) / 128, (r - 8) % 128]

/-- Half the scales of dy. -/
def sdyV (r : ℕ) : F .f32 := FloatOps.mulf cHalf (get (s := S1x1x2x128) I.sdy c0 ![0, 0, r / 128, r % 128])

/-- x scaled, eight rows of the block before first. -/
def xsV (g r l : ℕ) : F .f32 :=
  if r < 8 then FloatOps.mulf (get (s := S1x32x2560) (extf .f32 I.xp bitsLt_fp8e4m3_f32) c0 ![0, 24 + r, 128 * g + l]) (sxV I i r)
  else FloatOps.mulf (get (s := S1x256x2560) (extf .f32 I.x bitsLt_fp8e4m3_f32) c0 ![0, r - 8, 128 * g + l]) (sxV I i r)

/-- A row of the parameters. -/
def parV (k d : ℕ) : F .f32 := get (s := S16x2560) I.par c0 ![k, d]

/-- The chunk of row `r` is flagged. -/
def flagged (r : ℕ) : Prop := flagV I.cu (i 0).val 62 (8 * blk i + r / 32 + 1) ≠ 0#32

/-- The keep row of row `r` of the block, `d` rows further, two back counted from zero. -/
def kp (r d : ℕ) : F .f32 := keepV I.cu (i 0).val 62 (256 * blk i + r + 6 + d)

/-- The product that stands before tap `j` of x at row `r`. -/
def kx (r : ℕ) : ℕ → F .f32
  | 1 => kp I i r 2
  | 2 => FloatOps.mulf (kp I i r 2) (kp I i r 1)
  | _ => FloatOps.mulf (FloatOps.mulf (kp I i r 2) (kp I i r 1)) (kp I i r 0)

/-- The product that stands before tap `j` of dz at row `r`. -/
def kz (r : ℕ) : ℕ → F .f32
  | 1 => kp I i r 3
  | 2 => FloatOps.mulf (kp I i r 3) (kp I i r 4)
  | _ => FloatOps.mulf (FloatOps.mulf (kp I i r 3) (kp I i r 4)) (kp I i r 5)

/-- Tap `j` of x at row `r` of the block. -/
def tapV (j g r l : ℕ) : F .f32 :=
  open Classical in
  if j ≠ 0 ∧ flagged I i r then FloatOps.mulf (xsV I i g (r + 8 - j) l) (kx I i r j) else xsV I i g (r + 8 - j) l

/-- Half the convolution's value. -/
def hV (g r l : ℕ) : F .f32 :=
  FloatOps.addf (FloatOps.addf (FloatOps.addf (FloatOps.addf (FloatOps.mulf (parV I 3 (128 * g + l)) (tapV I i 0 g r l)) (parV I 4 (128 * g + l)))
    (FloatOps.mulf (parV I 2 (128 * g + l)) (tapV I i 1 g r l))) (FloatOps.mulf (parV I 1 (128 * g + l)) (tapV I i 2 g r l)))
    (FloatOps.mulf (parV I 0 (128 * g + l)) (tapV I i 3 g r l))

/-- The gradient at the convolution's value. -/
def dzV (g r l : ℕ) : F .f32 :=
  FloatOps.mulf (FloatOps.mulf (get (s := S1x256x2560) (extf .f32 I.dy bitsLt_fp8e5m2_f32) c0 ![0, r, 128 * g + l]) (sdyV I r))
    (FloatOps.addf (FloatOps.addf c1 (FloatOps.tanh (hV I i g r l)))
      (FloatOps.mulf (hV I i g r l) (FloatOps.subf c1 (FloatOps.mulf (FloatOps.tanh (hV I i g r l)) (FloatOps.tanh (hV I i g r l))))))

variable (tail : ℕ → ℕ → ℕ → F .f32)

/-- The same, and behind the block's end the eight rows `tail`. -/
def zV (g r l : ℕ) : F .f32 := if r < 256 then dzV I i g r l else tail g (r - 256) l

/-- Tap `j` of dz at row `r`. -/
def ztapV (j g r l : ℕ) : F .f32 :=
  open Classical in
  if flagged I i r then FloatOps.mulf (zV I i tail g (r + j) l) (kz I i r j) else zV I i tail g (r + j) l

/-- dx. -/
def dxV (g r l : ℕ) : F .bf16 :=
  FloatOps.truncf .bf16 bitsLt_bf16_f32 (FloatOps.addf (FloatOps.addf (FloatOps.addf (FloatOps.mulf (parV I 11 (128 * g + l)) (dzV I i g r l))
    (FloatOps.mulf (parV I 10 (128 * g + l)) (ztapV I i tail 1 g r l))) (FloatOps.mulf (parV I 9 (128 * g + l)) (ztapV I i tail 2 g r l)))
    (FloatOps.mulf (parV I 8 (128 * g + l)) (ztapV I i tail 3 g r l)))

/-- The summand of accumulator `k` at row `r`: dz times a tap of x, or dz. -/
def sumV (g k r l : ℕ) : F .f32 := if k < 4 then FloatOps.mulf (dzV I i g r l) (tapV I i (3 - k) g r l) else dzV I i g r l

/-- Accumulator `k` of group `g` after `n` chunks, from `a`. -/
def accV (a : ℕ → ℕ → ℕ → ℕ → F .f32) : ℕ → ℕ → ℕ → ℕ → ℕ → F .f32
  | 0, g, k, s, l => a g k s l
  | n + 1, g, k, s, l => FloatOps.addf (accV a n g k s l)
      (FloatOps.addf (FloatOps.addf (FloatOps.addf (sumV I i g k (32 * (7 - n) + s) l) (sumV I i g k (32 * (7 - n) + (8 + s)) l))
        (sumV I i g k (32 * (7 - n) + (16 + s)) l)) (sumV I i g k (32 * (7 - n) + (24 + s)) l))

end point

end Cert.KernelIdeal.Conv
-- ==== Proof.Pre.lean ====
/- The precondition read: each row's boundaries ascend from 0 to the row's length. -/
module

public import proofs.«01_k».proof.Proof.Host
public import proofs.«01_k».proof.Proof.Values
public import proofs.«01_k».proof.Pre_boundaries_ascend
public import proofs.«01_k».proof.Proof.Gen.Pre_boundaries_ascend
public import Idealize.ShloMosaic.Lib.Pointwise
public import Idealize.ShloMosaic.Lib.StableHlo.ReadAt

@[expose] public section

set_option maxRecDepth 16384

noncomputable section

namespace Cert.KernelIdeal.Conv

open Idealize.ShloMosaic Idealize.ShloMosaic.TcCoe Idealize.ShloMosaic.Tactic
open Cert.KernelIdeal Cert.KernelIdeal.Gen

variable {F : FTy → Type} [FloatOps F]

theorem of_one {p : Bool} (h : BitVec.ofBool p = 1#1) : p = true := by
  cases p
  · exact absurd h (by decide)
  · rfl

theorem word_eq (cu : Vec F S128 .i32) (n : ℕ) (y : S128.Idx) (h : (y 0).val = n) : word cu n = BitVec.toNat (cu y) := by
  unfold word
  rw [get_eq (s := S128) cu 0#32 ![n] y fun a => match a with | ⟨0, _⟩ => h]

theorem word_out (cu : Vec F S128 .i32) (n : ℕ) (h : ¬n < 128) : word cu n = 0 := by
  unfold word get
  rw [dif_neg fun hh : ∀ a : Fin S128.rank, (![n] : Fin S128.rank → ℕ) a < S128.size a => h (hh ⟨0, Nat.zero_lt_one⟩)]
  rfl

section pre
open Cert.Pre_boundaries_ascend

variable (a0 : FVec F S2x16384x2560 .fp8e4m3) (a1 : FVec F S2x16384 .f32) (a2 : FVec F S2x16384x2560 .fp8e5m2) (a3 : FVec F S2x16384 .f32)
  (a4 : FVec F S2560x4 .bf16) (a5 : FVec F S2560 .f32) (a6 : IVec S2x64 32)

theorem fn_first (b : Fin 2) (h : Cert.Pre_boundaries_ascend.fn (F := F) a0 a1 a2 a3 a4 a5 a6 = fun _ => 1#1) : (a6 (ix2 b 0)).toInt = 0 := by
  have h := congrFun h (ix2 b 0)
  unfold Cert.Pre_boundaries_ascend.fn at h
  pointwise at h
  have h' : a6 (ix2 b 0) = 0#32 := by
    exact eq_of_beq (of_one h)
  rw [h']; rfl

theorem fn_mid (b : Fin 2) (k : Fin 63) (h : Cert.Pre_boundaries_ascend.fn (F := F) a0 a1 a2 a3 a4 a5 a6 = fun _ => 1#1) :
    (a6 (ix2 b ⟨k.val, by omega⟩)).toInt ≤ (a6 (ix2 b ⟨k.val + 1, by omega⟩)).toInt := by
  have h := congrFun h (ix2 b ⟨k.val + 1, by omega⟩)
  unfold Cert.Pre_boundaries_ascend.fn at h
  pointwise at h
  rw [dif_neg (by omega), dif_pos (show k.val + 1 - 1 < 63 by omega)] at h
  have h := BitVec.sle_iff_toInt_le.mp (of_one h)
  have e1 : (⟨k.val + 1 - 1, by omega⟩ : Fin 64) = ⟨k.val, by omega⟩ := Fin.ext (Nat.add_sub_cancel _ _)
  have e2 : (⟨1 + (k.val + 1 - 1), by omega⟩ : Fin 64) = ⟨k.val + 1, by omega⟩ := Fin.ext (by show 1 + (k.val + 1 - 1) = k.val + 1; omega)
  rw [e1, e2] at h
  exact h

theorem fn_last (b : Fin 2) (h : Cert.Pre_boundaries_ascend.fn (F := F) a0 a1 a2 a3 a4 a5 a6 = fun _ => 1#1) : (a6 (ix2 b 63)).toInt = 16384 := by
  have h := congrFun h (ix2 b 64)
  unfold Cert.Pre_boundaries_ascend.fn at h
  pointwise at h
  have h' : a6 (ix2 b 63) = 16384#32 := by
    exact eq_of_beq (of_one h)
  rw [h']; rfl

end pre

variable (m : (ℓ : Loc nD τ sig) → Buf (Elt F) ℓ)

theorem tbl_apply (b : Fin 2) (j : Fin 64) : word (F := F) (tbl m 0) (64 * b.val + j.val) = (m ((0 : Dev nD).tc.loc main_arg6) (ix2 b j) : BitVec 32).toNat := by
  refine (word_eq (tbl m 0) _ (ix1 ⟨64 * b.val + j.val, by omega⟩) rfl).trans ?_
  refine congrArg BitVec.toNat (show V m 0 main_v12 (ix1 ⟨64 * b.val + j.val, by omega⟩) = _ from ?_)
  unfold V V0
  after_reads_at

/-- The boundaries of a memory's rows ascend from 0 to 16384. -/
structure Ascends : Prop where
  first : ∀ b : Fin 2, word (F := F) (tbl m 0) (64 * b.val) = 0
  mid : ∀ (b : Fin 2) (k : ℕ), k < 63 → word (F := F) (tbl m 0) (64 * b.val + k) ≤ word (F := F) (tbl m 0) (64 * b.val + (k + 1))
  last : ∀ b : Fin 2, word (F := F) (tbl m 0) (64 * b.val + 63) = 16384

theorem ascends_of (a0 a1 a2 a3 a4 a5)
    (h : Cert.Pre_boundaries_ascend.fn (F := F) a0 a1 a2 a3 a4 a5 (m ((0 : Dev nD).tc.loc main_arg6)) = fun _ => 1#1) : Ascends m := by
  have hf := fun b => fn_first a0 a1 a2 a3 a4 a5 _ b h
  have hm := fun b k => fn_mid a0 a1 a2 a3 a4 a5 _ b k h
  have hl := fun b => fn_last a0 a1 a2 a3 a4 a5 _ b h
  have hpos : ∀ (b : Fin 2) (k : ℕ) (hk : k < 64), 0 ≤ (m ((0 : Dev nD).tc.loc main_arg6) (ix2 b ⟨k, hk⟩) : BitVec 32).toInt := fun b k => by
    induction k with
    | zero => intro hk; exact le_of_eq (hf b).symm
    | succ k ih => intro hk; exact (ih (by omega)).trans (hm b ⟨k, by omega⟩)
  have hnat : ∀ (b : Fin 2) (k : ℕ) (hk : k < 64),
      (word (F := F) (tbl m 0) (64 * b.val + k) : ℤ) = (m ((0 : Dev nD).tc.loc main_arg6) (ix2 b ⟨k, hk⟩) : BitVec 32).toInt := fun b k hk => by
    rw [show word (F := F) (tbl m 0) (64 * b.val + k) = _ from tbl_apply m b ⟨k, hk⟩]
    have h0 := hpos b k hk
    rw [BitVec.toInt_eq_toNat_cond] at h0 ⊢
    have := (m ((0 : Dev nD).tc.loc main_arg6) (ix2 b ⟨k, hk⟩) : BitVec 32).isLt
    split
    · rfl
    · rename_i hn
      rw [if_neg hn] at h0
      omega
  refine ⟨fun b => ?_, fun b k hk => ?_, fun b => ?_⟩
  · have := hnat b 0 (by omega)
    have h2 := hf b
    rw [Nat.add_zero] at this
    exact_mod_cast this.trans h2
  · have h1 := hnat b k (by omega)
    have h2 := hnat b (k + 1) (by omega)
    have h3 := hm b ⟨k, hk⟩
    exact_mod_cast (h1.trans_le h3).trans_eq h2.symm
  · have := hnat b 63 (by omega)
    exact_mod_cast this.trans (hl b)

namespace Ascends
variable {m} (h : Ascends m)
include h

theorem mono (b : Fin 2) (k : ℕ) : ∀ j : ℕ, k + j < 64 → word (F := F) (tbl m 0) (64 * b.val + k) ≤ word (F := F) (tbl m 0) (64 * b.val + (k + j))
  | 0, _ => le_rfl
  | j + 1, hj => (mono b k j (by omega)).trans (h.mid b (k + j) (by omega))

theorem le (n : ℕ) : word (F := F) (tbl m 0) n ≤ 16384 := by
  by_cases hn : n < 128
  · have h1 := h.mono ⟨n / 64, by omega⟩ (n % 64) (63 - n % 64) (by omega)
    have h2 := h.last ⟨n / 64, by omega⟩
    have e1 : 64 * (n / 64) + n % 64 = n := by omega
    have e2 : n % 64 + (63 - n % 64) = 63 := by omega
    simp only [e1, e2] at h1 h2
    exact h1.trans_eq h2
  · exact (word_out (tbl m 0) n hn).trans_le (Nat.zero_le _)

end Ascends

end Cert.KernelIdeal.Conv
-- ==== Proof.Setup.lean ====
/- The scales and x of a block in their scratches. -/
module

public import proofs.«01_k».proof.Proof.Values

@[expose] public section

noncomputable section

namespace Cert.KernelIdeal.Conv

open Idealize.ShloMosaic Idealize.SL.Sem
open Cert.KernelIdeal Facts₀ Facts
open VecWindow (window put)

variable {F : FTy → Type} [FloatOps F]

/-- What holds of the put payload inside the rectangle and of the old contents outside it holds of the new contents. -/
theorem put_spec {α : Type} {s : Shape} (X : s.Idx → α) (off size : Fin s.rank → ℕ) (w : ((a : Fin s.rank) → Fin (size a)) → α)
    (P : s.Idx → α → Prop) (y : s.Idx)
    (hin : ∀ h : (∀ a, off a ≤ (y a).val ∧ (y a).val < off a + size a), P y (w (Rect.unitLocal (s := s) (off := off) (size := size) y h)))
    (hout : ¬ (∀ a, off a ≤ (y a).val ∧ (y a).val < off a + size a) → P y (X y)) : P y (put X off size w y) := by
  unfold put
  split
  · exact hin _
  · exact hout ‹_›

/-- A window's element, by its coordinates in the buffer. -/
theorem window_get {α : Type} {s : Shape} (x : s.Idx → α) (d : α) (off size : Fin s.rank → ℕ) (inb : ∀ a, off a + size a ≤ s.size a)
    (z : (Rect.unit off size inb).shape.Idx) (v : Fin s.rank → ℕ) (h : ∀ a, off a + 1 * (z a).val = v a) : window x off size inb z = get x d v :=
  (get_eq x d v _ h).symm

section
variable {R : Refs} {c : Dev nD} {I : In F} {bd : Defs nD τ sig (Elt F) Λ₀} {vs : Variants}

local notation "𝓡" => Runs R c I bd vs

theorem runs_scaleX (r o : ℕ) (hr : r + 1 ≤ 2) (ho : o + 128 ≤ 264) (st : St F) :
    𝓡 (scaleXP R r o hr ho) st fun _ st' => ∃ f, st' = st.setSx f ∧ ∀ y : S264x128.Idx,
      f y = if o ≤ (y 0).val ∧ (y 0).val < o + 128 then get (s := S1x1x2x128) I.sx c0 ![0, 0, r, (y 0).val - o] else st.sx y := by
  unfold scaleXP
  refine Runs.bind (Runs.load (focusIn_sx R c I st) ?_)
  refine Runs.bind (Runs.loadAny (keep_of rfl (focus_sx R c I st)) fun _ => ?_)
  refine Runs.store (focus_sx R c I st) ⟨_, rfl, fun y => ?_⟩
  refine put_spec (s := S264x128) _ _ _ _ (fun y v => v = if o ≤ (y 0).val ∧ (y 0).val < o + 128 then get (s := S1x1x2x128) I.sx c0 ![0, 0, r, (y 0).val - o] else st.sx y) y ?_ ?_
  · intro h
    have h0 : o ≤ (y 0).val ∧ (y 0).val < o + 128 := h 0
    rw [if_pos h0]
    have hk : (y 0).val - o < 128 := by omega
    refine (shapeCast_apply _ _ _ _ rfl).trans ?_
    refine (upright_apply _ _ (fun a => match a with | ⟨0, _⟩ => ⟨0, Nat.zero_lt_one⟩ | ⟨1, _⟩ => ⟨(y 0).val - o, hk⟩ : S1x128.Idx) rfl).trans ?_
    refine (shapeCast_apply _ _ _ (fun a => match a with | ⟨0, _⟩ => ⟨0, Nat.zero_lt_one⟩ | ⟨1, _⟩ => ⟨0, Nat.zero_lt_one⟩ | ⟨2, _⟩ => ⟨0, Nat.zero_lt_one⟩ | ⟨3, _⟩ => ⟨(y 0).val - o, hk⟩ : S1x1x1x128.Idx) ?_).trans ?_
    · refine (Shape.rowMajor_val_four (d := ![1, 1, 1, 128]) _).trans (Eq.trans ?_ (Shape.rowMajor_val_two (d := ![1, 128]) _).symm)
      show ((0 * 1 + 0) * 1 + 0) * 128 + ((y 0).val - o) = 0 * 128 + ((y 0).val - o)
      omega
    · refine window_get (s := S1x1x2x128) _ _ _ _ _ _ _ fun a => ?_
      match a with
      | ⟨0, _⟩ => rfl
      | ⟨1, _⟩ => rfl
      | ⟨2, _⟩ => show r + 1 * 0 = r; omega
      | ⟨3, _⟩ => show 0 + 1 * ((y 0).val - o) = (y 0).val - o; omega
  · intro h
    rw [if_neg]
    intro h0
    apply h
    intro a
    match a with
    | ⟨0, _⟩ => exact h0
    | ⟨1, _⟩ => exact ⟨Nat.zero_le _, by show (y 1).val < 0 + 128; have : (y 1).val < 128 := (y 1).isLt; omega⟩

theorem runs_scaleDy (r o : ℕ) (hr : r + 1 ≤ 2) (ho : o + 128 ≤ 256) (st : St F) :
    𝓡 (scaleDyP R r o hr ho) st fun _ st' => ∃ f, st' = st.setSdy f ∧ ∀ y : S256x128.Idx,
      f y = if o ≤ (y 0).val ∧ (y 0).val < o + 128 then FloatOps.mulf cHalf (get (s := S1x1x2x128) I.sdy c0 ![0, 0, r, (y 0).val - o]) else st.sdy y := by
  unfold scaleDyP
  refine Runs.bind (Runs.load (focusIn_sdy R c I st) ?_)
  refine Runs.bind (Runs.loadAny (keep_of rfl (focus_sdy R c I st)) fun _ => ?_)
  refine Runs.store (focus_sdy R c I st) ⟨_, rfl, fun y => ?_⟩
  refine put_spec (s := S256x128) _ _ _ _ (fun y v => v = if o ≤ (y 0).val ∧ (y 0).val < o + 128 then FloatOps.mulf cHalf (get (s := S1x1x2x128) I.sdy c0 ![0, 0, r, (y 0).val - o]) else st.sdy y) y ?_ ?_
  · intro h
    have h0 : o ≤ (y 0).val ∧ (y 0).val < o + 128 := h 0
    rw [if_pos h0]
    have hk : (y 0).val - o < 128 := by omega
    refine (shapeCast_apply _ _ _ _ rfl).trans ?_
    refine (upright_apply _ _ (fun a => match a with | ⟨0, _⟩ => ⟨0, Nat.zero_lt_one⟩ | ⟨1, _⟩ => ⟨(y 0).val - o, hk⟩ : S1x128.Idx) rfl).trans ?_
    refine congrArg (FloatOps.mulf cHalf) ?_
    refine (shapeCast_apply _ _ _ (fun a => match a with | ⟨0, _⟩ => ⟨0, Nat.zero_lt_one⟩ | ⟨1, _⟩ => ⟨0, Nat.zero_lt_one⟩ | ⟨2, _⟩ => ⟨0, Nat.zero_lt_one⟩ | ⟨3, _⟩ => ⟨(y 0).val - o, hk⟩ : S1x1x1x128.Idx) ?_).trans ?_
    · refine (Shape.rowMajor_val_four (d := ![1, 1, 1, 128]) _).trans (Eq.trans ?_ (Shape.rowMajor_val_two (d := ![1, 128]) _).symm)
      show ((0 * 1 + 0) * 1 + 0) * 128 + ((y 0).val - o) = 0 * 128 + ((y 0).val - o)
      omega
    · refine window_get (s := S1x1x2x128) _ _ _ _ _ _ _ fun a => ?_
      match a with
      | ⟨0, _⟩ => rfl
      | ⟨1, _⟩ => rfl
      | ⟨2, _⟩ => show r + 1 * 0 = r; omega
      | ⟨3, _⟩ => show 0 + 1 * ((y 0).val - o) = (y 0).val - o; omega
  · intro h
    rw [if_neg]
    intro h0
    apply h
    intro a
    match a with
    | ⟨0, _⟩ => exact h0
    | ⟨1, _⟩ => exact ⟨Nat.zero_le _, by show (y 1).val < 0 + 128; have : (y 1).val < 128 := (y 1).isLt; omega⟩

/-- The scales of the eight rows before the block are stored and read back. -/
theorem runs_scalePrev (i : grid0.Coords) (st : St F) :
    𝓡 (scalePrevP R (blkOf i)) st fun sp st' => (∀ q : S8x128.Idx, sp q = sxV I i (q 0).val) ∧ ∃ f, st' = st.setSx f ∧ ∀ y : S264x128.Idx,
      8 ≤ (y 0).val → f y = st.sx y := by
  unfold scalePrevP
  refine Runs.bind (Runs.load (focusIn_sxp R c I st) ?_)
  refine Runs.bind (Runs.loadAny (keep_of rfl (focus_sx R c I st)) fun _ => ?_)
  refine Runs.bind (Runs.store (focus_sx R c I st) ?_)
  refine Runs.load (keep_of rfl (focus_sx R c I _)) ⟨fun q => ?_, _, rfl, fun y hy => ?_⟩
  · refine (congrFun (VecWindow.window_put_same (s := S264x128) _ ![0, 0] S8x128.size inb_S264x128_S8x128_0_0 _) q).trans ?_
    refine (shapeCast_apply _ _ q q rfl).trans ?_
    have hq : (q 0).val < 8 := (q 0).isLt
    unfold sxV
    rw [if_pos hq]
    unfold Scalar.select
    by_cases hb : (i 1).val ≠ 63
    · have e : Scalar.cmpi .sgt (blkOf i) 0#32 = 1 := (behind_iff i).mpr hb
      rw [if_pos hb, if_pos e]
      refine (extractStridedSlice_apply _ _ _ q (fun a => match a with | ⟨0, _⟩ => ⟨120 + (q 0).val, by show _ < 128; omega⟩ | ⟨1, _⟩ => q 1 : S128x128.Idx) fun a => ?_).trans ?_
      · match a with
        | ⟨0, _⟩ => rfl
        | ⟨1, _⟩ => show (q 1).val = 0 + (q 1).val; omega
      refine (upright_apply _ _ (fun a => match a with | ⟨0, _⟩ => ⟨0, Nat.zero_lt_one⟩ | ⟨1, _⟩ => ⟨120 + (q 0).val, by show _ < 128; omega⟩ : S1x128.Idx) rfl).trans ?_
      refine (shapeCast_apply _ _ _ (fun a => match a with | ⟨0, _⟩ => ⟨0, Nat.zero_lt_one⟩ | ⟨1, _⟩ => ⟨0, Nat.zero_lt_one⟩ | ⟨2, _⟩ => ⟨0, Nat.zero_lt_one⟩ | ⟨3, _⟩ => ⟨120 + (q 0).val, by show _ < 128; omega⟩ : S1x1x1x128.Idx) ?_).trans ?_
      · refine (Shape.rowMajor_val_four (d := ![1, 1, 1, 128]) _).trans (Eq.trans ?_ (Shape.rowMajor_val_two (d := ![1, 128]) _).symm)
        show ((0 * 1 + 0) * 1 + 0) * 128 + (120 + (q 0).val) = 0 * 128 + (120 + (q 0).val)
        omega
      · refine window_get (s := S1x1x2x128) _ _ _ _ _ _ _ fun a => ?_
        match a with
        | ⟨0, _⟩ => rfl
        | ⟨1, _⟩ => rfl
        | ⟨2, _⟩ => rfl
        | ⟨3, _⟩ => show 0 + 1 * (120 + (q 0).val) = 120 + (q 0).val; omega
    · have e : ¬ Scalar.cmpi .sgt (blkOf i) 0#32 = 1 := fun h => hb ((behind_iff i).mp h)
      rw [if_neg hb, if_neg e]
      rfl
  · unfold put
    rw [dif_neg]
    intro h
    have h0 : (y 0).val < 0 + 8 := (h 0).2
    omega

end

end Cert.KernelIdeal.Conv
-- ==== Proof.Fill.lean ====
/- x, scaled, in its scratch: the eight rows before the block, then the block chunk by chunk. -/
module

public import proofs.«01_k».proof.Proof.Setup

@[expose] public section

noncomputable section

namespace Cert.KernelIdeal.Conv

open Idealize.ShloMosaic Idealize.SL.Sem
open Cert.KernelIdeal Facts₀ Facts
open VecWindow (window put)

variable {F : FTy → Type} [FloatOps F]

section
variable {R : Refs} {c : Dev nD} {I : In F} {bd : Defs nD τ sig (Elt F) Λ₀} {vs : Variants}

local notation "𝓡" => Runs R c I bd vs

theorem runs_prevs (i : grid0.Coords) (sp : Vec F S8x128 .f32) (hsp : ∀ q : S8x128.Idx, sp q = sxV I i (q 0).val) (st : St F) :
    𝓡 (eachGroup (prevGroupP R sp)) st fun _ st' => ∃ f, st' = st.setXs f ∧ ∀ y : S20x264x128.Idx,
      (y 1).val < 8 → f y = xsV I i (y 0).val (y 1).val (y 2).val := by
  refine Runs.each _ (fun g st' => ∃ f, st' = st.setXs f ∧ ∀ y : S20x264x128.Idx, (y 0).val < g →
      (y 1).val < 8 → f y = xsV I i (y 0).val (y 1).val (y 2).val) ⟨st.xs, rfl, fun y h => absurd h (Nat.not_lt_zero _)⟩ ?_ ?_
  · rintro g hg _ ⟨f, rfl, hf⟩
    unfold prevGroupP
    refine Runs.bind (Runs.load (focusIn_xp R c I _) ?_)
    refine Runs.bind (Runs.loadAny (keep_of rfl (focus_xs R c I _)) fun _ => ?_)
    refine Runs.store (focus_xs R c I _) ⟨_, rfl, fun y => ?_⟩
    refine put_spec (s := S20x264x128) _ _ _ _ (fun y v => (y 0).val < g + 1 → (y 1).val < 8 → v = xsV I i (y 0).val (y 1).val (y 2).val) y ?_ ?_
    · intro h _ h8
      have h0 : g ≤ (y 0).val ∧ (y 0).val < g + 1 := h 0
      have e0 : (y 0).val = g := by omega
      refine (shapeCast_apply _ _ _ (fun a => match a with | ⟨0, _⟩ => ⟨(y 1).val, h8⟩ | ⟨1, _⟩ => y 2 : S8x128.Idx) ?_).trans ?_
      · refine (Shape.rowMajor_val_two (d := ![8, 128]) _).trans (Eq.trans ?_ (Shape.rowMajor_val_three (d := ![1, 8, 128]) _).symm)
        show (y 1).val * 128 + (y 2).val = (((y 0).val - g) * 8 + ((y 1).val - 0)) * 128 + ((y 2).val - 0)
        rw [e0]; omega
      unfold xsV
      rw [if_pos h8]
      refine congrArg₂ FloatOps.mulf ?_ (hsp _)
      refine (extractStridedSlice_apply _ _ _ _ (fun a => match a with | ⟨0, _⟩ => ⟨24 + (y 1).val, by show _ < 32; omega⟩ | ⟨1, _⟩ => y 2 : S32x128.Idx) fun a => ?_).trans ?_
      · match a with
        | ⟨0, _⟩ => rfl
        | ⟨1, _⟩ => show (y 2).val = 0 + (y 2).val; omega
      refine (congrArg (FloatOps.extf _ _) (flat_apply _ _ (fun a => match a with | ⟨0, _⟩ => ⟨0, Nat.zero_lt_one⟩ | ⟨1, _⟩ => ⟨24 + (y 1).val, by show _ < 32; omega⟩ | ⟨2, _⟩ => y 2 : S1x32x128.Idx) rfl rfl)).trans ?_
      refine window_get (s := S1x32x2560) (extf .f32 I.xp bitsLt_fp8e4m3_f32) _ _ _ _ _ _ fun a => ?_
      match a with
      | ⟨0, _⟩ => rfl
      | ⟨1, _⟩ => show 0 + 1 * (24 + (y 1).val) = 24 + (y 1).val; omega
      | ⟨2, _⟩ => show 128 * g + 1 * (y 2).val = 128 * (y 0).val + (y 2).val; rw [e0]; omega
    · intro h hg' h8
      refine hf y ?_ h8
      by_contra hn
      apply h
      intro a
      match a with
      | ⟨0, _⟩ => exact ⟨by show g ≤ (y 0).val; omega, hg'⟩
      | ⟨1, _⟩ => exact ⟨Nat.zero_le _, by show (y 1).val < 0 + 8; omega⟩
      | ⟨2, _⟩ => exact ⟨Nat.zero_le _, by show (y 2).val < 0 + 128; have : (y 2).val < 128 := (y 2).isLt; omega⟩
  · rintro _ ⟨f, rfl, hf⟩
    exact ⟨f, rfl, fun y => hf y (y 0).isLt⟩

theorem runs_load (i : grid0.Coords) (t : Fin k0_t4_loop.trips) (st : St F) (hsx : ∀ y : S264x128.Idx, 8 ≤ (y 0).val → st.sx y = sxV I i (y 0).val)
    (hx : ∀ y : S20x264x128.Idx, (y 1).val < 32 * t.val + 8 → st.xs y = xsV I i (y 0).val (y 1).val (y 2).val) :
    𝓡 (loadP R t) st fun _ st' => ∃ f, st' = st.setXs f ∧ ∀ y : S20x264x128.Idx,
      (y 1).val < 32 * (t.val + 1) + 8 → f y = xsV I i (y 0).val (y 1).val (y 2).val := by
  have ht := ldRow8_le t
  have ht8 := ldRow8_eq t
  have htl := ldRow_eq t
  unfold loadP
  refine Runs.bind (Runs.load (keep_of rfl (focus_sx R c I _)) ?_)
  have hsc : ∀ q : S32x128.Idx, window (s := S264x128) st.sx ![ldRow8 t, 0] S32x128.size (inb2 (ldRow8_le t) (by decide)) q = sxV I i (ldRow8 t + (q 0).val) := by
    intro q
    refine (hsx _ ?_).trans (congrArg (sxV I i) ?_)
    · show 8 ≤ ldRow8 t + 1 * (q 0).val; omega
    · show ldRow8 t + 1 * (q 0).val = ldRow8 t + (q 0).val; omega
  generalize window (s := S264x128) st.sx ![ldRow8 t, 0] S32x128.size (inb2 (ldRow8_le t) (by decide)) = sc at hsc ⊢
  refine Runs.each _ (fun g st' => ∃ f, st' = st.setXs f ∧ ∀ y : S20x264x128.Idx, ((y 1).val < 32 * t.val + 8 ∨ (y 0).val < g) →
      (y 1).val < 32 * (t.val + 1) + 8 → f y = xsV I i (y 0).val (y 1).val (y 2).val) ⟨st.xs, rfl, fun y h h' => hx y (by omega)⟩ ?_ ?_
  · rintro g hg _ ⟨f, rfl, hf⟩
    unfold loadGroupP
    refine Runs.bind (Runs.load (focusIn_x R c I _) ?_)
    refine Runs.bind (Runs.loadAny (keep_of rfl (focus_xs R c I _)) fun _ => ?_)
    refine Runs.store (focus_xs R c I _) ⟨_, rfl, fun y => ?_⟩
    refine put_spec (s := S20x264x128) _ _ _ _ (fun y v => ((y 1).val < 32 * t.val + 8 ∨ (y 0).val < g + 1) → (y 1).val < 32 * (t.val + 1) + 8 → v = xsV I i (y 0).val (y 1).val (y 2).val) y ?_ ?_
    · intro h _ _
      have h0 : g ≤ (y 0).val ∧ (y 0).val < g + 1 := h 0
      have h1 : ldRow8 t ≤ (y 1).val ∧ (y 1).val < ldRow8 t + 32 := h 1
      have e0 : (y 0).val = g := by omega
      have hq : (y 1).val - ldRow8 t < 32 := by omega
      refine (unflat_apply _ _ (fun a => match a with | ⟨0, _⟩ => ⟨(y 1).val - ldRow8 t, hq⟩ | ⟨1, _⟩ => y 2 : S32x128.Idx) rfl ?_).trans ?_
      · show (y 2).val - 0 = (y 2).val; omega
      unfold xsV
      rw [if_neg (by omega)]
      refine congrArg₂ FloatOps.mulf ?_ ((hsc _).trans (congrArg (sxV I i) ?_))
      · refine (congrArg (FloatOps.extf _ _) (flat_apply _ _ (fun a => match a with | ⟨0, _⟩ => ⟨0, Nat.zero_lt_one⟩ | ⟨1, _⟩ => ⟨(y 1).val - ldRow8 t, hq⟩ | ⟨2, _⟩ => y 2 : S1x32x128.Idx) rfl rfl)).trans ?_
        refine window_get (s := S1x256x2560) (extf .f32 I.x bitsLt_fp8e4m3_f32) _ _ _ _ _ _ fun a => ?_
        match a with
        | ⟨0, _⟩ => rfl
        | ⟨1, _⟩ => show ldRow t + 1 * ((y 1).val - ldRow8 t) = (y 1).val - 8; omega
        | ⟨2, _⟩ => show 128 * g + 1 * (y 2).val = 128 * (y 0).val + (y 2).val; rw [e0]; omega
      · show ldRow8 t + ((y 1).val - ldRow8 t) = (y 1).val; omega
    · intro h hg' h8
      refine hf y ?_ h8
      by_contra hn
      apply h
      intro a
      match a with
      | ⟨0, _⟩ => exact ⟨by show g ≤ (y 0).val; omega, by show (y 0).val < g + 1; omega⟩
      | ⟨1, _⟩ => exact ⟨by show ldRow8 t ≤ (y 1).val; omega, by show (y 1).val < ldRow8 t + 32; omega⟩
      | ⟨2, _⟩ => exact ⟨Nat.zero_le _, by show (y 2).val < 0 + 128; have : (y 2).val < 128 := (y 2).isLt; omega⟩
  · rintro _ ⟨f, rfl, hf⟩
    exact ⟨f, rfl, fun y h => hf y (.inr (y 0).isLt) h⟩

theorem runs_loads (i : grid0.Coords) (st : St F) (hsx : ∀ y : S264x128.Idx, 8 ≤ (y 0).val → st.sx y = sxV I i (y 0).val)
    (hx : ∀ y : S20x264x128.Idx, (y 1).val < 8 → st.xs y = xsV I i (y 0).val (y 1).val (y 2).val) :
    𝓡 (Scf.Loop.for k0_t4_loop k0_t4_ok ⟨⟩ fun t _ => loadP R t) st fun _ st' => ∃ f, st' = st.setXs f ∧ ∀ y : S20x264x128.Idx,
      f y = xsV I i (y 0).val (y 1).val (y 2).val := by
  refine Runs.loop _ _ _ (fun k st' => ∃ f, st' = st.setXs f ∧ ∀ y : S20x264x128.Idx,
      (y 1).val < 32 * k + 8 → f y = xsV I i (y 0).val (y 1).val (y 2).val) ⟨st.xs, rfl, fun y h => hx y (by omega)⟩ ?_ ?_
  · rintro t _ ⟨f, rfl, hf⟩
    refine (runs_load i t (st.setXs f) hsx hf).mono ?_
    rintro _ _ ⟨f', rfl, hf'⟩
    exact ⟨f', rfl, hf'⟩
  · rintro _ ⟨f, rfl, hf⟩
    rw [trips4] at hf
    refine ⟨f, rfl, fun y => hf y ?_⟩
    have : (y 1).val < 264 := (y 1).isLt
    omega

end

end Cert.KernelIdeal.Conv
-- ==== Proof.Head.lean ====
/- The start of a grid point: on a row's first block the keep rows and the flags are made from the table of boundaries
   and the rows behind the block are zero; later the rows behind the block are the first rows of the block before. -/
module

public import proofs.«01_k».proof.Proof.Fill

@[expose] public section

noncomputable section

namespace Cert.KernelIdeal.Conv

open Idealize.ShloMosaic Idealize.SL.Sem
open Cert.KernelIdeal Facts₀ Facts
open VecWindow (window put)

variable {F : FTy → Type} [FloatOps F]

/-- What a grid point finds in the scratches and in the sums' buffer (`rd`): the keep rows and flags of its row, the first rows of dz of the block
    before, the accumulators; nothing is asked of them where the point makes them itself. -/
structure Entry (I : In F) (i : grid0.Coords) (tail : ℕ → ℕ → ℕ → F .f32) (a : ℕ → ℕ → ℕ → ℕ → F .f32) (rd : Vec F S8x2560 .f32) (st : St F) : Prop where
  keep : (i 1).val ≠ 0 → ∀ y : S16512x128.Idx, st.keep y = keepV I.cu (i 0).val 62 (y 0).val
  flag : (i 1).val ≠ 0 → ∀ y : S514.Idx, st.flag y = flagV I.cu (i 0).val 62 (y 0).val
  dz : (i 1).val ≠ 0 → ∀ y : S20x264x128.Idx, (y 1).val < 8 → st.dz y = tail (y 0).val (y 1).val (y 2).val
  acc : ¬ ((i 0).val = 0 ∧ (i 1).val = 0) → ∀ y : S20x5x8x128.Idx, st.acc y = a (y 0).val (y 1).val (y 2).val (y 3).val
  dz0 : (i 1).val = 0 → tail = fun _ _ _ => c0
  acc0 : (i 0).val = 0 ∧ (i 1).val = 0 → a = fun _ _ _ _ => c0
  red : st.red = rd

/-- What a grid point holds after its start. -/
structure Begun (I : In F) (i : grid0.Coords) (tail : ℕ → ℕ → ℕ → F .f32) (a : ℕ → ℕ → ℕ → ℕ → F .f32) (rd : Vec F S8x2560 .f32) (st : St F) : Prop where
  keep : ∀ y : S16512x128.Idx, st.keep y = keepV I.cu (i 0).val 62 (y 0).val
  flag : ∀ y : S514.Idx, st.flag y = flagV I.cu (i 0).val 62 (y 0).val
  dz : ∀ y : S20x264x128.Idx, 256 ≤ (y 1).val → st.dz y = tail (y 0).val ((y 1).val - 256) (y 2).val
  acc : ∀ y : S20x5x8x128.Idx, st.acc y = a (y 0).val (y 1).val (y 2).val (y 3).val
  red : st.red = rd

/-- The first point of all makes the accumulators zero. -/
def firstP (R : Refs) (i : grid0.Coords) : P F PUnit :=
  if _h : Scalar.cmpi .ne (Scalar.extui (Scalar.andi (Scalar.cmpi .eq (BitVec.ofNat 32 (i 0).val) 0#32)
      (Scalar.cmpi .eq (BitVec.ofNat 32 (i 1).val) 0#32)) : BitVec 32) 0#32 = 1#1 then resetAccP R else pure ⟨⟩

/-- A row's first block makes its keep rows, its flags and the zeros behind it. -/
def rowP (R : Refs) (i : grid0.Coords) : P F PUnit :=
  if h : k0_cond2 i = 1#1 then do
    putTailP R (broadcast S20x8x128 (c0 : F .f32))
    Scf.Loop.for k0_t1_loop (k0_t1_ok i h) ⟨⟩ fun t _ => clearFlagP R i h t
    Scf.Loop.for k0_t2_loop (k0_t2_ok i h) ⟨⟩ fun t _ => clearKeepP R i h t
    Scf.Loop.for k0_t3_loop (k0_t3_ok i h) ⟨⟩ fun t _ => markP R i h t
  else pure ⟨⟩

/-- A later block takes the rows behind it over. -/
def laterP (R : Refs) (i : grid0.Coords) : P F PUnit :=
  if _h : Scalar.cmpi .ne (Scalar.extui (Scalar.cmpi .sgt (BitVec.ofNat 32 (i 1).val) 0#32) : BitVec 32) 0#32 = 1#1 then carryP R else pure ⟨⟩

theorem headP_eq (R : Refs) (i : grid0.Coords) : headP (F := F) R i = (do
    firstP R i
    rowP R i
    laterP R i
    scaleXP R 0 8 (by decide) (by decide)
    scaleDyP R 0 0 (by decide) (by decide)
    pure ⟨BitVec.ofNat 32 (i 0).val, BitVec.ofNat 32 (i 1).val, blkOf i, Scalar.muli (blkOf i) 256#32⟩) := by
  unfold headP firstP rowP laterP
  dsimp only
  split <;> split <;> split <;> simp only [bind_assoc, pure_bind]

section
variable {R : Refs} {c : Dev nD} {I : In F} {bd : Defs nD τ sig (Elt F) Λ₀} {vs : Variants}

local notation "𝓡" => Runs R c I bd vs

theorem runs_resetAcc (st : St F) : 𝓡 (resetAccP R) st fun _ st' => st' = st.setAcc (fun _ => c0) := by
  unfold resetAccP
  refine Runs.bind (Runs.loadAny (keep_of rfl (focus_acc R c I _)) fun _ => ?_)
  refine Runs.bind (Runs.store (focus_acc R c I _) (Runs.ret ?_))
  refine congrArg (fun f => st.setAcc f) (funext fun y => ?_)
  refine put_spec (s := S20x5x8x128) _ _ _ _ (fun y v => v = c0) y (fun h => rfl) fun h => ?_
  refine absurd (fun a => ?_) h
  match a with
  | ⟨0, _⟩ => exact ⟨Nat.zero_le _, by show (y 0).val < 0 + 20; have : (y 0).val < 20 := (y 0).isLt; omega⟩
  | ⟨1, _⟩ => exact ⟨Nat.zero_le _, by show (y 1).val < 0 + 5; have : (y 1).val < 5 := (y 1).isLt; omega⟩
  | ⟨2, _⟩ => exact ⟨Nat.zero_le _, by show (y 2).val < 0 + 8; have : (y 2).val < 8 := (y 2).isLt; omega⟩
  | ⟨3, _⟩ => exact ⟨Nat.zero_le _, by show (y 3).val < 0 + 128; have : (y 3).val < 128 := (y 3).isLt; omega⟩

theorem runs_putTail (tail : ℕ → ℕ → ℕ → F .f32) (v : Vec F S20x8x128 .f32) (hv : ∀ q : S20x8x128.Idx, v q = tail (q 0).val (q 1).val (q 2).val) (st : St F) :
    𝓡 (putTailP R v) st fun _ st' => ∃ f, st' = st.setDz f ∧ ∀ y : S20x264x128.Idx, 256 ≤ (y 1).val → f y = tail (y 0).val ((y 1).val - 256) (y 2).val := by
  unfold putTailP
  refine Runs.bind (Runs.loadAny (keep_of rfl (focus_dz R c I _)) fun _ => ?_)
  refine Runs.store (focus_dz R c I _) ⟨_, rfl, fun y h1 => ?_⟩
  have l1 : (y 1).val < 264 := (y 1).isLt
  refine put_spec (s := S20x264x128) _ _ _ _ (fun y v => 256 ≤ (y 1).val → v = tail (y 0).val ((y 1).val - 256) (y 2).val) y (fun h _ => ?_) (fun h => ?_) h1
  · refine (shapeCast_apply _ _ _ (fun a => match a with | ⟨0, _⟩ => y 0 | ⟨1, _⟩ => ⟨(y 1).val - 256, by show _ < 8; omega⟩ | ⟨2, _⟩ => y 2 : S20x8x128.Idx) ?_).trans (hv _)
    refine (Shape.rowMajor_val_three (d := ![20, 8, 128]) _).trans (Eq.trans ?_ (Shape.rowMajor_val_three (d := ![20, 8, 128]) _).symm)
    show ((y 0).val * 8 + ((y 1).val - 256)) * 128 + (y 2).val = (((y 0).val - 0) * 8 + ((y 1).val - 256)) * 128 + ((y 2).val - 0)
    omega
  · refine absurd (fun a => ?_) h
    match a with
    | ⟨0, _⟩ => exact ⟨Nat.zero_le _, by show (y 0).val < 0 + 20; have : (y 0).val < 20 := (y 0).isLt; omega⟩
    | ⟨1, _⟩ => exact ⟨h1, by show (y 1).val < 256 + 8; omega⟩
    | ⟨2, _⟩ => exact ⟨Nat.zero_le _, by show (y 2).val < 0 + 128; have : (y 2).val < 128 := (y 2).isLt; omega⟩

theorem runs_carry (tail : ℕ → ℕ → ℕ → F .f32) (st : St F) (hd : ∀ y : S20x264x128.Idx, (y 1).val < 8 → st.dz y = tail (y 0).val (y 1).val (y 2).val) :
    𝓡 (carryP R) st fun _ st' => ∃ f, st' = st.setDz f ∧ ∀ y : S20x264x128.Idx, 256 ≤ (y 1).val → f y = tail (y 0).val ((y 1).val - 256) (y 2).val := by
  unfold carryP
  refine Runs.bind (Runs.load (keep_of rfl (focus_dz R c I _)) ?_)
  refine Runs.bind ((runs_putTail tail _ (fun q => ?_) st).mono fun _ st' h => Runs.ret h)
  refine (hd _ ?_).trans ?_
  · show 0 + 1 * (q 1).val < 8; have : (q 1).val < 8 := (q 1).isLt; omega
  · show tail (0 + 1 * (q 0).val) (0 + 1 * (q 1).val) (0 + 1 * (q 2).val) = _
    simp only [Nat.zero_add, Nat.one_mul]

theorem runs_clearFlags (i : grid0.Coords) (h : k0_cond2 i = 1#1) (b : ℕ) (st : St F) :
    𝓡 (Scf.Loop.for k0_t1_loop (k0_t1_ok i h) ⟨⟩ fun t _ => clearFlagP R i h t) st fun _ st' => ∃ f, st' = st.setFlag f ∧ ∀ y : S514.Idx, f y = flagV I.cu b 0 (y 0).val := by
  have e : ∀ q, flagV I.cu b 0 q = 0#32 := fun q => if_neg (by rintro ⟨k, hk, _⟩; exact absurd hk (Nat.not_lt_zero _))
  refine Runs.loop _ _ _ (fun k st' => ∃ f, st' = st.setFlag f ∧ ∀ y : S514.Idx, (y 0).val < k → f y = 0#32) ⟨st.flag, rfl, fun y hy => absurd hy (Nat.not_lt_zero _)⟩ ?_ ?_
  · rintro t _ ⟨f, rfl, hf⟩
    unfold clearFlagP
    refine Runs.bind (Runs.word (keep_of rfl (focus_flag R c I _)) ?_)
    refine Runs.store (focus_flag R c I _) ⟨_, rfl, fun y => ?_⟩
    refine put_spec (s := S514) _ _ _ _ (fun y v => (y 0).val < t.val + 1 → v = 0#32) y (fun _ _ => rfl) fun hn hy => hf y ?_
    by_contra hk
    apply hn
    intro a
    match a with
    | ⟨0, _⟩ => show k0_off1 t 0 ≤ (y 0).val ∧ (y 0).val < k0_off1 t 0 + 1; rw [off1_eq]; omega
  · rintro _ ⟨f, rfl, hf⟩
    rw [trips1] at hf
    exact ⟨f, rfl, fun y => (hf y (y 0).isLt).trans (e _).symm⟩

theorem runs_clearKeeps (i : grid0.Coords) (h : k0_cond2 i = 1#1) (b : ℕ) (st : St F) :
    𝓡 (Scf.Loop.for k0_t2_loop (k0_t2_ok i h) ⟨⟩ fun t _ => clearKeepP R i h t) st fun _ st' => ∃ f, st' = st.setKeep f ∧ ∀ y : S16512x128.Idx, f y = keepV I.cu b 0 (y 0).val := by
  have e : ∀ q, keepV (F := F) I.cu b 0 q = c1 := fun q => if_neg (by rintro ⟨k, hk, _⟩; exact absurd hk (Nat.not_lt_zero _))
  refine Runs.loop _ _ _ (fun k st' => ∃ f, st' = st.setKeep f ∧ ∀ y : S16512x128.Idx, (y 0).val < 128 * k → f y = c1) ⟨st.keep, rfl, fun y hy => absurd hy (Nat.not_lt_zero _)⟩ ?_ ?_
  · rintro t _ ⟨f, rfl, hf⟩
    unfold clearKeepP
    refine Runs.bind (Runs.loadAny (keep_of rfl (focus_keep R c I _)) fun _ => ?_)
    refine Runs.store (focus_keep R c I _) ⟨_, rfl, fun y => ?_⟩
    refine put_spec (s := S16512x128) _ _ _ _ (fun y v => (y 0).val < 128 * (t.val + 1) → v = c1) y (fun _ _ => rfl) fun hn hy => hf y ?_
    by_contra hk
    apply hn
    intro a
    match a with
    | ⟨0, _⟩ => show k0_off2 t 0 ≤ (y 0).val ∧ (y 0).val < k0_off2 t 0 + 128; rw [off2_eq]; omega
    | ⟨1, _⟩ => show k0_off2 t 1 ≤ (y 1).val ∧ (y 1).val < k0_off2 t 1 + 128; rw [off2_eq1]; have : (y 1).val < 128 := (y 1).isLt; omega
  · rintro _ ⟨f, rfl, hf⟩
    rw [trips2] at hf
    exact ⟨f, rfl, fun y => (hf y (y 0).isLt).trans (e _).symm⟩

theorem keepV_succ (cu : Vec F S128 .i32) (b n r : ℕ) :
    keepV (F := F) cu b (n + 1) r = if word cu (64 * b + n + 1) + 8 = r then c0 else keepV cu b n r := by
  unfold keepV
  by_cases h : word cu (64 * b + n + 1) + 8 = r
  · rw [if_pos h, if_pos ⟨n, Nat.lt_succ_self n, h⟩]
  · rw [if_neg h]
    refine if_congr ⟨?_, ?_⟩ rfl rfl
    · rintro ⟨k, hk, e⟩
      rcases Nat.lt_succ_iff_lt_or_eq.mp hk with hk | rfl
      · exact ⟨k, hk, e⟩
      · exact absurd e h
    · rintro ⟨k, hk, e⟩; exact ⟨k, hk.trans (Nat.lt_succ_self n), e⟩

theorem flagV_succ (cu : Vec F S128 .i32) (b n q : ℕ) :
    flagV cu b (n + 1) q = if (word cu (64 * b + n + 1) + 34) / 32 = q then 1#32 else if (word cu (64 * b + n + 1) + 29) / 32 = q then 1#32 else flagV cu b n q := by
  unfold flagV
  by_cases h : (word cu (64 * b + n + 1) + 34) / 32 = q
  · rw [if_pos h, if_pos ⟨n, Nat.lt_succ_self n, .inr h⟩]
  by_cases h' : (word cu (64 * b + n + 1) + 29) / 32 = q
  · rw [if_neg h, if_pos h', if_pos ⟨n, Nat.lt_succ_self n, .inl h'⟩]
  · rw [if_neg h, if_neg h']
    refine if_congr ⟨?_, ?_⟩ rfl rfl
    · rintro ⟨k, hk, e⟩
      rcases Nat.lt_succ_iff_lt_or_eq.mp hk with hk | rfl
      · exact ⟨k, hk, e⟩
      · exact absurd e (by rintro (e | e); exacts [h' e, h e])
    · rintro ⟨k, hk, e⟩; exact ⟨k, hk.trans (Nat.lt_succ_self n), e⟩

theorem runs_setFlag (off : Fin S514.rank → ℕ) (hr : ∀ a, off a + S1.size a ≤ S514.size a) (st : St F) :
    𝓡 (setFlagP R off hr) st fun _ st' => ∃ f, st' = st.setFlag f ∧ ∀ y : S514.Idx, f y = if off 0 = (y 0).val then 1#32 else st.flag y := by
  unfold setFlagP
  refine Runs.bind (Runs.word (keep_of rfl (focus_flag R c I _)) ?_)
  refine Runs.store (focus_flag R c I _) ⟨_, rfl, fun y => ?_⟩
  refine put_spec (s := S514) _ _ _ _ (fun y v => v = if off 0 = (y 0).val then 1#32 else st.flag y) y (fun hi => ?_) fun hn => ?_
  · have h0 : off 0 ≤ (y 0).val ∧ (y 0).val < off 0 + 1 := hi 0
    rw [if_pos (by omega)]
  · rw [if_neg]
    intro e
    apply hn
    intro a
    match a with
    | ⟨0, _⟩ => show off 0 ≤ (y 0).val ∧ (y 0).val < off 0 + 1; omega

theorem runs_marks (hcu : ∀ n, word I.cu n ≤ 16384) (i : grid0.Coords) (h : k0_cond2 i = 1#1) (st : St F)
    (hk : ∀ y : S16512x128.Idx, st.keep y = keepV I.cu (i 0).val 0 (y 0).val) (hf : ∀ y : S514.Idx, st.flag y = flagV I.cu (i 0).val 0 (y 0).val) :
    𝓡 (Scf.Loop.for k0_t3_loop (k0_t3_ok i h) ⟨⟩ fun t _ => markP R i h t) st fun _ st' => ∃ f f', st' = (st.setKeep f).setFlag f' ∧
      (∀ y : S16512x128.Idx, f y = keepV I.cu (i 0).val 62 (y 0).val) ∧ ∀ y : S514.Idx, f' y = flagV I.cu (i 0).val 62 (y 0).val := by
  refine Runs.loop _ _ _ (fun k st' => ∃ f f', st' = (st.setKeep f).setFlag f' ∧
      (∀ y : S16512x128.Idx, f y = keepV I.cu (i 0).val k (y 0).val) ∧ ∀ y : S514.Idx, f' y = flagV I.cu (i 0).val k (y 0).val) ⟨st.keep, st.flag, rfl, hk, hf⟩ ?_ ?_
  · rintro t _ ⟨f, f', rfl, hf, hf'⟩
    unfold markP
    refine Runs.bind (Runs.word (focusIn_cu R c I _) ?_)
    have hw : ∀ z, BitVec.toNat (window (s := S128) I.cu (k0_off3 i t) S1.size (k0_off3_inb i t h) z) = word I.cu (64 * (i 0).val + t.val + 1) := by
      intro z
      refine congrArg BitVec.toNat (window_get (s := S128) _ _ _ _ _ _ _ fun a => ?_)
      match a with
      | ⟨0, _⟩ =>
        show k0_off3 i t 0 + 1 * (z 0).val = 64 * (i 0).val + t.val + 1
        have hz : (z 0).val < 1 := (z 0).isLt
        rw [off3_eq]; omega
    have hw := hw (Shape.Idx.first (numel1_S1.symm ▸ Nat.one_pos))
    generalize window (s := S128) I.cu (k0_off3 i t) S1.size (k0_off3_inb i t h) (Shape.Idx.first (numel1_S1.symm ▸ Nat.one_pos)) = v at hw ⊢
    have hv : BitVec.toNat v ≤ 16384 := hw ▸ hcu _
    refine Runs.bind (Runs.assume (chk1 i v hv) ?_)
    refine Runs.bind (Runs.loadAny (keep_of rfl (focus_keep R c I _)) fun _ => ?_)
    refine Runs.bind (Runs.store (focus_keep R c I _) ?_)
    refine Runs.bind ((runs_setFlag _ _ _).mono ?_)
    rintro _ _ ⟨f1, rfl, h1⟩
    refine (runs_setFlag _ _ _).mono ?_
    rintro _ _ ⟨f2, rfl, h2⟩
    refine ⟨_, f2, rfl, fun y => ?_, fun y => ?_⟩
    · rw [keepV_succ, ← hw]
      refine put_spec (s := S16512x128) _ _ _ _ (fun y u => u = if BitVec.toNat v + 8 = (y 0).val then c0 else keepV I.cu (i 0).val t.val (y 0).val) y (fun hi => ?_) fun hn => ?_
      · have h0 : k0_off4 v 0 ≤ (y 0).val ∧ (y 0).val < k0_off4 v 0 + 1 := hi 0
        rw [off4_eq v hv] at h0
        rw [if_pos (by omega)]
        rfl
      · rw [if_neg]
        · exact hf y
        intro e
        apply hn
        intro a
        match a with
        | ⟨0, _⟩ => show k0_off4 v 0 ≤ (y 0).val ∧ (y 0).val < k0_off4 v 0 + 1; rw [off4_eq v hv]; omega
        | ⟨1, _⟩ => show k0_off4 v 1 ≤ (y 1).val ∧ (y 1).val < k0_off4 v 1 + 128; rw [off4_eq1]; have : (y 1).val < 128 := (y 1).isLt; omega
    · rw [h2 y, flagV_succ, ← hw, off6_eq v hv]
      refine if_congr Iff.rfl rfl ?_
      refine (h1 y).trans ?_
      rw [off5_eq v hv]
      exact if_congr Iff.rfl rfl (hf' y)
  · rintro _ ⟨f, f', rfl, hf, hf'⟩
    rw [trips3] at hf hf'
    exact ⟨f, f', rfl, hf, hf'⟩

/-- The start of a grid point. -/
theorem runs_head (hcu : ∀ n, word I.cu n ≤ 16384) (i : grid0.Coords) (tail : ℕ → ℕ → ℕ → F .f32) (a : ℕ → ℕ → ℕ → ℕ → F .f32) (rd : Vec F S8x2560 .f32)
    (st : St F) (he : Entry I i tail a rd st) :
    𝓡 (headP R i) st fun r st' => r.2.2.1 = blkOf i ∧ Begun I i tail a rd st' ∧
      (∀ y : S264x128.Idx, 8 ≤ (y 0).val → (y 0).val < 136 → st'.sx y = get (s := S1x1x2x128) I.sx c0 ![0, 0, 0, (y 0).val - 8]) ∧
      ∀ y : S256x128.Idx, (y 0).val < 128 → st'.sdy y = FloatOps.mulf cHalf (get (s := S1x1x2x128) I.sdy c0 ![0, 0, 0, (y 0).val]) := by
  rw [headP_eq]
  have s1 : 𝓡 (firstP R i) st fun _ st' =>
      Entry I i tail a rd st' ∧ ∀ y : S20x5x8x128.Idx, st'.acc y = a (y 0).val (y 1).val (y 2).val (y 3).val := by
    refine Runs.dite (fun h => (runs_resetAcc st).mono ?_) fun h => Runs.ret ⟨he, he.acc fun h' => h ((first_iff i).mpr h')⟩
    rintro _ _ rfl
    have ha := he.acc0 ((first_iff i).mp h)
    exact ⟨⟨he.keep, he.flag, he.dz, fun h' => absurd ((first_iff i).mp h) h', he.dz0, he.acc0, he.red⟩, fun y => by rw [ha]⟩
  refine Runs.bind (s1.mono ?_)
  rintro _ st1 ⟨he1, ha1⟩
  have s2 : 𝓡 (rowP R i) st1 fun _ st' => (∀ y : S16512x128.Idx, st'.keep y = keepV I.cu (i 0).val 62 (y 0).val) ∧
      (∀ y : S514.Idx, st'.flag y = flagV I.cu (i 0).val 62 (y 0).val) ∧ st'.acc = st1.acc ∧ st'.red = st1.red ∧
      (if (i 1).val = 0 then ∀ y : S20x264x128.Idx, 256 ≤ (y 1).val → st'.dz y = tail (y 0).val ((y 1).val - 256) (y 2).val
        else ∀ y : S20x264x128.Idx, (y 1).val < 8 → st'.dz y = tail (y 0).val (y 1).val (y 2).val) := by
    refine Runs.dite (fun h => ?_) fun h => ?_
    · have h0 := (cond2_iff i).mp h
      refine Runs.bind ((runs_putTail tail _ (fun q => ?_) st1).mono ?_)
      · rw [he1.dz0 h0]; rfl
      rintro _ _ ⟨f, rfl, hf⟩
      refine Runs.bind ((runs_clearFlags i h (i 0).val _).mono ?_)
      rintro _ _ ⟨f1, rfl, hf1⟩
      refine Runs.bind ((runs_clearKeeps i h (i 0).val _).mono ?_)
      rintro _ _ ⟨f2, rfl, hf2⟩
      refine (runs_marks hcu i h _ hf2 hf1).mono ?_
      rintro _ _ ⟨f3, f4, rfl, hf3, hf4⟩
      refine ⟨hf3, hf4, rfl, rfl, ?_⟩
      rw [if_pos h0]
      exact hf
    · have h0 : (i 1).val ≠ 0 := fun h' => h ((cond2_iff i).mpr h')
      refine Runs.ret ⟨he1.keep h0, he1.flag h0, rfl, rfl, ?_⟩
      rw [if_neg h0]
      exact he1.dz h0
  refine Runs.bind (s2.mono ?_)
  rintro _ st2 ⟨hk2, hf2, ha2, hr2, hd2⟩
  have s3 : 𝓡 (laterP R i) st2 fun _ st' => Begun I i tail a rd st' := by
    refine Runs.dite (fun h => ?_) fun h => ?_
    · rw [if_neg ((later_iff i).mp h)] at hd2
      refine (runs_carry tail st2 hd2).mono ?_
      rintro _ _ ⟨f, rfl, hf⟩
      exact ⟨hk2, hf2, hf, fun y => (congrFun ha2 y).trans (ha1 y), hr2.trans he1.red⟩
    · rw [if_pos (by by_contra h'; exact h ((later_iff i).mpr h'))] at hd2
      exact Runs.ret ⟨hk2, hf2, hd2, fun y => (congrFun ha2 y).trans (ha1 y), hr2.trans he1.red⟩
  refine Runs.bind (s3.mono ?_)
  rintro _ st3 hb
  refine Runs.bind ((runs_scaleX 0 8 _ _ st3).mono ?_)
  rintro _ _ ⟨f, rfl, hf⟩
  refine Runs.bind ((runs_scaleDy 0 0 _ _ _).mono ?_)
  rintro _ _ ⟨f', rfl, hf'⟩
  refine Runs.ret ⟨rfl, ⟨hb.keep, hb.flag, hb.dz, hb.acc, hb.red⟩, fun y h1 h2 => ?_, fun y h1 => ?_⟩
  · exact (hf y).trans (if_pos ⟨h1, h2⟩)
  · exact (hf' y).trans (if_pos ⟨Nat.zero_le _, by omega⟩)

/-- What a grid point holds before its chunks. -/
structure Ready (I : In F) (i : grid0.Coords) (tail : ℕ → ℕ → ℕ → F .f32) (a : ℕ → ℕ → ℕ → ℕ → F .f32) (rd : Vec F S8x2560 .f32) (st : St F) : Prop where
  begun : Begun I i tail a rd st
  xs : ∀ y : S20x264x128.Idx, st.xs y = xsV I i (y 0).val (y 1).val (y 2).val
  sdy : ∀ y : S256x128.Idx, st.sdy y = sdyV I (y 0).val

/-- The body from its start to its chunks, followed by anything. -/
theorem runs_ready (hcu : ∀ n, word I.cu n ≤ 16384) (i : grid0.Coords) (tail : ℕ → ℕ → ℕ → F .f32) (a : ℕ → ℕ → ℕ → ℕ → F .f32) (rd : Vec F S8x2560 .f32)
    (st : St F) (he : Entry I i tail a rd st) (k : P F PUnit) {Post : PUnit → St F → Prop} (hk : ∀ st', Ready I i tail a rd st' → 𝓡 k st' Post) :
    𝓡 (do
      let ⟨_, _, blk, _⟩ ← headP R i
      scaleXP R 1 136 (by decide) (by decide)
      scaleDyP R 1 128 (by decide) (by decide)
      let sp ← scalePrevP R blk
      eachGroup (prevGroupP R sp)
      Scf.Loop.for k0_t4_loop k0_t4_ok ⟨⟩ fun t _ => loadP R t
      k) st Post := by
  refine Runs.bind ((runs_head hcu i tail a rd st he).mono ?_)
  rintro ⟨w0, w1, b, w3⟩ st1 ⟨hb, hbeg, hsx, hsdy⟩
  obtain rfl : b = blkOf i := hb
  refine Runs.bind ((runs_scaleX 1 136 _ _ st1).mono ?_)
  rintro _ _ ⟨f, rfl, hf⟩
  refine Runs.bind ((runs_scaleDy 1 128 _ _ _).mono ?_)
  rintro _ _ ⟨f1, rfl, hf1⟩
  refine Runs.bind ((runs_scalePrev i _).mono ?_)
  rintro sp _ ⟨hsp, f2, rfl, hf2⟩
  refine Runs.bind ((runs_prevs i sp hsp _).mono ?_)
  rintro _ _ ⟨f3, rfl, hf3⟩
  refine Runs.bind ((runs_loads i _ (fun y hy => ?_) hf3).mono ?_)
  · refine (hf2 y hy).trans ((hf y).trans ?_)
    have l : (y 0).val < 264 := (y 0).isLt
    unfold sxV
    rw [if_neg (show ¬ (y 0).val < 8 by omega)]
    by_cases h : (y 0).val < 136
    · rw [if_neg (by omega)]
      refine (hsx y hy h).trans ?_
      rw [show ((y 0).val - 8) / 128 = 0 by omega, show ((y 0).val - 8) % 128 = (y 0).val - 8 by omega]
    · rw [if_pos ⟨by omega, by omega⟩, show ((y 0).val - 8) / 128 = 1 by omega, show ((y 0).val - 8) % 128 = (y 0).val - 136 by omega]
  rintro _ _ ⟨f4, rfl, hf4⟩
  refine hk _ ⟨⟨hbeg.keep, hbeg.flag, hbeg.dz, hbeg.acc, hbeg.red⟩, hf4, fun y => (hf1 y).trans ?_⟩
  have l : (y 0).val < 256 := (y 0).isLt
  unfold sdyV
  by_cases h : (y 0).val < 128
  · rw [if_neg (by omega)]
    refine (hsdy y h).trans ?_
    rw [show (y 0).val / 128 = 0 by omega, show (y 0).val % 128 = (y 0).val by omega]
  · rw [if_pos ⟨by omega, by omega⟩, show (y 0).val / 128 = 1 by omega, show (y 0).val % 128 = (y 0).val - 128 by omega]

end

end Cert.KernelIdeal.Conv
-- ==== Proof.Chunk.lean ====
/- One chunk of one group: dz, the accumulators, dx. -/
module

public import proofs.«01_k».proof.Proof.Head

@[expose] public section

noncomputable section

namespace Cert.KernelIdeal.Conv

open Idealize.ShloMosaic Idealize.SL.Sem
open Cert.KernelIdeal Facts₀ Facts
open VecWindow (window put)

variable {F : FTy → Type} [FloatOps F]

/-- The contents after `k` chunks and the first `g` groups of the next one. -/
structure Mid (I : In F) (i : grid0.Coords) (tail : ℕ → ℕ → ℕ → F .f32) (a : ℕ → ℕ → ℕ → ℕ → F .f32) (rd : Vec F S8x2560 .f32) (k g : ℕ) (st : St F) : Prop where
  xs : ∀ y : S20x264x128.Idx, st.xs y = xsV I i (y 0).val (y 1).val (y 2).val
  sdy : ∀ y : S256x128.Idx, st.sdy y = sdyV I (y 0).val
  keep : ∀ y : S16512x128.Idx, st.keep y = keepV I.cu (i 0).val 62 (y 0).val
  flag : ∀ y : S514.Idx, st.flag y = flagV I.cu (i 0).val 62 (y 0).val
  dz : ∀ y : S20x264x128.Idx, (32 * (8 - k) ≤ (y 1).val ∨ (32 * (7 - k) ≤ (y 1).val ∧ (y 0).val < g)) →
    st.dz y = zV I i tail (y 0).val (y 1).val (y 2).val
  dx : ∀ y : S1x256x2560.Idx, (32 * (8 - k) ≤ (y 1).val ∨ (32 * (7 - k) ≤ (y 1).val ∧ (y 2).val / 128 < g)) →
    st.dx y = dxV I i tail ((y 2).val / 128) (y 1).val ((y 2).val % 128)
  acc : ∀ y : S20x5x8x128.Idx, st.acc y = accV I i a (if (y 0).val < g then k + 1 else k) (y 0).val (y 1).val (y 2).val (y 3).val
  red : st.red = rd

/-- The masks of the chunk at row `r0` of the block: those of the keep rows where the chunk is flagged, none elsewhere. -/
structure Masks.Good (I : In F) (i : grid0.Coords) (r0 : ℕ) (M : Masks F) : Prop where
  x1 : ∀ v (q : S32x128.Idx), M.x1 v q = open Classical in if flagged I i (r0 + (q 0).val) then FloatOps.mulf (v q) (kx I i (r0 + (q 0).val) 1) else v q
  x2 : ∀ v (q : S32x128.Idx), M.x2 v q = open Classical in if flagged I i (r0 + (q 0).val) then FloatOps.mulf (v q) (kx I i (r0 + (q 0).val) 2) else v q
  x3 : ∀ v (q : S32x128.Idx), M.x3 v q = open Classical in if flagged I i (r0 + (q 0).val) then FloatOps.mulf (v q) (kx I i (r0 + (q 0).val) 3) else v q
  z1 : ∀ v (q : S32x128.Idx), M.z1 v q = open Classical in if flagged I i (r0 + (q 0).val) then FloatOps.mulf (v q) (kz I i (r0 + (q 0).val) 1) else v q
  z2 : ∀ v (q : S32x128.Idx), M.z2 v q = open Classical in if flagged I i (r0 + (q 0).val) then FloatOps.mulf (v q) (kz I i (r0 + (q 0).val) 2) else v q
  z3 : ∀ v (q : S32x128.Idx), M.z3 v q = open Classical in if flagged I i (r0 + (q 0).val) then FloatOps.mulf (v q) (kz I i (r0 + (q 0).val) 3) else v q

section
variable {R : Refs} {c : Dev nD} {I : In F} {bd : Defs nD τ sig (Elt F) Λ₀} {vs : Variants}

local notation "𝓡" => Runs R c I bd vs

/-- A parameter row along a chunk. -/
theorem runs_param (k : ℕ) (hk : k + 1 ≤ 16) (g : ℕ) (h : g < 20) (st : St F) :
    𝓡 (paramP R k hk g h) st fun p st' => st' = st ∧ ∀ q : S32x128.Idx, bc p q = parV I k (128 * g + (q 1).val) := by
  unfold paramP
  refine Runs.load (focusIn_par R c I st) ⟨rfl, fun q => ?_⟩
  refine (bc_apply _ q (fun a => match a with | ⟨0, _⟩ => ⟨0, Nat.zero_lt_one⟩ | ⟨1, _⟩ => q 1 : S1x128.Idx) rfl).trans ?_
  refine window_get (s := S16x2560) _ _ _ _ _ _ _ fun a => ?_
  match a with
  | ⟨0, _⟩ => rfl
  | ⟨1, _⟩ => show 128 * g + 1 * (q 1).val = 128 * g + (q 1).val; omega

/-- A tap of x. -/
theorem runs_xTap (i : grid0.Coords) (t : Fin k0_t5_loop.trips) (j : Fin 4) (g : ℕ) (h : g < 20) (st : St F)
    (hx : ∀ y : S20x264x128.Idx, st.xs y = xsV I i (y 0).val (y 1).val (y 2).val) :
    𝓡 (xTapP R t j g h) st fun x st' => st' = st ∧ ∀ q : S32x128.Idx, flat x q = xsV I i g (32 * (7 - t.val) + (q 0).val + 8 - j.val) (q 1).val := by
  unfold xTapP
  refine Runs.load (keep_of rfl (focus_xs R c I st)) ⟨rfl, fun q => ?_⟩
  refine (flat_apply _ q (fun a => match a with | ⟨0, _⟩ => ⟨0, Nat.zero_lt_one⟩ | ⟨1, _⟩ => q 0 | ⟨2, _⟩ => q 1 : S1x32x128.Idx) rfl rfl).trans ((hx _).trans ?_)
  show xsV I i (g + 1 * 0) (xRow t _ + 1 * (q 0).val) (0 + 1 * (q 1).val) = _
  rw [xRow_eq]
  congr 1 <;> omega

/-- A tap of dz. -/
theorem runs_zTap (i : grid0.Coords) (tail : ℕ → ℕ → ℕ → F .f32) (t : Fin k0_t5_loop.trips) (j : Fin 4) (g : ℕ) (h : g < 20) (st : St F)
    (hz : ∀ y : S20x264x128.Idx, (32 * (8 - t.val) ≤ (y 1).val ∨ (32 * (7 - t.val) ≤ (y 1).val ∧ (y 0).val < g + 1)) →
      st.dz y = zV I i tail (y 0).val (y 1).val (y 2).val) :
    𝓡 (zTapP R t j g h) st fun x st' => st' = st ∧ ∀ q : S32x128.Idx, flat x q = zV I i tail g (32 * (7 - t.val) + (q 0).val + j.val) (q 1).val := by
  unfold zTapP
  refine Runs.load (keep_of rfl (focus_dz R c I st)) ⟨rfl, fun q => ?_⟩
  refine (flat_apply _ q (fun a => match a with | ⟨0, _⟩ => ⟨0, Nat.zero_lt_one⟩ | ⟨1, _⟩ => q 0 | ⟨2, _⟩ => q 1 : S1x32x128.Idx) rfl rfl).trans ((hz _ (.inr ⟨?_, ?_⟩)).trans ?_)
  · show 32 * (7 - t.val) ≤ zRow t _ + 1 * (q 0).val
    rw [zRow_eq]; omega
  · show g + 1 * 0 < g + 1
    omega
  · show zV I i tail (g + 1 * 0) (zRow t _ + 1 * (q 0).val) (0 + 1 * (q 1).val) = _
    rw [zRow_eq]
    congr 1 <;> omega

/-- An accumulator takes a chunk's rows. -/
theorem runs_acc (k : ℕ) (hk : k + 1 ≤ 5) (g : ℕ) (h : g < 20) (v : FVec F S32x128 .f32) (V : ℕ → ℕ → F .f32)
    (hv : ∀ q : S32x128.Idx, v q = V (q 0).val (q 1).val) (st : St F) :
    𝓡 (accP R k hk g h v) st fun _ st' => ∃ f, st' = st.setAcc f ∧ ∀ y : S20x5x8x128.Idx,
      f y = if (y 0).val = g ∧ (y 1).val = k then FloatOps.addf (st.acc y) (FloatOps.addf (FloatOps.addf (FloatOps.addf (V (y 2).val (y 3).val)
        (V (8 + (y 2).val) (y 3).val)) (V (16 + (y 2).val) (y 3).val)) (V (24 + (y 2).val) (y 3).val)) else st.acc y := by
  unfold accP
  refine Runs.bind (Runs.load (keep_of rfl (focus_acc R c I _)) ?_)
  refine Runs.bind (Runs.loadAny (keep_of rfl (focus_acc R c I _)) fun _ => ?_)
  refine Runs.store (focus_acc R c I _) ⟨_, rfl, fun y => ?_⟩
  refine put_spec (s := S20x5x8x128) _ _ _ _ (fun y w => w = if (y 0).val = g ∧ (y 1).val = k then FloatOps.addf (st.acc y) (FloatOps.addf (FloatOps.addf (FloatOps.addf (V (y 2).val (y 3).val)
        (V (8 + (y 2).val) (y 3).val)) (V (16 + (y 2).val) (y 3).val)) (V (24 + (y 2).val) (y 3).val)) else st.acc y) y (fun hi => ?_) fun hn => ?_
  · have h0 : g ≤ (y 0).val ∧ (y 0).val < g + 1 := hi 0
    have h1 : k ≤ (y 1).val ∧ (y 1).val < k + 1 := hi 1
    have l2 : (y 2).val < 8 := (y 2).isLt
    rw [if_pos ⟨by omega, by omega⟩]
    refine (shapeCast_apply _ _ _ (fun a => match a with | ⟨0, _⟩ => y 2 | ⟨1, _⟩ => y 3 : S8x128.Idx) ?_).trans ?_
    · refine (Shape.rowMajor_val_two (d := ![8, 128]) _).trans (Eq.trans ?_ (Shape.rowMajor_val_four (d := ![1, 1, 8, 128]) _).symm)
      show (y 2).val * 128 + (y 3).val = ((((y 0).val - g) * 1 + ((y 1).val - k)) * 8 + ((y 2).val - 0)) * 128 + ((y 3).val - 0)
      rw [show (y 0).val - g = 0 by omega, show (y 1).val - k = 0 by omega]; omega
    have hs : ∀ (o : ℕ) (hsl : S32x128.Slices ![o, 0] S8x128) (ho : o ≤ 24), extractStridedSlice S8x128 ![o, 0] v hsl (fun a => match a with | ⟨0, _⟩ => y 2 | ⟨1, _⟩ => y 3 : S8x128.Idx) = V (o + (y 2).val) (y 3).val := by
      intro o hsl ho
      refine (extractStridedSlice_apply _ _ _ _ (fun a => match a with | ⟨0, _⟩ => ⟨o + (y 2).val, by show _ < 32; omega⟩ | ⟨1, _⟩ => y 3 : S32x128.Idx) fun a => ?_).trans (hv _)
      match a with
      | ⟨0, _⟩ => rfl
      | ⟨1, _⟩ => show (y 3).val = 0 + (y 3).val; omega
    refine congrArg₂ FloatOps.addf ?_ (congrArg₂ FloatOps.addf (congrArg₂ FloatOps.addf (congrArg₂ FloatOps.addf ((hs 0 _ (by decide)).trans ?_) (hs 8 _ (by decide))) (hs 16 _ (by decide))) (hs 24 _ (by decide)))
    · refine (shapeCast_apply _ _ _ (fun a => match a with | ⟨0, _⟩ => ⟨0, Nat.zero_lt_one⟩ | ⟨1, _⟩ => ⟨0, Nat.zero_lt_one⟩ | ⟨2, _⟩ => y 2 | ⟨3, _⟩ => y 3 : S1x1x8x128.Idx) ?_).trans (congrArg st.acc (funext fun a => Fin.ext ?_))
      · refine (Shape.rowMajor_val_four (d := ![1, 1, 8, 128]) _).trans (Eq.trans ?_ (Shape.rowMajor_val_two (d := ![8, 128]) _).symm)
        show ((0 * 1 + 0) * 8 + (y 2).val) * 128 + (y 3).val = (y 2).val * 128 + (y 3).val
        omega
      · match a with
        | ⟨0, _⟩ => show g + 1 * 0 = (y 0).val; omega
        | ⟨1, _⟩ => show k + 1 * 0 = (y 1).val; omega
        | ⟨2, _⟩ => show 0 + 1 * (y 2).val = (y 2).val; omega
        | ⟨3, _⟩ => show 0 + 1 * (y 3).val = (y 3).val; omega
    · rw [Nat.zero_add]
  · rw [if_neg]
    rintro ⟨e0, e1⟩
    apply hn
    intro a
    match a with
    | ⟨0, _⟩ => show g ≤ (y 0).val ∧ (y 0).val < g + 1; omega
    | ⟨1, _⟩ => show k ≤ (y 1).val ∧ (y 1).val < k + 1; omega
    | ⟨2, _⟩ => exact ⟨Nat.zero_le _, by show (y 2).val < 0 + 8; have : (y 2).val < 8 := (y 2).isLt; omega⟩
    | ⟨3, _⟩ => exact ⟨Nat.zero_le _, by show (y 3).val < 0 + 128; have : (y 3).val < 128 := (y 3).isLt; omega⟩

/-- The gradient at the convolution's value, element by element. -/
theorem dz_apply (i : grid0.Coords) (g r0 : ℕ) (p3 p4 p2 p1 p0 : Vec F S1x128 .f32) (x0 x1 x2 x3 : FVec F S32x128 .f32) (dy : Vec F S1x32x128 .fp8e5m2)
    (sc : Vec F S32x128 .f32) (q : S32x128.Idx)
    (h3 : bc p3 q = parV I 3 (128 * g + (q 1).val)) (h4 : bc p4 q = parV I 4 (128 * g + (q 1).val)) (h2 : bc p2 q = parV I 2 (128 * g + (q 1).val))
    (h1 : bc p1 q = parV I 1 (128 * g + (q 1).val)) (h0 : bc p0 q = parV I 0 (128 * g + (q 1).val))
    (hx0 : x0 q = tapV I i 0 g (r0 + (q 0).val) (q 1).val) (hx1 : x1 q = tapV I i 1 g (r0 + (q 0).val) (q 1).val)
    (hx2 : x2 q = tapV I i 2 g (r0 + (q 0).val) (q 1).val) (hx3 : x3 q = tapV I i 3 g (r0 + (q 0).val) (q 1).val)
    (hd : FloatOps.extf .f32 bitsLt_fp8e5m2_f32 (flat dy q) = get (s := S1x256x2560) (extf .f32 I.dy bitsLt_fp8e5m2_f32) c0 ![0, r0 + (q 0).val, 128 * g + (q 1).val])
    (hs : sc q = sdyV I (r0 + (q 0).val)) :
    dzOf (hOf p3 p4 p2 p1 p0 x0 x1 x2 x3) dy sc q = dzV I i g (r0 + (q 0).val) (q 1).val := by
  have hh : hOf p3 p4 p2 p1 p0 x0 x1 x2 x3 q = hV I i g (r0 + (q 0).val) (q 1).val := by
    show FloatOps.addf (FloatOps.addf (FloatOps.addf (FloatOps.addf (FloatOps.mulf (bc p3 q) (x0 q)) (bc p4 q)) (FloatOps.mulf (bc p2 q) (x1 q))) (FloatOps.mulf (bc p1 q) (x2 q))) (FloatOps.mulf (bc p0 q) (x3 q)) = _
    rw [h0, h1, h2, h3, h4, hx0, hx1, hx2, hx3]
    rfl
  show FloatOps.mulf (FloatOps.mulf (FloatOps.extf .f32 bitsLt_fp8e5m2_f32 (flat dy q)) (sc q)) (FloatOps.addf (FloatOps.addf c1 (FloatOps.tanh (hOf p3 p4 p2 p1 p0 x0 x1 x2 x3 q)))
    (FloatOps.mulf (hOf p3 p4 p2 p1 p0 x0 x1 x2 x3 q) (FloatOps.subf c1 (FloatOps.mulf (FloatOps.tanh (hOf p3 p4 p2 p1 p0 x0 x1 x2 x3 q)) (FloatOps.tanh (hOf p3 p4 p2 p1 p0 x0 x1 x2 x3 q)))))) = _
  rw [hh, hd, hs]
  rfl

theorem tap_of (i : grid0.Coords) (j g r0 : ℕ) (hj : j ≠ 0) (x y : FVec F S32x128 .f32) (q : S32x128.Idx)
    (hx : x q = xsV I i g (r0 + (q 0).val + 8 - j) (q 1).val)
    (hy : y q = open Classical in if flagged I i (r0 + (q 0).val) then FloatOps.mulf (x q) (kx I i (r0 + (q 0).val) j) else x q) :
    y q = tapV I i j g (r0 + (q 0).val) (q 1).val := by
  rw [hy, hx]
  unfold tapV
  by_cases h : flagged I i (r0 + (q 0).val)
  · rw [if_pos h, if_pos ⟨hj, h⟩]
  · rw [if_neg h, if_neg fun h' => h h'.2]

/-- One chunk of one group. -/
theorem runs_group (i : grid0.Coords) (tail : ℕ → ℕ → ℕ → F .f32) (a : ℕ → ℕ → ℕ → ℕ → F .f32) (rd : Vec F S8x2560 .f32) (t : Fin k0_t5_loop.trips) (sc : Vec F S32x128 .f32)
    (M : Masks F) (hM : M.Good I i (32 * (7 - t.val))) (hsc : ∀ q : S32x128.Idx, sc q = sdyV I (32 * (7 - t.val) + (q 0).val)) (g : ℕ) (h : g < 20) (st : St F)
    (hm : Mid I i tail a rd t.val g st) :
    𝓡 (groupP R t sc M g h) st fun _ st' => Mid I i tail a rd t.val (g + 1) st' := by
  have hr := chRow_eq t
  have ht8 : t.val < 8 := t.isLt.trans_eq trips5
  unfold groupP
  refine Runs.bind ((runs_xTap i t 0 g h st hm.xs).mono ?_)
  rintro x0 _ ⟨rfl, hx0⟩
  refine Runs.bind ((runs_xTap i t 1 g h _ hm.xs).mono ?_)
  rintro x1 _ ⟨rfl, hx1⟩
  refine Runs.bind ((runs_xTap i t 2 g h _ hm.xs).mono ?_)
  rintro x2 _ ⟨rfl, hx2⟩
  refine Runs.bind ((runs_xTap i t 3 g h _ hm.xs).mono ?_)
  rintro x3 st ⟨rfl, hx3⟩
  refine Runs.bind ((runs_param 3 _ g h _).mono ?_)
  rintro p3 _ ⟨rfl, hp3⟩
  refine Runs.bind ((runs_param 4 _ g h _).mono ?_)
  rintro p4 _ ⟨rfl, hp4⟩
  refine Runs.bind ((runs_param 2 _ g h _).mono ?_)
  rintro p2 _ ⟨rfl, hp2⟩
  refine Runs.bind ((runs_param 1 _ g h _).mono ?_)
  rintro p1 _ ⟨rfl, hp1⟩
  refine Runs.bind ((runs_param 0 _ g h _).mono ?_)
  rintro p0 st ⟨rfl, hp0⟩
  refine Runs.bind (Runs.load (focusIn_dy R c I _) ?_)
  have hd : ∀ q : S32x128.Idx, FloatOps.extf .f32 bitsLt_fp8e5m2_f32 (flat (window (s := S1x256x2560) I.dy ![0, chRow t, 128 * g] S1x32x128.size (inb3 (by decide) (chRow_le t) (col h))) q)
      = get (s := S1x256x2560) (extf .f32 I.dy bitsLt_fp8e5m2_f32) c0 ![0, 32 * (7 - t.val) + (q 0).val, 128 * g + (q 1).val] := by
    intro q
    refine (congrArg (FloatOps.extf _ _) (flat_apply _ q (fun a => match a with | ⟨0, _⟩ => ⟨0, Nat.zero_lt_one⟩ | ⟨1, _⟩ => q 0 | ⟨2, _⟩ => q 1 : S1x32x128.Idx) rfl rfl)).trans ?_
    refine window_get (s := S1x256x2560) (extf .f32 I.dy bitsLt_fp8e5m2_f32) _ _ _ _ _ _ fun a => ?_
    match a with
    | ⟨0, _⟩ => rfl
    | ⟨1, _⟩ => show chRow t + 1 * (q 0).val = 32 * (7 - t.val) + (q 0).val; omega
    | ⟨2, _⟩ => show 128 * g + 1 * (q 1).val = 128 * g + (q 1).val; omega
  generalize window (s := S1x256x2560) I.dy ![0, chRow t, 128 * g] S1x32x128.size (inb3 (by decide) (chRow_le t) (col h)) = dy at hd ⊢
  have hX0 : ∀ q, flat x0 q = tapV I i 0 g (32 * (7 - t.val) + (q 0).val) (q 1).val := fun q => by
    rw [hx0 q]; unfold tapV; rw [if_neg fun h' => h'.1 rfl]; rfl
  have hX1 := fun q => tap_of i 1 g _ (by decide) _ _ q (hx1 q) (hM.x1 _ q)
  have hX2 := fun q => tap_of i 2 g _ (by decide) _ _ q (hx2 q) (hM.x2 _ q)
  have hX3 := fun q => tap_of i 3 g _ (by decide) _ _ q (hx3 q) (hM.x3 _ q)
  generalize M.x1 (flat x1) = X1 at hX1 ⊢
  generalize M.x2 (flat x2) = X2 at hX2 ⊢
  generalize M.x3 (flat x3) = X3 at hX3 ⊢
  generalize flat x0 = X0 at hX0 ⊢
  have hdz := fun q => dz_apply i g (32 * (7 - t.val)) p3 p4 p2 p1 p0 X0 X1 X2 X3 dy sc q (hp3 q) (hp4 q) (hp2 q) (hp1 q) (hp0 q) (hX0 q) (hX1 q) (hX2 q) (hX3 q) (hd q) (hsc q)
  generalize dzOf (hOf p3 p4 p2 p1 p0 X0 X1 X2 X3) dy sc = DZ at hdz ⊢
  refine Runs.bind (Runs.loadAny (keep_of rfl (focus_dz R c I _)) fun _ => ?_)
  refine Runs.bind (Runs.store (focus_dz R c I _) ?_)
  have hz : ∀ y : S20x264x128.Idx, (32 * (8 - t.val) ≤ (y 1).val ∨ (32 * (7 - t.val) ≤ (y 1).val ∧ (y 0).val < g + 1)) →
      put st.dz ![g, chRow t, 0] S1x32x128.size (unflat DZ) y = zV I i tail (y 0).val (y 1).val (y 2).val := by
    intro y hy
    refine put_spec (s := S20x264x128) _ _ _ _ (fun y w => w = zV I i tail (y 0).val (y 1).val (y 2).val) y (fun hi => ?_) fun hn => hm.dz y ?_
    · have h0 : g ≤ (y 0).val ∧ (y 0).val < g + 1 := hi 0
      have h1 : chRow t ≤ (y 1).val ∧ (y 1).val < chRow t + 32 := hi 1
      have e0 : (y 0).val = g := by omega
      have hq : (y 1).val - chRow t < 32 := by omega
      refine (unflat_apply _ _ (fun a => match a with | ⟨0, _⟩ => ⟨(y 1).val - chRow t, hq⟩ | ⟨1, _⟩ => y 2 : S32x128.Idx) rfl ?_).trans ((hdz _).trans ?_)
      · show (y 2).val - 0 = (y 2).val; omega
      · unfold zV
        rw [if_pos (by omega), e0]
        refine congrArg (fun r => dzV I i g r (y 2).val) ?_
        show 32 * (7 - t.val) + ((y 1).val - chRow t) = (y 1).val
        omega
    · by_contra hk
      apply hn
      intro a
      match a with
      | ⟨0, _⟩ => show g ≤ (y 0).val ∧ (y 0).val < g + 1; omega
      | ⟨1, _⟩ => show chRow t ≤ (y 1).val ∧ (y 1).val < chRow t + 32; omega
      | ⟨2, _⟩ => exact ⟨Nat.zero_le _, by show (y 2).val < 0 + 128; have : (y 2).val < 128 := (y 2).isLt; omega⟩
  generalize put st.dz ![g, chRow t, 0] S1x32x128.size (unflat DZ) = dz' at hz ⊢
  have hmul : ∀ (X : FVec F S32x128 .f32) (k : ℕ) (hk : k < 4), (∀ q : S32x128.Idx, X q = tapV I i (3 - k) g (32 * (7 - t.val) + (q 0).val) (q 1).val) → ∀ q : S32x128.Idx,
      mulf DZ X q = (fun r l => sumV I i g k (32 * (7 - t.val) + r) l) (q 0).val (q 1).val := fun X k hk hX q => by
    show FloatOps.mulf (DZ q) (X q) = sumV I i g k _ _
    unfold sumV
    rw [if_pos hk, hdz, hX]
  dsimp only
  refine Runs.bind ((runs_acc 3 _ g h _ (fun r l => sumV I i g 3 (32 * (7 - t.val) + r) l) (hmul X0 3 (by decide) hX0) _).mono ?_)
  rintro _ _ ⟨f3, rfl, hf3⟩
  refine Runs.bind ((runs_acc 2 _ g h _ (fun r l => sumV I i g 2 (32 * (7 - t.val) + r) l) (hmul X1 2 (by decide) hX1) _).mono ?_)
  rintro _ _ ⟨f2, rfl, hf2⟩
  refine Runs.bind ((runs_acc 1 _ g h _ (fun r l => sumV I i g 1 (32 * (7 - t.val) + r) l) (hmul X2 1 (by decide) hX2) _).mono ?_)
  rintro _ _ ⟨f1, rfl, hf1⟩
  refine Runs.bind ((runs_acc 0 _ g h _ (fun r l => sumV I i g 0 (32 * (7 - t.val) + r) l) (hmul X3 0 (by decide) hX3) _).mono ?_)
  rintro _ _ ⟨f0, rfl, hf0⟩
  refine Runs.bind ((runs_acc 4 _ g h _ (fun r l => sumV I i g 4 (32 * (7 - t.val) + r) l) (fun q => (hdz q).trans ?_) _).mono ?_)
  · unfold sumV; rw [if_neg (by decide)]
  rintro _ _ ⟨f4, rfl, hf4⟩
  have hacc : ∀ y : S20x5x8x128.Idx, f4 y = accV I i a (if (y 0).val < g + 1 then t.val + 1 else t.val) (y 0).val (y 1).val (y 2).val (y 3).val := by
    intro y
    have l1 : (y 1).val < 5 := (y 1).isLt
    have e4 := hf4 y
    have e0 := hf0 y
    have e1 := hf1 y
    have e2 := hf2 y
    have e3 := hf3 y
    have e := hm.acc y
    dsimp only [St.setAcc, St.setDz] at e4 e0 e1 e2 e3
    by_cases hg : (y 0).val = g
    · rw [if_neg (by omega)] at e
      rw [if_pos (by omega)]
      have hk : (y 1).val = 0 ∨ (y 1).val = 1 ∨ (y 1).val = 2 ∨ (y 1).val = 3 ∨ (y 1).val = 4 := by omega
      unfold accV
      rcases hk with hk | hk | hk | hk | hk <;>
      · simp only [hg, hk, true_and, if_true, reduceCtorEq, OfNat.ofNat_ne_zero, OfNat.zero_ne_ofNat, Nat.reduceEqDiff, zero_ne_one, one_ne_zero, if_false, and_self, and_false, OfNat.one_ne_ofNat, OfNat.ofNat_ne_one, ↓reduceIte] at e4 e0 e1 e2 e3 e ⊢
        simp only [e4, e0, e1, e2, e3, e]
    · simp only [hg, false_and, if_false] at e4 e0 e1 e2 e3
      rw [e4, e0, e1, e2, e3, e]
      refine congrArg (fun k => accV I i a k (y 0).val (y 1).val (y 2).val (y 3).val) ?_
      exact if_congr (by omega) rfl rfl
  refine Runs.bind ((runs_param 11 _ g h _).mono ?_)
  rintro w0 _ ⟨rfl, hw0⟩
  refine Runs.bind ((runs_zTap i tail t 1 g h _ hz).mono ?_)
  rintro z1 _ ⟨rfl, hz1⟩
  refine Runs.bind ((runs_param 10 _ g h _).mono ?_)
  rintro w1 _ ⟨rfl, hw1⟩
  refine Runs.bind ((runs_zTap i tail t 2 g h _ hz).mono ?_)
  rintro z2 _ ⟨rfl, hz2⟩
  refine Runs.bind ((runs_param 9 _ g h _).mono ?_)
  rintro w2 _ ⟨rfl, hw2⟩
  refine Runs.bind ((runs_zTap i tail t 3 g h _ hz).mono ?_)
  rintro z3 _ ⟨rfl, hz3⟩
  refine Runs.bind ((runs_param 8 _ g h _).mono ?_)
  rintro w3 _ ⟨rfl, hw3⟩
  refine Runs.bind (Runs.loadAny (keep_of rfl (focus_dx R c I _)) fun _ => ?_)
  refine Runs.store (focus_dx R c I _) ⟨hm.xs, hm.sdy, hm.keep, hm.flag, hz, fun y hy => ?_, hacc, hm.red⟩
  have l1 : (y 1).val < 256 := (y 1).isLt
  have l2 : (y 2).val < 2560 := (y 2).isLt
  refine put_spec (s := S1x256x2560) _ _ _ _ (fun y w => w = dxV I i tail ((y 2).val / 128) (y 1).val ((y 2).val % 128)) y (fun hi => ?_) fun hn => hm.dx y ?_
  · have h1 : chRow t ≤ (y 1).val ∧ (y 1).val < chRow t + 32 := hi 1
    have h2 : 128 * g ≤ (y 2).val ∧ (y 2).val < 128 * g + 128 := hi 2
    have hq : (y 1).val - chRow t < 32 := by omega
    have hl : (y 2).val - 128 * g < 128 := by omega
    have eg : (y 2).val / 128 = g := by omega
    have el : (y 2).val % 128 = (y 2).val - 128 * g := by omega
    refine (unflat_apply _ _ (fun a => match a with | ⟨0, _⟩ => ⟨(y 1).val - chRow t, hq⟩ | ⟨1, _⟩ => ⟨(y 2).val - 128 * g, hl⟩ : S32x128.Idx) rfl rfl).trans ?_
    generalize hQ : (fun a => match a with | ⟨0, _⟩ => ⟨(y 1).val - chRow t, hq⟩ | ⟨1, _⟩ => ⟨(y 2).val - 128 * g, hl⟩ : S32x128.Idx) = q
    have q0 : 32 * (7 - t.val) + (q 0).val = (y 1).val := by rw [← hQ]; show 32 * (7 - t.val) + ((y 1).val - chRow t) = _; omega
    have q1 : (q 1).val = (y 2).val % 128 := by rw [← hQ, el]
    show FloatOps.truncf .bf16 bitsLt_bf16_f32 (FloatOps.addf (FloatOps.addf (FloatOps.addf (FloatOps.mulf (bc w0 q) (DZ q)) (FloatOps.mulf (bc w1 q) (M.z1 (flat z1) q)))
      (FloatOps.mulf (bc w2 q) (M.z2 (flat z2) q))) (FloatOps.mulf (bc w3 q) (M.z3 (flat z3) q))) = _
    rw [hw0, hw1, hw2, hw3, hdz, hM.z1, hM.z2, hM.z3, hz1, hz2, hz3, eg, q0, q1]
    rfl
  · by_contra hk
    apply hn
    intro a
    match a with
    | ⟨0, _⟩ => exact ⟨Nat.zero_le _, by show (y 0).val < 0 + 1; have : (y 0).val < 1 := (y 0).isLt; omega⟩
    | ⟨1, _⟩ => show chRow t ≤ (y 1).val ∧ (y 1).val < chRow t + 32; omega
    | ⟨2, _⟩ => show 128 * g ≤ (y 2).val ∧ (y 2).val < 128 * g + 128; omega

end

end Cert.KernelIdeal.Conv
-- ==== Proof.Whole.lean ====
/- A whole grid point: its chunks, and on the last point the sums. -/
module

public import proofs.«01_k».proof.Proof.Chunk

@[expose] public section

noncomputable section

namespace Cert.KernelIdeal.Conv

open Idealize.ShloMosaic Idealize.SL.Sem
open Cert.KernelIdeal Facts₀ Facts
open VecWindow (window put)

variable {F : FTy → Type} [FloatOps F]

/-- Eight rows summed. -/
def sum8 (v : FVec F S8x128 .f32) : FVec F S128 .f32 := multiReduction .add [0] S128 v 0x00000000#32 reduces_S8x128_S128 (.inl rfl) rfl

/-- Row `k`, channel `d` of the sums, from the accumulators. -/
def redV (A : ℕ → ℕ → ℕ → ℕ → F .f32) (k d : ℕ) : F .f32 :=
  if k < 5 then sum8 (fun q => A (d / 128) k (q 0).val (q 1).val) (fun a => match a with | ⟨0, _⟩ => ⟨d % 128, Nat.mod_lt _ (by decide)⟩ : S128.Idx) else c0

section
variable {R : Refs} {c : Dev nD} {I : In F} {bd : Defs nD τ sig (Elt F) Λ₀} {vs : Variants}

local notation "𝓡" => Runs R c I bd vs

theorem runs_keep (i : grid0.Coords) (t : Fin k0_t5_loop.trips) (d : Fin 6) (w : BitVec 32) (hw : w = BitVec.ofNat 32 d.val - 2#32) (hr) (st : St F)
    (hk : ∀ y : S16512x128.Idx, st.keep y = keepV I.cu (i 0).val 62 (y 0).val) :
    𝓡 (keepP R i t w hr) st fun x st' => st' = st ∧ ∀ q : S32x128.Idx, x q = kp I i (32 * (7 - t.val) + (q 0).val) d.val := by
  subst hw
  unfold keepP
  refine Runs.load (keep_of rfl (focus_keep R c I st)) ⟨rfl, fun q => (hk _).trans ?_⟩
  unfold kp blk
  refine congrArg (keepV I.cu (i 0).val 62) ?_
  show k0_off50 i t (BitVec.ofNat 32 d.val - 2#32) 0 + 1 * (q 0).val = _
  rw [off50_eq]; omega

theorem runs_scale (t : Fin k0_t5_loop.trips) (st : St F) (hs : ∀ y : S256x128.Idx, st.sdy y = sdyV I (y 0).val) :
    𝓡 (scaleP R t) st fun x st' => st' = st ∧ ∀ q : S32x128.Idx, x q = sdyV I (32 * (7 - t.val) + (q 0).val) := by
  unfold scaleP
  refine Runs.load (keep_of rfl (focus_sdy R c I st)) ⟨rfl, fun q => (hs _).trans (congrArg (sdyV I) ?_)⟩
  show chRow t + 1 * (q 0).val = _
  rw [chRow_eq]; omega

/-- Whether a chunk's rows are flagged is one question. -/
theorem flagged_chunk (i : grid0.Coords) (t : Fin k0_t5_loop.trips) (r : ℕ) (hr : r < 32) :
    flagged I i (32 * (7 - t.val) + r) ↔ flagV I.cu (i 0).val 62 (8 * (63 - (i 1).val) + (7 - t.val) + 1) ≠ 0#32 := by
  unfold flagged blk
  rw [show (32 * (7 - t.val) + r) / 32 = 7 - t.val by omega]

theorem masks_of (i : grid0.Coords) (t : Fin k0_t5_loop.trips) (km2 km1 k0 k1 k2 k3 : FVec F S32x128 .f32)
    (hf : flagV I.cu (i 0).val 62 (8 * (63 - (i 1).val) + (7 - t.val) + 1) ≠ 0#32)
    (hm2 : ∀ q : S32x128.Idx, km2 q = kp I i (32 * (7 - t.val) + (q 0).val) 0) (hm1 : ∀ q : S32x128.Idx, km1 q = kp I i (32 * (7 - t.val) + (q 0).val) 1)
    (h0 : ∀ q : S32x128.Idx, k0 q = kp I i (32 * (7 - t.val) + (q 0).val) 2) (h1 : ∀ q : S32x128.Idx, k1 q = kp I i (32 * (7 - t.val) + (q 0).val) 3)
    (h2 : ∀ q : S32x128.Idx, k2 q = kp I i (32 * (7 - t.val) + (q 0).val) 4) (h3 : ∀ q : S32x128.Idx, k3 q = kp I i (32 * (7 - t.val) + (q 0).val) 5) :
    (Masks.of km2 km1 k0 k1 k2 k3).Good I i (32 * (7 - t.val)) := by
  have hfl : ∀ q : S32x128.Idx, flagged I i (32 * (7 - t.val) + (q 0).val) := fun q => (flagged_chunk i t _ (q 0).isLt).mpr hf
  refine ⟨fun v q => ?_, fun v q => ?_, fun v q => ?_, fun v q => ?_, fun v q => ?_, fun v q => ?_⟩ <;> rw [if_pos (hfl q)]
  · show FloatOps.mulf (v q) (k0 q) = _
    rw [h0]; rfl
  · show FloatOps.mulf (v q) (FloatOps.mulf (k0 q) (km1 q)) = _
    rw [h0, hm1]; rfl
  · show FloatOps.mulf (v q) (FloatOps.mulf (FloatOps.mulf (k0 q) (km1 q)) (km2 q)) = _
    rw [h0, hm1, hm2]; rfl
  · show FloatOps.mulf (v q) (k1 q) = _
    rw [h1]; rfl
  · show FloatOps.mulf (v q) (FloatOps.mulf (k1 q) (k2 q)) = _
    rw [h1, h2]; rfl
  · show FloatOps.mulf (v q) (FloatOps.mulf (FloatOps.mulf (k1 q) (k2 q)) (k3 q)) = _
    rw [h1, h2, h3]; rfl

theorem masks_all (i : grid0.Coords) (t : Fin k0_t5_loop.trips) (hf : flagV I.cu (i 0).val 62 (8 * (63 - (i 1).val) + (7 - t.val) + 1) = 0#32) :
    (Masks.all (F := F)).Good I i (32 * (7 - t.val)) := by
  have hfl : ∀ q : S32x128.Idx, ¬ flagged I i (32 * (7 - t.val) + (q 0).val) := fun q h => (flagged_chunk i t _ (q 0).isLt).mp h hf
  exact ⟨fun v q => (if_neg (hfl q)).symm, fun v q => (if_neg (hfl q)).symm, fun v q => (if_neg (hfl q)).symm, fun v q => (if_neg (hfl q)).symm,
    fun v q => (if_neg (hfl q)).symm, fun v q => (if_neg (hfl q)).symm⟩

theorem runs_groups (i : grid0.Coords) (tail : ℕ → ℕ → ℕ → F .f32) (a : ℕ → ℕ → ℕ → ℕ → F .f32) (rd : Vec F S8x2560 .f32) (t : Fin k0_t5_loop.trips) (sc : Vec F S32x128 .f32)
    (M : Masks F) (hM : M.Good I i (32 * (7 - t.val))) (hsc : ∀ q : S32x128.Idx, sc q = sdyV I (32 * (7 - t.val) + (q 0).val)) (st : St F)
    (hm : Mid I i tail a rd t.val 0 st) :
    𝓡 (eachGroup (groupP R t sc M)) st fun _ st' => Mid I i tail a rd (t.val + 1) 0 st' := by
  have ht8 : t.val < 8 := t.isLt.trans_eq trips5
  refine Runs.each _ (fun g st' => Mid I i tail a rd t.val g st') hm (fun g h st' h' => runs_group i tail a rd t sc M hM hsc g h st' h') fun st' h => ?_
  refine ⟨h.xs, h.sdy, h.keep, h.flag, fun y hy => h.dz y ?_, fun y hy => h.dx y ?_, fun y => (h.acc y).trans ?_, h.red⟩
  · have : (y 0).val < 20 := (y 0).isLt
    omega
  · have : (y 2).val < 2560 := (y 2).isLt
    omega
  · rw [if_pos (show (y 0).val < 20 from (y 0).isLt), if_neg (Nat.not_lt_zero _)]

theorem runs_masked (i : grid0.Coords) (tail : ℕ → ℕ → ℕ → F .f32) (a : ℕ → ℕ → ℕ → ℕ → F .f32) (rd : Vec F S8x2560 .f32) (t : Fin k0_t5_loop.trips) (st : St F)
    (hm : Mid I i tail a rd t.val 0 st) (hf : flagV I.cu (i 0).val 62 (8 * (63 - (i 1).val) + (7 - t.val) + 1) ≠ 0#32) :
    𝓡 (maskedP R i t) st fun _ st' => Mid I i tail a rd (t.val + 1) 0 st' := by
  unfold maskedP
  refine Runs.bind ((runs_scale t st hm.sdy).mono ?_)
  rintro sc _ ⟨rfl, hsc⟩
  refine Runs.bind ((runs_keep i t 0 _ (by decide) _ _ hm.keep).mono ?_)
  rintro km2 _ ⟨rfl, hm2⟩
  refine Runs.bind ((runs_keep i t 1 _ (by decide) _ _ hm.keep).mono ?_)
  rintro km1 _ ⟨rfl, hm1⟩
  refine Runs.bind ((runs_keep i t 2 _ (by decide) _ _ hm.keep).mono ?_)
  rintro k0 _ ⟨rfl, h0⟩
  refine Runs.bind ((runs_keep i t 3 _ (by decide) _ _ hm.keep).mono ?_)
  rintro k1 _ ⟨rfl, h1⟩
  refine Runs.bind ((runs_keep i t 4 _ (by decide) _ _ hm.keep).mono ?_)
  rintro k2 _ ⟨rfl, h2⟩
  refine Runs.bind ((runs_keep i t 5 _ (by decide) _ _ hm.keep).mono ?_)
  rintro k3 st ⟨rfl, h3⟩
  exact runs_groups i tail a rd t sc _ (masks_of i t _ _ _ _ _ _ hf hm2 hm1 h0 h1 h2 h3) hsc _ hm

theorem runs_plain (i : grid0.Coords) (tail : ℕ → ℕ → ℕ → F .f32) (a : ℕ → ℕ → ℕ → ℕ → F .f32) (rd : Vec F S8x2560 .f32) (t : Fin k0_t5_loop.trips) (st : St F)
    (hm : Mid I i tail a rd t.val 0 st) (hf : flagV I.cu (i 0).val 62 (8 * (63 - (i 1).val) + (7 - t.val) + 1) = 0#32) :
    𝓡 (plainP R t) st fun _ st' => Mid I i tail a rd (t.val + 1) 0 st' := by
  unfold plainP
  refine Runs.bind ((runs_scale t st hm.sdy).mono ?_)
  rintro sc _ ⟨rfl, hsc⟩
  exact runs_groups i tail a rd t sc _ (masks_all i t hf) hsc _ hm

theorem flagV_cases (cu : Vec F S128 .i32) (b n q : ℕ) : flagV cu b n q = 0#32 ∨ flagV cu b n q = 1#32 := by
  unfold flagV
  split
  · exact .inr rfl
  · exact .inl rfl

theorem runs_chunk (i : grid0.Coords) (tail : ℕ → ℕ → ℕ → F .f32) (a : ℕ → ℕ → ℕ → ℕ → F .f32) (rd : Vec F S8x2560 .f32) (t : Fin k0_t5_loop.trips) (st : St F)
    (hm : Mid I i tail a rd t.val 0 st) : 𝓡 (chunkP R i t) st fun _ st' => Mid I i tail a rd (t.val + 1) 0 st' := by
  unfold chunkP
  refine Runs.bind (Runs.word (keep_of rfl (focus_flag R c I _)) ?_)
  have hw : ∀ z, window (s := S514) st.flag (k0_off48 i t) S1.size (k0_off48_inb i t) z = flagV I.cu (i 0).val 62 (8 * (63 - (i 1).val) + (7 - t.val) + 1) := by
    intro z
    refine (hm.flag _).trans (congrArg (flagV I.cu (i 0).val 62) ?_)
    show k0_off48 i t 0 + 1 * (z 0).val = _
    have hz : (z 0).val < 1 := (z 0).isLt
    rw [off48_eq]; omega
  have hw := hw (Shape.Idx.first (numel1_S1.symm ▸ Nat.one_pos))
  generalize window (s := S514) st.flag (k0_off48 i t) S1.size (k0_off48_inb i t) (Shape.Idx.first (numel1_S1.symm ▸ Nat.one_pos)) = v at hw ⊢
  subst hw
  rcases flagV_cases I.cu (i 0).val 62 (8 * (63 - (i 1).val) + (7 - t.val) + 1) with hf | hf
  · have hp := runs_plain (R := R) (c := c) (bd := bd) (vs := vs) i tail a rd t st hm hf
    rw [hf]
    dsimp only
    rw [if_neg (by decide), if_pos (by decide)]
    exact Runs.bind (hp.mono fun _ _ h => Runs.ret h)
  · have hp := runs_masked (R := R) (c := c) (bd := bd) (vs := vs) i tail a rd t st hm (by rw [hf]; decide)
    rw [hf]
    dsimp only
    rw [if_pos (by decide), if_neg (by decide)]
    exact Runs.bind (hp.mono fun _ _ h => Runs.ret h)

theorem runs_chunks (i : grid0.Coords) (tail : ℕ → ℕ → ℕ → F .f32) (a : ℕ → ℕ → ℕ → ℕ → F .f32) (rd : Vec F S8x2560 .f32) (st : St F)
    (hm : Ready I i tail a rd st) :
    𝓡 (Scf.Loop.for k0_t5_loop k0_t5_ok ⟨⟩ fun t _ => chunkP R i t) st fun _ st' => Mid I i tail a rd 8 0 st' := by
  refine Runs.loop _ _ _ (fun k st' => Mid I i tail a rd k 0 st') ?_ (fun t st' h => runs_chunk i tail a rd t st' h) ?_
  · refine ⟨hm.xs, hm.sdy, hm.begun.keep, hm.begun.flag, fun y hy => ?_, fun y hy => ?_, hm.begun.acc, hm.begun.red⟩
    · have h1 : 256 ≤ (y 1).val := by omega
      unfold zV
      rw [if_neg (by omega)]
      exact hm.begun.dz y h1
    · have : (y 1).val < 256 := (y 1).isLt
      omega
  · intro st' h
    rwa [trips5] at h

/-- One row of one group of the sums. -/
theorem runs_redRow (A : ℕ → ℕ → ℕ → ℕ → F .f32) (k : ℕ) (hk : k + 1 ≤ 5) (g : ℕ) (h : g < 20) (st : St F)
    (ha : ∀ y : S20x5x8x128.Idx, st.acc y = A (y 0).val (y 1).val (y 2).val (y 3).val) :
    𝓡 (redRowP R k hk g h) st fun _ st' => ∃ f, st' = st.setRed f ∧ ∀ y : S8x2560.Idx,
      f y = if (y 0).val = k ∧ (y 1).val / 128 = g then redV A (y 0).val (y 1).val else st.red y := by
  unfold redRowP
  refine Runs.bind (Runs.load (keep_of rfl (focus_acc R c I _)) ?_)
  refine Runs.bind (Runs.loadAny (keep_of rfl (focus_red R c I _)) fun _ => ?_)
  refine Runs.store (focus_red R c I _) ⟨_, rfl, fun y => ?_⟩
  refine put_spec (s := S8x2560) _ _ _ _ (fun y w => w = if (y 0).val = k ∧ (y 1).val / 128 = g then redV A (y 0).val (y 1).val else st.red y) y (fun hi => ?_) fun hn => ?_
  · have h0 : k ≤ (y 0).val ∧ (y 0).val < k + 1 := hi 0
    have h1 : 128 * g ≤ (y 1).val ∧ (y 1).val < 128 * g + 128 := hi 1
    have eg : (y 1).val / 128 = g := by omega
    have el : (y 1).val % 128 = (y 1).val - 128 * g := by omega
    rw [if_pos ⟨by omega, eg⟩]
    unfold redV
    rw [if_pos (by omega)]
    refine (shapeCast_apply _ _ _ (fun a => match a with | ⟨0, _⟩ => ⟨(y 1).val % 128, Nat.mod_lt _ (by decide)⟩ : S128.Idx) ?_).trans ?_
    · refine (Shape.rowMajor_val_one (d := ![128]) _).trans (Eq.trans ?_ (Shape.rowMajor_val_two (d := ![1, 128]) _).symm)
      show (y 1).val % 128 = ((y 0).val - k) * 128 + ((y 1).val - 128 * g)
      rw [el, show (y 0).val - k = 0 by omega]; omega
    · refine congrFun (congrArg sum8 (funext fun q => ?_)) _
      refine (shapeCast_apply _ _ q (fun a => match a with | ⟨0, _⟩ => ⟨0, Nat.zero_lt_one⟩ | ⟨1, _⟩ => ⟨0, Nat.zero_lt_one⟩ | ⟨2, _⟩ => q 0 | ⟨3, _⟩ => q 1 : S1x1x8x128.Idx) ?_).trans ((ha _).trans ?_)
      · refine (Shape.rowMajor_val_four (d := ![1, 1, 8, 128]) _).trans (Eq.trans ?_ (Shape.rowMajor_val_two (d := ![8, 128]) _).symm)
        show ((0 * 1 + 0) * 8 + (q 0).val) * 128 + (q 1).val = (q 0).val * 128 + (q 1).val
        omega
      · show A (g + 1 * 0) (k + 1 * 0) (0 + 1 * (q 0).val) (0 + 1 * (q 1).val) = _
        rw [eg]
        congr 1 <;> omega
  · rw [if_neg]
    rintro ⟨e0, e1⟩
    apply hn
    intro a
    match a with
    | ⟨0, _⟩ => show k ≤ (y 0).val ∧ (y 0).val < k + 1; omega
    | ⟨1, _⟩ => show 128 * g ≤ (y 1).val ∧ (y 1).val < 128 * g + 128; omega

theorem runs_redGroup (A : ℕ → ℕ → ℕ → ℕ → F .f32) (g : ℕ) (h : g < 20) (st : St F)
    (ha : ∀ y : S20x5x8x128.Idx, st.acc y = A (y 0).val (y 1).val (y 2).val (y 3).val) :
    𝓡 (redGroupP R g h) st fun _ st' => ∃ f, st' = st.setRed f ∧ ∀ y : S8x2560.Idx,
      f y = if (y 1).val / 128 = g then redV A (y 0).val (y 1).val else st.red y := by
  unfold redGroupP
  refine Runs.bind ((runs_redRow A 0 _ g h st ha).mono ?_)
  rintro _ _ ⟨f0, rfl, h0⟩
  refine Runs.bind ((runs_redRow A 1 _ g h (St.setRed st f0) ha).mono ?_)
  rintro _ _ ⟨f1, rfl, h1⟩
  refine Runs.bind ((runs_redRow A 2 _ g h (St.setRed st f1) ha).mono ?_)
  rintro _ _ ⟨f2, rfl, h2⟩
  refine Runs.bind ((runs_redRow A 3 _ g h (St.setRed st f2) ha).mono ?_)
  rintro _ _ ⟨f3, rfl, h3⟩
  refine Runs.bind ((runs_redRow A 4 _ g h (St.setRed st f3) ha).mono ?_)
  rintro _ _ ⟨f4, rfl, h4⟩
  refine Runs.bind (Runs.loadAny (keep_of rfl (focus_red R c I _)) fun _ => ?_)
  refine Runs.store (focus_red R c I _) ⟨_, rfl, fun y => ?_⟩
  have l0 : (y 0).val < 8 := (y 0).isLt
  refine put_spec (s := S8x2560) _ _ _ _ (fun y w => w = if (y 1).val / 128 = g then redV A (y 0).val (y 1).val else st.red y) y (fun hi => ?_) fun hn => ?_
  · have h0 : 5 ≤ (y 0).val ∧ (y 0).val < 5 + 3 := hi 0
    have h1 : 128 * g ≤ (y 1).val ∧ (y 1).val < 128 * g + 128 := hi 1
    rw [if_pos (by omega)]
    unfold redV
    rw [if_neg (by omega)]
    rfl
  · have e0 := h0 y
    have e1 := h1 y
    have e2 := h2 y
    have e3 := h3 y
    have e4 := h4 y
    dsimp only [St.setRed] at e0 e1 e2 e3 e4
    refine e4.trans ?_
    rw [e3, e2, e1, e0]
    by_cases hg : (y 1).val / 128 = g
    · have hk : (y 0).val = 0 ∨ (y 0).val = 1 ∨ (y 0).val = 2 ∨ (y 0).val = 3 ∨ (y 0).val = 4 := by
        by_contra hk
        apply hn
        intro a
        match a with
        | ⟨0, _⟩ => show 5 ≤ (y 0).val ∧ (y 0).val < 5 + 3; omega
        | ⟨1, _⟩ => show 128 * g ≤ (y 1).val ∧ (y 1).val < 128 * g + 128; omega
      rw [if_pos hg]
      split_ifs <;> first | rfl | omega
    · rw [if_neg fun h => hg h.2, if_neg fun h => hg h.2, if_neg fun h => hg h.2, if_neg fun h => hg h.2, if_neg fun h => hg h.2, if_neg hg]

theorem runs_redGroups (A : ℕ → ℕ → ℕ → ℕ → F .f32) (st : St F)
    (ha : ∀ y : S20x5x8x128.Idx, st.acc y = A (y 0).val (y 1).val (y 2).val (y 3).val) :
    𝓡 (eachGroup (redGroupP R)) st fun _ st' => st' = st.setRed fun y => redV A (y 0).val (y 1).val := by
  refine Runs.each _ (fun g st' => ∃ f, st' = st.setRed f ∧ ∀ y : S8x2560.Idx, (y 1).val / 128 < g → f y = redV A (y 0).val (y 1).val)
    ⟨st.red, rfl, fun y h => absurd h (Nat.not_lt_zero _)⟩ ?_ ?_
  · rintro g hg _ ⟨f, rfl, hf⟩
    refine (runs_redGroup A g hg (st.setRed f) ha).mono ?_
    rintro _ _ ⟨f', rfl, hf'⟩
    refine ⟨f', rfl, fun y hy => (hf' y).trans ?_⟩
    by_cases e : (y 1).val / 128 = g
    · rw [if_pos e]
    · rw [if_neg e]; exact hf y (by omega)
  · rintro _ ⟨f, rfl, hf⟩
    refine congrArg st.setRed (funext fun y => hf y ?_)
    have : (y 1).val < 2560 := (y 1).isLt
    omega

/-- What a grid point leaves. -/
structure Left (I : In F) (i : grid0.Coords) (tail : ℕ → ℕ → ℕ → F .f32) (a : ℕ → ℕ → ℕ → ℕ → F .f32) (rd : Vec F S8x2560 .f32) (st : St F) : Prop where
  keep : ∀ y : S16512x128.Idx, st.keep y = keepV I.cu (i 0).val 62 (y 0).val
  flag : ∀ y : S514.Idx, st.flag y = flagV I.cu (i 0).val 62 (y 0).val
  dz : ∀ y : S20x264x128.Idx, (y 1).val < 256 → st.dz y = dzV I i (y 0).val (y 1).val (y 2).val
  acc : ∀ y : S20x5x8x128.Idx, st.acc y = accV I i a 8 (y 0).val (y 1).val (y 2).val (y 3).val
  dx : st.dx = fun y => dxV I i tail ((y 2).val / 128) (y 1).val ((y 2).val % 128)
  red : st.red = open Classical in if (i 0).val = 1 ∧ (i 1).val = 63 then fun y => redV (accV I i a 8) (y 0).val (y 1).val else rd

/-- The body of a grid point. -/
theorem runs_body (hcu : ∀ n, word I.cu n ≤ 16384) (i : grid0.Coords) (tail : ℕ → ℕ → ℕ → F .f32) (a : ℕ → ℕ → ℕ → ℕ → F .f32) (rd : Vec F S8x2560 .f32)
    (st : St F) (he : Entry I i tail a rd st) : 𝓡 (bodyP R i) st fun _ st' => Left I i tail a rd st' := by
  unfold bodyP
  refine runs_ready hcu i tail a rd st he _ fun st1 h1 => ?_
  refine Runs.bind ((runs_chunks i tail a rd st1 h1).mono fun _ st2 h2 => ?_)
  have hdz : ∀ y : S20x264x128.Idx, (y 1).val < 256 → st2.dz y = dzV I i (y 0).val (y 1).val (y 2).val := fun y hy => by
    refine (h2.dz y (.inl (by omega))).trans ?_
    unfold zV
    rw [if_pos hy]
  have hacc : ∀ y : S20x5x8x128.Idx, st2.acc y = accV I i a 8 (y 0).val (y 1).val (y 2).val (y 3).val := fun y => by
    have := h2.acc y
    rwa [if_neg (Nat.not_lt_zero _)] at this
  have hdx : st2.dx = fun y => dxV I i tail ((y 2).val / 128) (y 1).val ((y 2).val % 128) := funext fun y => h2.dx y (.inl (by omega))
  dsimp only
  refine Runs.dite (fun h => ?_) fun h => ?_
  · refine Runs.bind ((runs_redGroups _ st2 hacc).mono ?_)
    rintro _ _ rfl
    exact Runs.ret ⟨h2.keep, h2.flag, hdz, hacc, hdx, (if_pos ((last_iff i).mp h)).symm⟩
  · exact Runs.ret ⟨h2.keep, h2.flag, hdz, hacc, hdx, h2.red.trans (if_neg fun h' => h ((last_iff i).mpr h')).symm⟩

end

end Cert.KernelIdeal.Conv
-- ==== Proof.Mirror.lean ====
/- The printed pieces of the kernel's body are the programs of Body.lean. -/
module

public import proofs.«01_k».proof.Proof.Body
public import Idealize.ShloMosaic.Lib.Pipeline.Regions

@[expose] public section

noncomputable section

namespace Cert.KernelIdeal.Conv

open Idealize.ShloMosaic Idealize.SL.Sem
open Cert.KernelIdeal Facts₀ Facts

variable {F : FTy → Type} [FloatOps F]

/-- The printed body's head is `headP`. -/
theorem head_eq (i : grid0.Coords) (R : Refs) :
    (k0_part212 i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 : P F _) = headP R i := by
  chain_rfl

/-- The printed body is `bodyP`. -/
theorem body_eq (i : grid0.Coords) (R : Refs) :
    (cc0__bwd_kernel i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 : P F PUnit) = bodyP R i := by
  chain_rfl

end Cert.KernelIdeal.Conv
-- ==== Proof.Run.lean ====
/- The kernel over its grid: what the scratches carry from one point to the next, the body at every point, and the run of
   the whole program. -/
module

public import proofs.«01_k».proof.Proof.Host
public import proofs.«01_k».proof.Proof.Whole
public import proofs.«01_k».proof.Proof.Mirror

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen Facts₀ Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point reads, and what the points before it leave -/

/-- The blocks of point `t`. -/
def inAt (c : Dev nD) (t : Fin grid0.N) : In F where
  cu := tbl m 0
  x := iblk m c 0 t
  xp := iblk m c 1 t
  sx := iblk m c 2 t
  sxp := iblk m c 3 t
  dy := iblk m c 4 t
  sdy := iblk m c 5 t
  par := iblk m c 6 t

/-- The accumulators after `n` points. -/
def accAt (c : Dev nD) : ℕ → ℕ → ℕ → ℕ → ℕ → F .f32
  | 0 => fun _ _ _ _ => c0
  | n + 1 => if h : n < grid0.N then accV (inAt m c ⟨n, h⟩) (grid0.coords ⟨n, h⟩) (accAt c n) 8 else fun _ _ _ _ => c0

/-- The rows of dz behind the block of point `t`: zero behind a row's end, else those of the point before. -/
def tailAt (c : Dev nD) (t : Fin grid0.N) : ℕ → ℕ → ℕ → F .f32 :=
  if (grid0.coords t 1).val = 0 then fun _ _ _ => c0
  else dzV (inAt m c ⟨t.val - 1, Nat.lt_of_le_of_lt (Nat.sub_le _ _) t.isLt⟩) (grid0.coords ⟨t.val - 1, Nat.lt_of_le_of_lt (Nat.sub_le _ _) t.isLt⟩)

/-- The block of dx that point `t` writes. -/
def dxOut (c : Dev nD) (t : Fin grid0.N) : Vec F S1x256x2560 .bf16 :=
  fun y => dxV (inAt m c t) (grid0.coords t) (tailAt m c t) ((y 2).val / 128) (y 1).val ((y 2).val % 128)

/-- The sums after point `t`. -/
def redOut (c : Dev nD) (t : Fin grid0.N) : Vec F S8x2560 .f32 := fun y => redV (accAt m c (t.val + 1)) (y 0).val (y 1).val

/-- What the scratches hold before point `n`: what the point before it left. -/
def Carry (c : Dev nD) (n : ℕ) (dz : Vec F S20x264x128 .f32) (keep : Vec F S16512x128 .f32) (acc : Vec F S20x5x8x128 .f32) (flag : Vec F S514 .i32) : Prop :=
  ∀ p : Fin grid0.N, p.val + 1 = n →
    (∀ y : S16512x128.Idx, keep y = keepV (tbl m 0) (grid0.coords p 0).val 62 (y 0).val)
    ∧ (∀ y : S514.Idx, flag y = flagV (tbl m 0) (grid0.coords p 0).val 62 (y 0).val)
    ∧ (∀ y : S20x264x128.Idx, (y 1).val < 256 → dz y = dzV (inAt m c p) (grid0.coords p) (y 0).val (y 1).val (y 2).val)
    ∧ ∀ y : S20x5x8x128.Idx, acc y = accAt m c n (y 0).val (y 1).val (y 2).val (y 3).val

/-- The invariant before point `n`. -/
def Phi (c : Dev nD) (n : ℕ) : sProp 𝕄 :=
  iprop(∃ (xs : Vec F S20x264x128 .f32) (dz : Vec F S20x264x128 .f32) (keep : Vec F S16512x128 .f32) (sx : Vec F S264x128 .f32) (sdy : Vec F S256x128 .f32)
      (acc : Vec F S20x5x8x128 .f32) (flag : Vec F S514 .i32), ⌜Carry m c n dz keep acc flag⌝
    ∗ owns (c : Thread nD τ) (Memref.whole cc0_scratch0) fullShare xs ∗ owns (c : Thread nD τ) (Memref.whole cc0_scratch1) fullShare dz
    ∗ owns (c : Thread nD τ) (Memref.whole cc0_scratch2) fullShare keep ∗ owns (c : Thread nD τ) (Memref.whole cc0_scratch3) fullShare sx
    ∗ owns (c : Thread nD τ) (Memref.whole cc0_scratch4) fullShare sdy ∗ owns (c : Thread nD τ) (Memref.whole cc0_scratch5) fullShare acc
    ∗ owns (c : Thread nD τ) (Memref.whole cc0_scratch6) fullShare flag
    ∗ (∃ r, prngReg c r) ∗ owns (c : Thread nD τ) (Memref.whole main_v12) fullShare.right (tbl m 0))

/-- The invariant at a position of the grid. -/
def PhiS (c : Dev nD) (n : ℕ) (_ : n ≤ grid0.N) : sProp 𝕄 := Phi m c n

/-- The proof data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dxOut m c t
    | ⟨8, _⟩ => redOut m c t
  Φ t := PhiS m c t.val (Nat.le_of_lt_succ t.isLt)
  q w := Pipeline.shareOf spec0 w
  owed _ := 0

theorem A_eq (c : Dev nD) (w : Fin 9) : (dats m 0 c).A w = V m c (Pipeline.arrRef spec0 w) := by
  dsimp only [dats]

theorem after0_0 (c : Dev nD) (t : Fin grid0.N) : (dats m 0 c).after 0 t = iblk m c 0 t := by dsimp only [dats]; rfl
theorem after0_1 (c : Dev nD) (t : Fin grid0.N) : (dats m 0 c).after 1 t = iblk m c 1 t := by dsimp only [dats]; rfl
theorem after0_2 (c : Dev nD) (t : Fin grid0.N) : (dats m 0 c).after 2 t = iblk m c 2 t := by dsimp only [dats]; rfl
theorem after0_3 (c : Dev nD) (t : Fin grid0.N) : (dats m 0 c).after 3 t = iblk m c 3 t := by dsimp only [dats]; rfl
theorem after0_4 (c : Dev nD) (t : Fin grid0.N) : (dats m 0 c).after 4 t = iblk m c 4 t := by dsimp only [dats]; rfl
theorem after0_5 (c : Dev nD) (t : Fin grid0.N) : (dats m 0 c).after 5 t = iblk m c 5 t := by dsimp only [dats]; rfl
theorem after0_6 (c : Dev nD) (t : Fin grid0.N) : (dats m 0 c).after 6 t = iblk m c 6 t := by dsimp only [dats]; rfl
theorem after0_7 (c : Dev nD) (t : Fin grid0.N) : (dats m 0 c).after 7 t = dxOut m c t := by dsimp only [dats]; rfl
theorem after0_8 (c : Dev nD) (t : Fin grid0.N) : (dats m 0 c).after 8 t = redOut m c t := by dsimp only [dats]; rfl
theorem before0_0 (c : Dev nD) (t : Fin grid0.N) (d) : (dats m 0 c).before 0 t d = iblk m c 0 t :=
  before_of0 m (dats m 0 c) (A_eq m c 0) (after0_0 m c) t d
theorem before0_1 (c : Dev nD) (t : Fin grid0.N) (d) : (dats m 0 c).before 1 t d = iblk m c 1 t :=
  before_of1 m (dats m 0 c) (A_eq m c 1) (after0_1 m c) t d
theorem before0_2 (c : Dev nD) (t : Fin grid0.N) (d) : (dats m 0 c).before 2 t d = iblk m c 2 t :=
  before_of2 m (dats m 0 c) (A_eq m c 2) (after0_2 m c) t d
theorem before0_3 (c : Dev nD) (t : Fin grid0.N) (d) : (dats m 0 c).before 3 t d = iblk m c 3 t :=
  before_of3 m (dats m 0 c) (A_eq m c 3) (after0_3 m c) t d
theorem before0_4 (c : Dev nD) (t : Fin grid0.N) (d) : (dats m 0 c).before 4 t d = iblk m c 4 t :=
  before_of4 m (dats m 0 c) (A_eq m c 4) (after0_4 m c) t d
theorem before0_5 (c : Dev nD) (t : Fin grid0.N) (d) : (dats m 0 c).before 5 t d = iblk m c 5 t :=
  before_of5 m (dats m 0 c) (A_eq m c 5) (after0_5 m c) t d
theorem before0_6 (c : Dev nD) (t : Fin grid0.N) (d) : (dats m 0 c).before 6 t d = iblk m c 6 t :=
  before_of6 m (dats m 0 c) (A_eq m c 6) (after0_6 m c) t d

theorem Phi_start (c : Dev nD) (t : Fin grid0.N) : (dats m 0 c).Φ t.castSucc = Phi m c t.val := by
  dsimp only [dats]; exact Dat.Φ_castSucc (PhiS m c) t
theorem Phi_end (c : Dev nD) (t : Fin grid0.N) : (dats m 0 c).Φ t.succ = Phi m c (t.val + 1) := by
  dsimp only [dats]; rfl

/-! ## The body at a point -/

/-- The buffers of point `t`. -/
def refsAt (t : Fin grid0.N) : Refs where
  arg2 := Memref.whole main_v12
  harg2 := Memref.isWhole_whole _
  arg3 := spec0_0.stage ((cfgM m).slots t 0)
  harg3 := Facts₀.hstage0_0 (((cfgM m).slots t 0).cast Facts₀.nbuf0_0)
  arg4 := spec0_1.stage ((cfgM m).slots t 1)
  harg4 := Facts₀.hstage0_1 (((cfgM m).slots t 1).cast Facts₀.nbuf0_1)
  arg5 := spec0_2.stage ((cfgM m).slots t 2)
  harg5 := Facts₀.hstage0_2 (((cfgM m).slots t 2).cast Facts₀.nbuf0_2)
  arg6 := spec0_3.stage ((cfgM m).slots t 3)
  harg6 := Facts₀.hstage0_3 (((cfgM m).slots t 3).cast Facts₀.nbuf0_3)
  arg7 := spec0_4.stage ((cfgM m).slots t 4)
  harg7 := Facts₀.hstage0_4 (((cfgM m).slots t 4).cast Facts₀.nbuf0_4)
  arg8 := spec0_5.stage ((cfgM m).slots t 5)
  harg8 := Facts₀.hstage0_5 (((cfgM m).slots t 5).cast Facts₀.nbuf0_5)
  arg9 := spec0_6.stage ((cfgM m).slots t 6)
  harg9 := Facts₀.hstage0_6 (((cfgM m).slots t 6).cast Facts₀.nbuf0_6)
  arg10 := spec0_7.stage ((cfgM m).slots t 7)
  harg10 := Facts₀.hstage0_7 (((cfgM m).slots t 7).cast Facts₀.nbuf0_7)
  arg11 := spec0_8.stage ((cfgM m).slots t 8)
  harg11 := Facts₀.hstage0_8 (((cfgM m).slots t 8).cast Facts₀.nbuf0_8)
  arg12 := Memref.whole cc0_scratch0
  harg12 := Memref.isWhole_whole _
  arg13 := Memref.whole cc0_scratch1
  harg13 := Memref.isWhole_whole _
  arg14 := Memref.whole cc0_scratch2
  harg14 := Memref.isWhole_whole _
  arg15 := Memref.whole cc0_scratch3
  harg15 := Memref.isWhole_whole _
  arg16 := Memref.whole cc0_scratch4
  harg16 := Memref.isWhole_whole _
  arg17 := Memref.whole cc0_scratch5
  harg17 := Memref.isWhole_whole _
  arg18 := Memref.whole cc0_scratch6
  harg18 := Memref.isWhole_whole _

theorem defs₀_row (t : Fin grid0.N) :
    defs₀ (F := F) .tc (cfgM m).body ((cfgM m).bodyArgs t ((cfgM m).slots t)) = bodyP (refsAt m t) (grid0.coords t) := by
  unfold defs₀; rw [Defs.onTc_tc]; exact body_eq (grid0.coords t) (refsAt m t)

theorem entry_of (c : Dev nD) (t : Fin grid0.N) (rd : Vec F S8x2560 .f32) (st : St F) (hc : Carry m c t.val st.dz st.keep st.acc st.flag) (hr : st.red = rd) :
    Entry (inAt m c t) (grid0.coords t) (tailAt m c t) (accAt m c t.val) rd st := by
  have e0 := coord0 t
  have e1 := coord1 t
  have hp : t.val ≠ 0 → ∃ p : Fin grid0.N, p = ⟨t.val - 1, Nat.lt_of_le_of_lt (Nat.sub_le _ _) t.isLt⟩ ∧ p.val + 1 = t.val := fun h => ⟨_, rfl, by
    show t.val - 1 + 1 = t.val
    omega⟩
  have hrow : ∀ p : Fin grid0.N, p.val + 1 = t.val → (grid0.coords t 1).val ≠ 0 → (grid0.coords p 0).val = (grid0.coords t 0).val := fun p hp h1 => by
    rw [coord0 p, e0]; omega
  refine ⟨fun h1 => ?_, fun h1 => ?_, fun h1 => ?_, fun h1 => ?_, fun h1 => ?_, fun h1 => ?_, hr⟩
  · obtain ⟨p, hpe, hpt⟩ := hp (by omega)
    have := (hc p hpt).1
    rwa [hrow p hpt h1] at this
  · obtain ⟨p, hpe, hpt⟩ := hp (by omega)
    have := (hc p hpt).2.1
    rwa [hrow p hpt h1] at this
  · obtain ⟨p, hpe, hpt⟩ := hp (by omega)
    intro y hy
    unfold tailAt
    rw [if_neg h1, ← hpe]
    exact (hc p hpt).2.2.1 y (by omega)
  · obtain ⟨p, hpe, hpt⟩ := hp (by omega)
    exact (hc p hpt).2.2.2
  · unfold tailAt; rw [if_pos h1]
  · rw [show t.val = 0 by omega]; rfl

theorem carry_of (c : Dev nD) (t : Fin grid0.N) (rd : Vec F S8x2560 .f32) (st : St F)
    (h : Left (inAt m c t) (grid0.coords t) (tailAt m c t) (accAt m c t.val) rd st) : Carry m c (t.val + 1) st.dz st.keep st.acc st.flag := by
  intro p hp
  obtain rfl : p = t := Fin.ext (by omega)
  refine ⟨h.keep, h.flag, h.dz, fun y => (h.acc y).trans ?_⟩
  show _ = (if h : p.val < grid0.N then accV (inAt m c ⟨p.val, h⟩) (grid0.coords ⟨p.val, h⟩) (accAt m c p.val) 8 else fun _ _ _ _ => c0) _ _ _ _
  rw [dif_pos p.isLt]

/-- The last point's sums. -/
theorem red_of (c : Dev nD) (t : Fin grid0.N) (rd : Vec F S8x2560 .f32) (st : St F)
    (h : Left (inAt m c t) (grid0.coords t) (tailAt m c t) (accAt m c t.val) rd st) :
    ((cfgM m).idle 8 (grid0.coords t) = true ∧ ((cfgM m).win 8).flush t = false ∧ st.red = rd) ∨ ((cfgM m).idle 8 (grid0.coords t) = false ∧ st.red = redOut m c t) := by
  have ht : t.val < 128 := t.isLt.trans_eq N_0
  have e0 := coord0 t
  have e1 := coord1 t
  by_cases hl : (grid0.coords t 0).val = 1 ∧ (grid0.coords t 1).val = 63
  · refine .inr ⟨?_, ?_⟩
    · show (!(k0_cond6 (grid0.coords t) == 1#1)) = false
      rw [(last_iff _).mpr hl]; rfl
    · rw [h.red, if_pos hl]
      funext y
      unfold redOut
      rw [show accAt m c (t.val + 1) = accV (inAt m c t) (grid0.coords t) (accAt m c t.val) 8 from dif_pos t.isLt]
  · refine .inl ⟨?_, ?_, ?_⟩
    · show (!(k0_cond6 (grid0.coords t) == 1#1)) = true
      have : k0_cond6 (grid0.coords t) ≠ 1#1 := fun h => hl ((last_iff _).mp h)
      rw [beq_eq_false_iff_ne.mpr this]; rfl
    · rw [← Bool.not_eq_true, flush8]; omega
    · rw [h.red, if_neg hl]

/-- What a point is given, -/
def bodyPre (c : Dev nD) (t : Fin grid0.N) : sProp 𝕄 :=
  iprop((dats m 0 c).Φ t.castSucc ∗ (dats m 0 c).owesAt () t.castSucc
    ∗ (∃ d, owns (c : Thread nD τ) (refsAt m t).arg3 fullShare ((dats m 0 c).before 0 t d))
    ∗ (∃ d, owns (c : Thread nD τ) (refsAt m t).arg4 fullShare ((dats m 0 c).before 1 t d))
    ∗ (∃ d, owns (c : Thread nD τ) (refsAt m t).arg5 fullShare ((dats m 0 c).before 2 t d))
    ∗ (∃ d, owns (c : Thread nD τ) (refsAt m t).arg6 fullShare ((dats m 0 c).before 3 t d))
    ∗ (∃ d, owns (c : Thread nD τ) (refsAt m t).arg7 fullShare ((dats m 0 c).before 4 t d))
    ∗ (∃ d, owns (c : Thread nD τ) (refsAt m t).arg8 fullShare ((dats m 0 c).before 5 t d))
    ∗ (∃ d, owns (c : Thread nD τ) (refsAt m t).arg9 fullShare ((dats m 0 c).before 6 t d))
    ∗ (∃ d, owns (c : Thread nD τ) (refsAt m t).arg10 fullShare ((dats m 0 c).before 7 t d))
    ∗ (∃ d, owns (c : Thread nD τ) (refsAt m t).arg11 fullShare ((dats m 0 c).before 8 t d)))

/-- and what it gives back. -/
def bodyPost (c : Dev nD) (t : Fin grid0.N) : sProp 𝕄 :=
  iprop((dats m 0 c).Φ t.succ ∗ (dats m 0 c).owesAt () t.succ
    ∗ owns (c : Thread nD τ) (refsAt m t).arg3 fullShare ((dats m 0 c).after 0 t)
    ∗ owns (c : Thread nD τ) (refsAt m t).arg4 fullShare ((dats m 0 c).after 1 t)
    ∗ owns (c : Thread nD τ) (refsAt m t).arg5 fullShare ((dats m 0 c).after 2 t)
    ∗ owns (c : Thread nD τ) (refsAt m t).arg6 fullShare ((dats m 0 c).after 3 t)
    ∗ owns (c : Thread nD τ) (refsAt m t).arg7 fullShare ((dats m 0 c).after 4 t)
    ∗ owns (c : Thread nD τ) (refsAt m t).arg8 fullShare ((dats m 0 c).after 5 t)
    ∗ owns (c : Thread nD τ) (refsAt m t).arg9 fullShare ((dats m 0 c).after 6 t)
    ∗ owns (c : Thread nD τ) (refsAt m t).arg10 fullShare ((dats m 0 c).after 7 t)
    ∗ match (cfgM m).idle 8 (grid0.coords t) with
      | true => match ((cfgM m).win 8).flush t with
        | false => iprop(∃ d, owns (c : Thread nD τ) (refsAt m t).arg11 fullShare ((dats m 0 c).before 8 t d))
        | true => owns (c : Thread nD τ) (refsAt m t).arg11 fullShare ((dats m 0 c).after 8 t)
      | false => owns (c : Thread nD τ) (refsAt m t).arg11 fullShare ((dats m 0 c).after 8 t))

/-- A body's triple with a part of the state aside. -/
theorem triple_framed {α : Type} {p : P F α} {c : Dev nD} {A R : sProp 𝕄} {Q Q' : α → sProp 𝕄}
    (h : A ⊢ wp frame (wpE (defs₀ (F := F)) Variants.none (c : Thread nD τ) none) Set.univ p Q) (hQ : ∀ a, iprop(Q a ∗ R) ⊢ Q' a) :
    iprop(A ∗ R) ⊢ wp frame (wpE (defs₀ (F := F)) Variants.none (c : Thread nD τ) none) Set.univ p Q' :=
  ((sep_mono h .rfl).trans (wp_frame_r frame _ Set.univ)).trans (wp_mono frame _ Set.univ hQ)

/-- The last window after the body. -/
theorem after_red (c : Dev nD) (t : Fin grid0.N) (d8) (st : St F)
    (h : Left (inAt m c t) (grid0.coords t) (tailAt m c t) (accAt m c t.val) ((dats m 0 c).before 8 t d8) st) :
    (owns (c : Thread nD τ) (refsAt m t).arg11 fullShare st.red : sProp 𝕄) ⊢ (match (cfgM m).idle 8 (grid0.coords t) with
      | true => match ((cfgM m).win 8).flush t with
        | false => iprop(∃ d, owns (c : Thread nD τ) (refsAt m t).arg11 fullShare ((dats m 0 c).before 8 t d))
        | true => owns (c : Thread nD τ) (refsAt m t).arg11 fullShare ((dats m 0 c).after 8 t)
      | false => owns (c : Thread nD τ) (refsAt m t).arg11 fullShare ((dats m 0 c).after 8 t)) := by
  rcases red_of m c t _ st h with ⟨hi, hf, hr⟩ | ⟨hi, hr⟩
  · rw [hi, hf, hr]
    iintro H
    iexists d8
    iexact H
  · rw [hi, hr, after0_8]

/-- After the body. -/
theorem after_body (c : Dev nD) (t : Fin grid0.N) (d8) :
    iprop((∃ st', ⌜Left (inAt m c t) (grid0.coords t) (tailAt m c t) (accAt m c t.val) ((dats m 0 c).before 8 t d8) st'⌝ ∗ own (refsAt m t) c (inAt m c t) st')
      ∗ (dats m 0 c).owesAt () t.castSucc ∗ ∃ r, prngReg c r) ⊢ bodyPost m c t := by
  unfold bodyPost
  rw [Phi_end, show (dats m 0 c).owesAt () t.succ = (dats m 0 c).owesAt () t.castSucc from rfl,
    after0_0, after0_1, after0_2, after0_3, after0_4, after0_5, after0_6, after0_7]
  unfold Phi own ownIn ownSt
  iintro ⟨⟨%st, %hl, ⟨Ht, H0, H1, H2, H3, H4, H5, H6⟩, H7, H8, S0, S1, S2, S3, S4, S5, S6⟩, Ho, Hr⟩
  ihave H8 := after_red m c t d8 st hl $$ H8
  isplitl [Ht S0 S1 S2 S3 S4 S5 S6 Hr]
  · iexists st.xs; iexists st.dz; iexists st.keep; iexists st.sx; iexists st.sdy; iexists st.acc; iexists st.flag
    isplitr
    · ipureintro; exact carry_of m c t _ st hl
    iframe S0 S1 S2 S3 S4 S5 S6 Hr
    iexact Ht
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · have e : st.dx = dxOut m c t := hl.dx
    rw [← e]
    iexact H7
  iexact H8

/-- Before the body: the buffers owned at the point's contents, the rest aside. -/
theorem sound_body (hcu : ∀ n, word (F := F) (tbl m 0) n ≤ 16384) (c : Dev nD) (t : Fin grid0.N) :
    bodyPre m c t ⊢ wp frame (wpE (defs₀ (F := F)) Variants.none c none) Set.univ (bodyP (refsAt m t) (grid0.coords t)) (fun _ => bodyPost m c t) := by
  unfold bodyPre
  simp only [before0_0, before0_1, before0_2, before0_3, before0_4, before0_5, before0_6]
  rw [Phi_start]
  unfold Phi
  iintro ⟨⟨%xs, %dz, %keep, %sx, %sdy, %acc, %flag, %hc, S0, S1, S2, S3, S4, S5, S6, Hr, Ht⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  let st : St F := ⟨(dats m 0 c).before 7 t d7, (dats m 0 c).before 8 t d8, xs, dz, keep, sx, sdy, acc, flag⟩
  have hrun := runs_body (R := refsAt m t) (c := c) (I := inAt m c t) (bd := defs₀ (F := F)) (vs := Variants.none) hcu (grid0.coords t) (tailAt m c t) (accAt m c t.val)
    ((dats m 0 c).before 8 t d8) st (entry_of m c t _ st hc rfl)
  iapply (triple_framed (R := iprop((dats m 0 c).owesAt () t.castSucc ∗ ∃ r, prngReg c r)) (hrun (fun _ => iprop(∃ st', ⌜Left (inAt m c t) (grid0.coords t) (tailAt m c t) (accAt m c t.val) ((dats m 0 c).before 8 t d8) st'⌝ ∗ own (refsAt m t) c (inAt m c t) st'))
      (fun a st' h => by
        iintro H
        iexists st'
        isplitr
        · ipureintro; exact h
        · iexact H))
    (fun _ => after_body m c t d8))
  isplitr [Ho Hr]
  · unfold own ownIn ownSt
    isplitl [H0 H1 H2 H3 H4 H5 H6 Ht]
    · isplitl [Ht]
      · iexact Ht
      iframe H0 H1 H2 H3 H4 H5 H6
    · iframe H7 H8 S0 S1 S2 S3 S4 S5 S6
  · iframe Ho Hr

/-- The library's body obligation, at every point. -/
theorem body_obligation (hcu : ∀ n, word (F := F) (tbl m 0) n ≤ 16384) (c : Dev nD) :
    BodyObligation (dats (F := F) m 0 c) (defs₀ (F := F)) Variants.none () Set.univ := fun t => by
  rw [bigSep_W0, bigSep_W0, defs₀_row]
  exact triple_restated (sound_body m hcu c t) rfl .rfl fun _ => .rfl

/-! ## The run -/

theorem Phi_in (c : Dev nD) : iprop(Pipeline.ΦA spec0 c ∗ Pipeline.ΦT pre0 (tbl m) c) ⊢ (dats (F := F) m 0 c).Φ 0 := by
  show _ ⊢ Phi m c 0
  unfold Phi
  rw [PhiT0_eq]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩, ⟨%f6, S6⟩⟩, Hr⟩, Ht⟩
  iexists f0; iexists f1; iexists f2; iexists f3; iexists f4; iexists f5; iexists f6
  isplitr
  · ipureintro
    intro p hp
    exact absurd hp (Nat.succ_ne_zero _)
  rw [owns_whole, owns_whole, owns_whole, owns_whole, owns_whole, owns_whole, owns_whole]
  isplitl [S0]
  · iexact S0
  isplitl [S1]
  · iexact S1
  isplitl [S2]
  · iexact S2
  isplitl [S3]
  · iexact S3
  isplitl [S4]
  · iexact S4
  isplitl [S5]
  · iexact S5
  isplitl [S6]
  · iexact S6
  isplitl [Hr]
  · iexact Hr
  iexact Ht

/-- An owned buffer is a buffer at some contents. -/
theorem own_out (c : Dev nD) (b : Ref sig .tc) (f : Buf (Elt F) ((c : Thread nD τ).loc b)) :
    (owns (c : Thread nD τ) (Memref.whole b) fullShare f : sProp 𝕄) ⊢ iprop(∃ f : Buf (Elt F) ((c : Thread nD τ).loc b), ((c : Thread nD τ).loc b) ↦{fullShare} f) := by
  rw [owns_whole]
  iintro H
  iexists f
  iexact H

theorem Phi_out (c : Dev nD) : (dats (F := F) m 0 c).Φ (Fin.last grid0.N) ⊢ Pipeline.ΦA spec0 c := by
  show Phi m c grid0.N ⊢ _
  unfold Phi Pipeline.ΦA
  rw [scopedRest0_eq]
  iintro ⟨%f0, %f1, %f2, %f3, %f4, %f5, %f6, %hc, S0, S1, S2, S3, S4, S5, S6, Hr, Ht⟩
  isplitr [Hr]
  · isplitl [S0]
    · iapply (own_out c cc0_scratch0 f0); iexact S0
    isplitl [S1]
    · iapply (own_out c cc0_scratch1 f1); iexact S1
    isplitl [S2]
    · iapply (own_out c cc0_scratch2 f2); iexact S2
    isplitl [S3]
    · iapply (own_out c cc0_scratch3 f3); iexact S3
    isplitl [S4]
    · iapply (own_out c cc0_scratch4 f4); iexact S4
    isplitl [S5]
    · iapply (own_out c cc0_scratch5 f5); iexact S5
    iapply (own_out c cc0_scratch6 f6); iexact S6
  · iexact Hr

set_option backward.isDefEq.respectTransparency.types false in
set_option maxHeartbeats 800000 in
/-- Every execution ends, with every array of the pipeline at what the proof data says and every other buffer as the
    operations around the pipeline leave it. -/
theorem run_main_quiescent (hcu : ∀ n, word (F := F) (tbl m 0) n ≤ 16384) :
    θ_run defs (onTc (τ := τ) (main (F := F))) (s₀ m ρ) (fun r =>
      Pipeline.FramePost (Pipeline.pin pcfgs fun _ => adm m) (dats m) 0 (Pipeline.afterTail pcfgs (fun _ => adm m) (dats m) 0 (V0 m) [hostOps1]) r
        ∧ r.2.sem = fun _ => 0) :=
  Pipeline.θ_run_frameP_around_track_shared (Q' := _) pcfgs (fun _ => adm m) (dats m) (0 : Fin 1) launch₀0 defs₀ Variants.none m ρ main
    (hbody := fun c => (body_obligation m hcu c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hpf := V_pre m)
    (hin := Phi_in m) (hout := Phi_out m)

/-! ## The arguments end unchanged -/

theorem V_main_arg0 (c : Dev nD) : V m c main_arg0 = m ((c : Thread nD τ).loc main_arg0) :=
  StableHlo.after_of_forall_not_mem _ _ (by
    intro op hop
    simp only [hostOps0, List.flatten_cons, List.flatten_nil, List.append_nil, List.mem_cons, List.mem_nil_iff, or_false] at hop
    rcases hop with rfl | rfl | rfl | rfl | rfl | rfl | rfl | rfl | rfl | rfl | rfl | rfl | rfl | rfl | rfl | rfl | rfl
    all_goals simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem V_main_arg1 (c : Dev nD) : V m c main_arg1 = m ((c : Thread nD τ).loc main_arg1) :=
  StableHlo.after_of_forall_not_mem _ _ (by
    intro op hop
    simp only [hostOps0, List.flatten_cons, List.flatten_nil, List.append_nil, List.mem_cons, List.mem_nil_iff, or_false] at hop
    rcases hop with rfl | rfl | rfl | rfl | rfl | rfl | rfl | rfl | rfl | rfl | rfl | rfl | rfl | rfl | rfl | rfl | rfl
    all_goals simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem V_main_arg2 (c : Dev nD) : V m c main_arg2 = m ((c : Thread nD τ).loc main_arg2) :=
  StableHlo.after_of_forall_not_mem _ _ (by
    intro op hop
    simp only [hostOps0, List.flatten_cons, List.flatten_nil, List.append_nil, List.mem_cons, List.mem_nil_iff, or_false] at hop
    rcases hop with rfl | rfl | rfl | rfl | rfl | rfl | rfl | rfl | rfl | rfl | rfl | rfl | rfl | rfl | rfl | rfl | rfl
    all_goals simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem V_main_arg3 (c : Dev nD) : V m c main_arg3 = m ((c : Thread nD τ).loc main_arg3) :=
  StableHlo.after_of_forall_not_mem _ _ (by
    intro op hop
    simp only [hostOps0, List.flatten_cons, List.flatten_nil, List.append_nil, List.mem_cons, List.mem_nil_iff, or_false] at hop
    rcases hop with rfl | rfl | rfl | rfl | rfl | rfl | rfl | rfl | rfl | rfl | rfl | rfl | rfl | rfl | rfl | rfl | rfl
    all_goals simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem V_main_arg4 (c : Dev nD) : V m c main_arg4 = m ((c : Thread nD τ).loc main_arg4) :=
  StableHlo.after_of_forall_not_mem _ _ (by
    intro op hop
    simp only [hostOps0, List.flatten_cons, List.flatten_nil, List.append_nil, List.mem_cons, List.mem_nil_iff, or_false] at hop
    rcases hop with rfl | rfl | rfl | rfl | rfl | rfl | rfl | rfl | rfl | rfl | rfl | rfl | rfl | rfl | rfl | rfl | rfl
    all_goals simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem V_main_arg5 (c : Dev nD) : V m c main_arg5 = m ((c : Thread nD τ).loc main_arg5) :=
  StableHlo.after_of_forall_not_mem _ _ (by
    intro op hop
    simp only [hostOps0, List.flatten_cons, List.flatten_nil, List.append_nil, List.mem_cons, List.mem_nil_iff, or_false] at hop
    rcases hop with rfl | rfl | rfl | rfl | rfl | rfl | rfl | rfl | rfl | rfl | rfl | rfl | rfl | rfl | rfl | rfl | rfl
    all_goals simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))
theorem V_main_arg6 (c : Dev nD) : V m c main_arg6 = m ((c : Thread nD τ).loc main_arg6) :=
  StableHlo.after_of_forall_not_mem _ _ (by
    intro op hop
    simp only [hostOps0, List.flatten_cons, List.flatten_nil, List.append_nil, List.mem_cons, List.mem_nil_iff, or_false] at hop
    rcases hop with rfl | rfl | rfl | rfl | rfl | rfl | rfl | rfl | rfl | rfl | rfl | rfl | rfl | rfl | rfl | rfl | rfl
    all_goals simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide))

set_option maxHeartbeats 1600000 in
/-- A buffer that is no array of the pipeline and that the last operations do not write. -/
theorem tail_keeps (c : Dev nD) (b : Ref sig .tc) (hb : ∀ w, Pipeline.arrRef spec0 w ≠ b) (h14 : b ≠ main_v14) (h15 : b ≠ main_v15) (h16 : b ≠ main_v16) (h17 : b ≠ main_v17) :
    Pipeline.afterTail pcfgs (fun _ => adm m) (dats m) 0 (V0 m) [hostOps1] c b = V m c b := by
  unfold Pipeline.afterTail
  rw [StableHlo.after_of_forall_not_mem _ _ (by
    intro op hop
    simp only [hostOps1, List.flatten_cons, List.flatten_nil, List.append_nil, List.mem_cons, List.mem_nil_iff, or_false] at hop
    rcases hop with rfl | rfl | rfl | rfl
    all_goals simp only [StableHlo.nullary_writes, StableHlo.unary_writes, StableHlo.binary_writes, StableHlo.ternary_writes, StableHlo.quaternary_writes, StableHlo.reshape_writes, StableHlo.binaryIndexed_writes, StableHlo.nary_writes, Finset.mem_singleton]
    · exact StableHlo.devRef_ne_of_ne h14
    · exact StableHlo.devRef_ne_of_ne h15
    · exact StableHlo.devRef_ne_of_ne h16
    · exact StableHlo.devRef_ne_of_ne h17), Pipeline.withArrays_of_ne _ c (V0 m c) _ _ hb]

/-- Every execution ends with the arguments as they began and every counter at zero. -/
theorem frame (hcu : ∀ n, word (F := F) (tbl m 0) n ≤ 16384) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 0 |>.trans (((dats m 0 c).arrAt_in 0 rfl _).trans ((A_eq m c 0).trans (V_main_arg0 m c))),
    ((h.1 c).2 main_arg1 (Pipeline.mem_restRefs_of (win := spec0) main_arg1 (by decide) (by decide))).trans ((tail_keeps m c main_arg1 (by decide) (by decide) (by decide) (by decide) (by decide)).trans (V_main_arg1 m c)),
    (h.1 c).1 4 |>.trans (((dats m 0 c).arrAt_in 4 rfl _).trans ((A_eq m c 4).trans (V_main_arg2 m c))),
    ((h.1 c).2 main_arg3 (Pipeline.mem_restRefs_of (win := spec0) main_arg3 (by decide) (by decide))).trans ((tail_keeps m c main_arg3 (by decide) (by decide) (by decide) (by decide) (by decide)).trans (V_main_arg3 m c)),
    ((h.1 c).2 main_arg4 (Pipeline.mem_restRefs_of (win := spec0) main_arg4 (by decide) (by decide))).trans ((tail_keeps m c main_arg4 (by decide) (by decide) (by decide) (by decide) (by decide)).trans (V_main_arg4 m c)),
    ((h.1 c).2 main_arg5 (Pipeline.mem_restRefs_of (win := spec0) main_arg5 (by decide) (by decide))).trans ((tail_keeps m c main_arg5 (by decide) (by decide) (by decide) (by decide) (by decide)).trans (V_main_arg5 m c)),
    ((h.1 c).2 main_arg6 (Pipeline.mem_restRefs_of (win := spec0) main_arg6 (by decide) (by decide))).trans ((tail_keeps m c main_arg6 (by decide) (by decide) (by decide) (by decide) (by decide)).trans (V_main_arg6 m c))⟩, h.2⟩) (run_main_quiescent m ρ hcu)

end Cert.KernelIdeal.Conv
-- ==== Proof.Twin.lean ====
/- The program before the idealisation is the same program: its run is the idealised program's run, at the machine's formats. -/
module

public import proofs.«01_k».proof.Proof.Run
public import proofs.«01_k».proof.Kernel
public import proofs.«01_k».proof.Proof.Gen.Kernel.Launch

@[expose] public section

set_option maxRecDepth 65536

noncomputable section

open Idealize.ShloMosaic Idealize.ShloMosaic.TcCoe Idealize.ShloMosaic.Pipeline

variable {F : FTy → Type} [FloatOps F]

namespace Cert.KernelIdeal.Conv

/-- Every execution of the program ends with the arguments as they began and every counter at zero. -/
def Framed (m : (ℓ : Loc nD τ sig) → Buf (Elt F) ℓ) (ρ : Dev nD → PrngReg) : Prop :=
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end Cert.KernelIdeal.Conv

namespace Cert.Kernel.Conv

/-- Every execution of the program ends with the arguments as they began and every counter at zero. -/
def Framed (m : (ℓ : Loc nD τ sig) → Buf (Elt F) ℓ) (ρ : Dev nD → PrngReg) : Prop :=
  θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

end Cert.Kernel.Conv

namespace Cert.Kernel.Conv

theorem framed_eq (m : (ℓ : Loc nD τ sig) → Buf (Elt F) ℓ) (ρ : Dev nD → PrngReg) :
    Framed m ρ = Cert.KernelIdeal.Conv.Framed (F := F) m ρ := by
  chain_rfl

theorem frame (m : (ℓ : Loc nD τ sig) → Buf (Elt F) ℓ) (ρ : Dev nD → PrngReg)
    (hcu : ∀ n, Cert.KernelIdeal.Conv.word (F := F) (Cert.KernelIdeal.Conv.tbl (F := F) m 0) n ≤ 16384) : Framed m ρ :=
  (framed_eq m ρ).mpr (Cert.KernelIdeal.Conv.frame (F := F) m ρ hcu)

end Cert.Kernel.Conv
-- ==== Proof.Spec.lean ====
/- The function both programs compute, in the extended reals, on plain coordinates. -/
module

public import proofs.«01_k».proof.Proof.Values
public import Idealize.ShloMosaic.PureOps.Ideal
public import Idealize.ShloMosaic.Lib.Pointwise.Index
public import Mathlib.Tactic.FieldSimp
public import Mathlib.Tactic.Ring
public import Mathlib.Analysis.SpecialFunctions.Trigonometric.DerivHyp

@[expose] public section

noncomputable section

namespace Cert.Conv

open Idealize.ShloMosaic
open Cert.KernelIdeal.Conv (get get_eq)

/-! ## Reading an array at the numbers of its coordinates -/

theorem get3 {α : Type} {n0 n1 n2 : ℕ} (x : (⟨3, ![n0, n1, n2]⟩ : Shape).Idx → α) (e : α) (i : Fin n0) (j : Fin n1) (k : Fin n2) (v0 v1 v2 : ℕ)
    (h0 : i.val = v0) (h1 : j.val = v1) (h2 : k.val = v2) : get (s := ⟨3, ![n0, n1, n2]⟩) x e ![v0, v1, v2] = x (ix3 i j k) :=
  get_eq (s := ⟨3, ![n0, n1, n2]⟩) x e ![v0, v1, v2] (ix3 i j k) fun a => match a with | ⟨0, _⟩ => h0 | ⟨1, _⟩ => h1 | ⟨2, _⟩ => h2

theorem get2 {α : Type} {n0 n1 : ℕ} (x : (⟨2, ![n0, n1]⟩ : Shape).Idx → α) (e : α) (i : Fin n0) (j : Fin n1) (v0 v1 : ℕ)
    (h0 : i.val = v0) (h1 : j.val = v1) : get (s := ⟨2, ![n0, n1]⟩) x e ![v0, v1] = x (ix2 i j) :=
  get_eq (s := ⟨2, ![n0, n1]⟩) x e ![v0, v1] (ix2 i j) fun a => match a with | ⟨0, _⟩ => h0 | ⟨1, _⟩ => h1

theorem get1 {α : Type} {n0 : ℕ} (x : (⟨1, ![n0]⟩ : Shape).Idx → α) (e : α) (i : Fin n0) (v0 : ℕ)
    (h0 : i.val = v0) : get (s := ⟨1, ![n0]⟩) x e ![v0] = x (ix1 i) :=
  get_eq (s := ⟨1, ![n0]⟩) x e ![v0] (ix1 i) fun a => match a with | ⟨0, _⟩ => h0

theorem get4 {α : Type} {n0 n1 n2 n3 : ℕ} (x : (⟨4, ![n0, n1, n2, n3]⟩ : Shape).Idx → α) (e : α) (i : Fin n0) (j : Fin n1) (k : Fin n2) (l : Fin n3) (v0 v1 v2 v3 : ℕ)
    (h0 : i.val = v0) (h1 : j.val = v1) (h2 : k.val = v2) (h3 : l.val = v3) : get (s := ⟨4, ![n0, n1, n2, n3]⟩) x e ![v0, v1, v2, v3] = x (ix4 i j k l) :=
  get_eq (s := ⟨4, ![n0, n1, n2, n3]⟩) x e ![v0, v1, v2, v3] (ix4 i j k l) fun a => match a with | ⟨0, _⟩ => h0 | ⟨1, _⟩ => h1 | ⟨2, _⟩ => h2 | ⟨3, _⟩ => h3

/-- The inputs by their coordinates: x scaled, dy scaled, the weights, the bias, and where the inner boundaries of a batch
    row lie. -/
structure Spec where
  xs : ℕ → ℕ → ℕ → EReal
  g : ℕ → ℕ → ℕ → EReal
  w : ℕ → ℕ → EReal
  bias : ℕ → EReal
  inner : ℕ → ℕ → Prop

namespace Spec

variable (S : Spec)

/-- x `j` rows before row `t`, zero where that row is in another document or before the first. -/
def tap (j b t d : ℕ) : EReal :=
  open Classical in if j ≤ t ∧ ¬∃ c, S.inner b c ∧ t < c + j ∧ c ≤ t then S.xs b (t - j) d else 0

/-- The convolution's value. -/
def z (b t d : ℕ) : EReal :=
  S.w d 0 * S.tap 3 b t d + S.w d 1 * S.tap 2 b t d + S.w d 2 * S.tap 1 b t d + S.w d 3 * S.tap 0 b t d + S.bias d

/-- The gradient at the convolution's value. -/
def dz (b t d : ℕ) : EReal := S.g b t d * Ideal.logistic (S.z b t d) * (1 + S.z b t d * (1 - Ideal.logistic (S.z b t d)))

/-- dz `j` rows after row `t`, zero where that row is in another document or behind the last. -/
def ztap (j b t d : ℕ) : EReal :=
  open Classical in if t + j < 16384 ∧ ¬∃ c, S.inner b c ∧ t < c ∧ c ≤ t + j then S.dz b (t + j) d else 0

/-- The gradient with respect to x. -/
def dx (b t d : ℕ) : EReal :=
  S.w d 3 * S.dz b t d + S.w d 2 * S.ztap 1 b t d + S.w d 1 * S.ztap 2 b t d + S.w d 0 * S.ztap 3 b t d

/-- The gradient with respect to the weights. -/
def dw (d k : ℕ) : EReal := ∑ b : Fin 2, ∑ t : Fin 16384, S.dz b t d * S.tap (3 - k) b t d

/-- The gradient with respect to the bias. -/
def db (d : ℕ) : EReal := ∑ b : Fin 2, ∑ t : Fin 16384, S.dz b t d

theorem tap_zero (b t d : ℕ) : S.tap 0 b t d = S.xs b t d := by
  unfold tap
  rw [if_pos ⟨Nat.zero_le _, fun ⟨c, _, h1, h2⟩ => absurd h1 (by omega)⟩]; rfl

theorem ztap_zero (b t d : ℕ) (ht : t < 16384) : S.ztap 0 b t d = S.dz b t d := by
  unfold ztap
  rw [if_pos ⟨ht, fun ⟨c, _, h1, h2⟩ => absurd h1 (by omega)⟩]; rfl

end Spec

/-- The inputs of a program as `Spec` has them. -/
def ofArrays (x : FVec Ideal ⟨3, ![2, 16384, 2560]⟩ .fp8e4m3) (sx : FVec Ideal ⟨2, ![2, 16384]⟩ .f32)
    (dy : FVec Ideal ⟨3, ![2, 16384, 2560]⟩ .fp8e5m2) (sdy : FVec Ideal ⟨2, ![2, 16384]⟩ .f32)
    (w : FVec Ideal ⟨2, ![2560, 4]⟩ .bf16) (bias : FVec Ideal ⟨1, ![2560]⟩ .f32) (cu : IVec ⟨2, ![2, 64]⟩ 32) : Spec where
  xs b t d := get (α := EReal) (s := ⟨3, ![2, 16384, 2560]⟩) x 0 ![b, t, d] * get (α := EReal) (s := ⟨2, ![2, 16384]⟩) sx 0 ![b, t]
  g b t d := get (α := EReal) (s := ⟨3, ![2, 16384, 2560]⟩) dy 0 ![b, t, d] * get (α := EReal) (s := ⟨2, ![2, 16384]⟩) sdy 0 ![b, t]
  w d k := get (α := EReal) (s := ⟨2, ![2560, 4]⟩) w 0 ![d, k]
  bias d := get (α := EReal) (s := ⟨1, ![2560]⟩) bias 0 ![d]
  inner b c := ∃ k < 62, BitVec.toNat (get (s := ⟨2, ![2, 64]⟩) cu 0#32 ![b, k + 1]) = c

/-- A scalar that is a real and not negative distributes over every sum. -/
theorem half_add (a b : EReal) : ((1 / 2 : ℝ) : EReal) * (a + b) = ((1 / 2 : ℝ) : EReal) * a + ((1 / 2 : ℝ) : EReal) * b :=
  EReal.left_distrib_of_nonneg_of_ne_top (by exact_mod_cast (by norm_num : (0 : ℝ) ≤ 1 / 2)) (EReal.coe_ne_top _) a b

theorem tanh_half (r : ℝ) : Real.tanh (1 / 2 * r) = 2 * (1 + Real.exp (-r))⁻¹ - 1 := by
  have e : Real.exp (-r) = (Real.exp (1 / 2 * r))⁻¹ * (Real.exp (1 / 2 * r))⁻¹ := by
    rw [← Real.exp_neg, ← Real.exp_add]; congr 1; ring
  rw [Real.tanh_eq_sinh_div_cosh, Real.sinh_eq, Real.cosh_eq, e, Real.exp_neg]
  have h := Real.exp_pos (1 / 2 * r)
  have h1 : Real.exp (1 / 2 * r) ≠ 0 := h.ne'
  have h2 : Real.exp (1 / 2 * r) ^ 2 + 1 ≠ 0 := by positivity
  field_simp
  ring

/-- The gradient's factor by the hyperbolic tangent at half the value is the one by the logistic function at the value. -/
theorem gate (z : EReal) : ((1 / 2 : ℝ) : EReal) * ((1 + Ideal.tanh (((1 / 2 : ℝ) : EReal) * z))
      + ((1 / 2 : ℝ) : EReal) * z * (1 - Ideal.tanh (((1 / 2 : ℝ) : EReal) * z) * Ideal.tanh (((1 / 2 : ℝ) : EReal) * z)))
    = Ideal.logistic z * (1 + z * (1 - Ideal.logistic z)) := by
  induction z with
  | bot =>
    rw [EReal.coe_mul_bot_of_pos (by norm_num)]
    simp only [Ideal.tanh_bot, Ideal.logistic_bot, zero_mul]
    have h1 : (1 : EReal) + -1 = 0 := by rw [← EReal.coe_one, ← EReal.coe_neg, ← EReal.coe_add]; norm_num
    have h2 : (1 : EReal) - -1 * -1 = 0 := by rw [← EReal.coe_one, ← EReal.coe_neg, ← EReal.coe_mul, ← EReal.coe_sub]; norm_num
    rw [h1, h2, mul_zero, add_zero, mul_zero]
  | top =>
    rw [EReal.coe_mul_top_of_pos (by norm_num)]
    simp only [Ideal.tanh_top, Ideal.logistic_top, one_mul]
    have h1 : (1 : EReal) - 1 = 0 := by rw [← EReal.coe_one, ← EReal.coe_sub]; norm_num
    rw [h1, mul_zero, add_zero, add_zero, ← EReal.coe_one, ← EReal.coe_add, ← EReal.coe_mul]
    norm_num
  | coe r =>
    rw [← EReal.coe_mul, Ideal.tanh_coe, Ideal.logistic_coe, tanh_half]
    have : (1 / 2 : ℝ) * ((1 + (2 * (1 + Real.exp (-r))⁻¹ - 1)) + 1 / 2 * r * (1 - (2 * (1 + Real.exp (-r))⁻¹ - 1) * (2 * (1 + Real.exp (-r))⁻¹ - 1)))
        = (1 + Real.exp (-r))⁻¹ * (1 + r * (1 - (1 + Real.exp (-r))⁻¹)) := by ring
    exact_mod_cast this

end Cert.Conv
-- ==== Proof.KerMath.lean ====
/- The kernel's values in the extended reals: what a grid point computes from the blocks of its rows is the function of
   `Spec` at those rows. -/
module

public import proofs.«01_k».proof.Proof.Values
public import proofs.«01_k».proof.Proof.Spec
public import Idealize.ShloMosaic.PureOps.Ideal.Laws
public import Idealize.ShloMosaic.Lib.IdealHost

@[expose] public section

noncomputable section

namespace Cert.KernelIdeal.Conv

open Idealize.ShloMosaic
open Cert.KernelIdeal Facts₀ Facts
open Cert.Conv (Spec half_add gate)

/-! ## The constants -/

theorem c0_ideal : (c0 : Ideal .f32) = (0 : EReal) := Ideal.ofBits_zero_f32
theorem c1_ideal : (c1 : Ideal .f32) = (1 : EReal) := Ideal.ofBits_one_f32
theorem cHalf_ideal : (cHalf : Ideal .f32) = ((1 / 2 : ℝ) : EReal) := by
  show Ideal.ofBits .f32 0x3F000000#32 = _
  simp [Ideal.ofBits, Ideal.ieee, -EReal.coe_mul]; norm_num

theorem regroup (a h s A : EReal) : a * (h * s) * A = a * s * (h * A) := by
  rw [mul_comm h s, ← mul_assoc a s h, mul_assoc (a * s) h A]

/-- The blocks of a grid point hold the rows of `S`, and its table has the inner boundaries. -/
structure Holds (S : Spec) (I : In Ideal) (i : grid0.Coords) : Prop where
  step : (i 1).val < 64
  x : ∀ r d, r < 256 → d < 2560 → FloatOps.mulf (F := Ideal) (get (s := S1x256x2560) (extf .f32 I.x bitsLt_fp8e4m3_f32) c0 ![0, r, d]) (get (s := S1x1x2x128) I.sx c0 ![0, 0, r / 128, r % 128])
    = S.xs (i 0).val (256 * blk i + r) d
  xp : ∀ r d, r < 8 → d < 2560 → (i 1).val ≠ 63 → FloatOps.mulf (F := Ideal) (get (s := S1x32x2560) (extf .f32 I.xp bitsLt_fp8e4m3_f32) c0 ![0, 24 + r, d]) (get (s := S1x1x2x128) I.sxp c0 ![0, 0, 1, 120 + r])
    = S.xs (i 0).val (256 * blk i + r - 8) d
  dy : ∀ r d, r < 256 → d < 2560 → FloatOps.mulf (F := Ideal) (get (s := S1x256x2560) (extf .f32 I.dy bitsLt_fp8e5m2_f32) c0 ![0, r, d]) (get (s := S1x1x2x128) I.sdy c0 ![0, 0, r / 128, r % 128])
    = S.g (i 0).val (256 * blk i + r) d
  wh : ∀ k d, k < 4 → d < 2560 → parV I k d = ((1 / 2 : ℝ) : EReal) * S.w d k
  bias : ∀ d, d < 2560 → parV I 4 d = ((1 / 2 : ℝ) : EReal) * S.bias d
  w : ∀ k d, k < 4 → d < 2560 → parV I (8 + k) d = S.w d k
  inner : ∀ c, S.inner (i 0).val c ↔ ∃ k < 62, word I.cu (64 * (i 0).val + k + 1) = c

section point
variable {S : Spec} {I : In Ideal} {i : grid0.Coords} (H : Holds S I i)

include H

/-- x scaled, `j` rows back: zero in front of the row's start. -/
theorem xs_math (j g r l : ℕ) (hj : j ≤ 3) (hr : r < 256) (hg : g < 20) (hl : l < 128) :
    xsV I i g (r + 8 - j) l = if j ≤ 256 * blk i + r then S.xs (i 0).val (256 * blk i + r - j) (128 * g + l) else 0 := by
  have hs := H.step
  unfold xsV sxV
  by_cases h : r + 8 - j < 8
  · rw [if_pos h, if_pos h]
    by_cases h63 : (i 1).val ≠ 63
    · rw [if_pos h63]
      have hb : 1 ≤ blk i := by unfold blk; omega
      rw [if_pos (by omega)]
      refine (H.xp (r + 8 - j) (128 * g + l) h (by omega) h63).trans ?_
      rw [show 256 * blk i + (r + 8 - j) - 8 = 256 * blk i + r - j by omega]
    · rw [if_neg h63]
      have hb : blk i = 0 := by unfold blk; omega
      rw [if_neg (by omega)]
      show _ * (c0 : Ideal .f32) = (0 : EReal)
      rw [c0_ideal, mul_zero]
  · rw [if_neg h, if_neg h, if_pos (by omega)]
    refine (H.x (r + 8 - j - 8) (128 * g + l) (by omega) (by omega)).trans ?_
    rw [show 256 * blk i + (r + 8 - j - 8) = 256 * blk i + r - j by omega]

/-- A chunk that is not flagged sees no inner boundary near its rows. -/
theorem flagged_math (r : ℕ) (hf : ¬flagged I i r) (c : ℕ) (hc : S.inner (i 0).val c) : c + 2 < 256 * blk i + r ∨ 256 * blk i + r + 3 < c := by
  obtain ⟨k, hk, e⟩ := (H.inner c).mp hc
  unfold flagged flagV at hf
  by_contra h
  apply hf
  rw [if_pos]
  · decide
  · refine ⟨k, hk, ?_⟩
    rw [e]
    omega

open Classical in
/-- The keep value of row `T` of a batch row: zero at an inner boundary. -/
theorem kp_math (r d : ℕ) (hd : 2 ≤ 256 * blk i + r + d) : kp I i r d = if S.inner (i 0).val (256 * blk i + r + d - 2) then (0 : EReal) else 1 := by
  unfold kp keepV
  by_cases h : S.inner (i 0).val (256 * blk i + r + d - 2)
  · rw [if_pos h]
    obtain ⟨k, hk, e⟩ := (H.inner _).mp h
    rw [if_pos ⟨k, hk, by omega⟩, c0_ideal]
  · rw [if_neg h, if_neg, c1_ideal]
    rintro ⟨k, hk, e⟩
    exact h ((H.inner _).mpr ⟨k, hk, by omega⟩)

open Classical in
/-- Tap `j` of x. -/
theorem tap_math (j g r l : ℕ) (hj : j ≤ 3) (hr : r < 256) (hg : g < 20) (hl : l < 128) :
    tapV I i j g r l = S.tap j (i 0).val (256 * blk i + r) (128 * g + l) := by
  unfold tapV
  rw [xs_math H j g r l hj hr hg hl]
  generalize hT : 256 * blk i + r = T
  by_cases hjT : j ≤ T
  swap
  · rw [if_neg hjT]
    have e0 : S.tap j (i 0).val T (128 * g + l) = 0 := by
      unfold Spec.tap
      exact if_neg fun h => hjT h.1
    rw [e0]
    split
    · exact zero_mul _
    · rfl
  rw [if_pos hjT]
  unfold Spec.tap
  by_cases hf : j ≠ 0 ∧ flagged I i r
  · rw [if_pos hf]
    have h1 := kp_math H r 2
    have h2 := kp_math H r 1
    have h3 := kp_math H r 0
    rw [hT] at h1 h2 h3
    show S.xs _ _ _ * kx I i r j = _
    have hk : kx I i r j = if ∃ c, S.inner (i 0).val c ∧ T < c + j ∧ c ≤ T then (0 : EReal) else 1 := by
      obtain ⟨h0, -⟩ := hf
      have hj' : j = 1 ∨ j = 2 ∨ j = 3 := by omega
      rcases hj' with rfl | rfl | rfl
      · show kp I i r 2 = _
        rw [h1 (by omega)]
        refine if_congr ⟨fun h => ⟨_, h, by omega, by omega⟩, fun ⟨c, h, _, _⟩ => ?_⟩ rfl rfl
        rwa [show T + 2 - 2 = c by omega]
      · show kp I i r 2 * kp I i r 1 = _
        rw [h1 (by omega), h2 (by omega)]
        by_cases a1 : S.inner (i 0).val (T + 2 - 2)
        · rw [if_pos a1, zero_mul]; exact (if_pos ⟨_, a1, by omega, by omega⟩).symm
        by_cases a2 : S.inner (i 0).val (T + 1 - 2)
        · rw [if_pos a2, mul_zero]; exact (if_pos ⟨_, a2, by omega, by omega⟩).symm
        rw [if_neg a1, if_neg a2, mul_one, if_neg]
        rintro ⟨c, h, _, _⟩
        rcases (by omega : c = T + 2 - 2 ∨ c = T + 1 - 2) with rfl | rfl <;> contradiction
      · show kp I i r 2 * kp I i r 1 * kp I i r 0 = _
        rw [h1 (by omega), h2 (by omega), h3 (by omega)]
        by_cases a1 : S.inner (i 0).val (T + 2 - 2)
        · rw [if_pos a1, zero_mul, zero_mul]; exact (if_pos ⟨_, a1, by omega, by omega⟩).symm
        by_cases a2 : S.inner (i 0).val (T + 1 - 2)
        · rw [if_pos a2, mul_zero, zero_mul]; exact (if_pos ⟨_, a2, by omega, by omega⟩).symm
        by_cases a3 : S.inner (i 0).val (T + 0 - 2)
        · rw [if_pos a3, mul_zero]; exact (if_pos ⟨_, a3, by omega, by omega⟩).symm
        rw [if_neg a1, if_neg a2, if_neg a3, mul_one, mul_one, if_neg]
        rintro ⟨c, h, _, _⟩
        rcases (by omega : c = T + 2 - 2 ∨ c = T + 1 - 2 ∨ c = T + 0 - 2) with rfl | rfl | rfl <;> contradiction
    rw [hk]
    by_cases hc : ∃ c, S.inner (i 0).val c ∧ T < c + j ∧ c ≤ T
    · rw [if_pos hc, if_neg fun h => h.2 hc, mul_zero]
    · rw [if_neg hc, if_pos ⟨hjT, hc⟩, mul_one]
  · rw [if_neg hf, if_pos]
    refine ⟨hjT, ?_⟩
    rintro ⟨c, hc, _, _⟩
    have hfl : ¬flagged I i r := fun h => hf ⟨by omega, h⟩
    have := flagged_math H r hfl c hc
    omega

/-- Half the convolution's value. -/
theorem h_math (g r l : ℕ) (hr : r < 256) (hg : g < 20) (hl : l < 128) :
    hV I i g r l = ((1 / 2 : ℝ) : EReal) * S.z (i 0).val (256 * blk i + r) (128 * g + l) := by
  have hd : 128 * g + l < 2560 := by omega
  unfold hV
  rw [tap_math H 0 g r l (by omega) hr hg hl, tap_math H 1 g r l (by omega) hr hg hl, tap_math H 2 g r l (by omega) hr hg hl,
    tap_math H 3 g r l (by omega) hr hg hl, H.wh 0 _ (by omega) hd, H.wh 1 _ (by omega) hd, H.wh 2 _ (by omega) hd, H.wh 3 _ (by omega) hd, H.bias _ hd]
  unfold Spec.z
  simp only [Ideal.addf_def, Ideal.mulf_def]
  rw [half_add, half_add, half_add, half_add]
  simp only [mul_assoc]
  abel

/-- dz. -/
theorem dz_math (g r l : ℕ) (hr : r < 256) (hg : g < 20) (hl : l < 128) :
    dzV I i g r l = S.dz (i 0).val (256 * blk i + r) (128 * g + l) := by
  have hd : 128 * g + l < 2560 := by omega
  unfold dzV sdyV Spec.dz
  rw [h_math H g r l hr hg hl, ← H.dy r _ hr hd, mul_assoc, ← gate, cHalf_ideal, c1_ideal]
  exact regroup _ _ _ _

/-! ## The rows behind -/

section tail
variable {tail : ℕ → ℕ → ℕ → Ideal .f32}
  (ht : ∀ g q l, g < 20 → q < 3 → l < 128 →
    tail g q l = if 256 * blk i + 256 + q < 16384 then S.dz (i 0).val (256 * blk i + 256 + q) (128 * g + l) else 0)

include ht

theorem z_math (j g r l : ℕ) (hj : j ≤ 3) (hr : r < 256) (hg : g < 20) (hl : l < 128) :
    zV I i tail g (r + j) l = if 256 * blk i + r + j < 16384 then S.dz (i 0).val (256 * blk i + r + j) (128 * g + l) else 0 := by
  have hs := H.step
  have hb : blk i ≤ 63 := by unfold blk; omega
  unfold zV
  by_cases h : r + j < 256
  · rw [if_pos h, if_pos (by omega), dz_math H g (r + j) l h hg hl, Nat.add_assoc]
  · rw [if_neg h, ht g _ l hg (by omega) hl, show 256 * blk i + 256 + (r + j - 256) = 256 * blk i + r + j by omega]

open Classical in
/-- Tap `j` of dz. -/
theorem ztap_math (j g r l : ℕ) (hj1 : 1 ≤ j) (hj : j ≤ 3) (hr : r < 256) (hg : g < 20) (hl : l < 128) :
    ztapV I i tail j g r l = S.ztap j (i 0).val (256 * blk i + r) (128 * g + l) := by
  unfold ztapV
  rw [z_math H ht j g r l hj hr hg hl]
  generalize hT : 256 * blk i + r = T
  by_cases hjT : T + j < 16384
  swap
  · rw [if_neg hjT]
    have e0 : S.ztap j (i 0).val T (128 * g + l) = 0 := by
      unfold Spec.ztap
      exact if_neg fun h => hjT h.1
    rw [e0]
    split
    · exact zero_mul _
    · rfl
  rw [if_pos hjT]
  unfold Spec.ztap
  by_cases hf : flagged I i r
  · rw [if_pos hf]
    have h1 := kp_math H r 3
    have h2 := kp_math H r 4
    have h3 := kp_math H r 5
    rw [hT] at h1 h2 h3
    show S.dz _ _ _ * kz I i r j = _
    have hk : kz I i r j = if ∃ c, S.inner (i 0).val c ∧ T < c ∧ c ≤ T + j then (0 : EReal) else 1 := by
      have hj' : j = 1 ∨ j = 2 ∨ j = 3 := by omega
      rcases hj' with rfl | rfl | rfl
      · show kp I i r 3 = _
        rw [h1 (by omega)]
        refine if_congr ⟨fun h => ⟨_, h, by omega, by omega⟩, fun ⟨c, h, _, _⟩ => ?_⟩ rfl rfl
        rwa [show T + 3 - 2 = c by omega]
      · show kp I i r 3 * kp I i r 4 = _
        rw [h1 (by omega), h2 (by omega)]
        by_cases a1 : S.inner (i 0).val (T + 3 - 2)
        · rw [if_pos a1, zero_mul]; exact (if_pos ⟨_, a1, by omega, by omega⟩).symm
        by_cases a2 : S.inner (i 0).val (T + 4 - 2)
        · rw [if_pos a2, mul_zero]; exact (if_pos ⟨_, a2, by omega, by omega⟩).symm
        rw [if_neg a1, if_neg a2, mul_one, if_neg]
        rintro ⟨c, h, _, _⟩
        rcases (by omega : c = T + 3 - 2 ∨ c = T + 4 - 2) with rfl | rfl <;> contradiction
      · show kp I i r 3 * kp I i r 4 * kp I i r 5 = _
        rw [h1 (by omega), h2 (by omega), h3 (by omega)]
        by_cases a1 : S.inner (i 0).val (T + 3 - 2)
        · rw [if_pos a1, zero_mul, zero_mul]; exact (if_pos ⟨_, a1, by omega, by omega⟩).symm
        by_cases a2 : S.inner (i 0).val (T + 4 - 2)
        · rw [if_pos a2, mul_zero, zero_mul]; exact (if_pos ⟨_, a2, by omega, by omega⟩).symm
        by_cases a3 : S.inner (i 0).val (T + 5 - 2)
        · rw [if_pos a3, mul_zero]; exact (if_pos ⟨_, a3, by omega, by omega⟩).symm
        rw [if_neg a1, if_neg a2, if_neg a3, mul_one, mul_one, if_neg]
        rintro ⟨c, h, _, _⟩
        rcases (by omega : c = T + 3 - 2 ∨ c = T + 4 - 2 ∨ c = T + 5 - 2) with rfl | rfl | rfl <;> contradiction
    rw [hk]
    by_cases hc : ∃ c, S.inner (i 0).val c ∧ T < c ∧ c ≤ T + j
    · rw [if_pos hc, if_neg fun h => h.2 hc, mul_zero]
    · rw [if_neg hc, if_pos ⟨hjT, hc⟩, mul_one]
  · rw [if_neg hf, if_pos]
    refine ⟨hjT, ?_⟩
    rintro ⟨c, hc, _, _⟩
    have := flagged_math H r hf c hc
    omega

/-- dx. -/
theorem dx_math (g r l : ℕ) (hr : r < 256) (hg : g < 20) (hl : l < 128) :
    dxV I i tail g r l = S.dx (i 0).val (256 * blk i + r) (128 * g + l) := by
  have hd : 128 * g + l < 2560 := by omega
  unfold dxV
  rw [ztap_math H ht 1 g r l (by omega) (by omega) hr hg hl, ztap_math H ht 2 g r l (by omega) (by omega) hr hg hl,
    ztap_math H ht 3 g r l (by omega) (by omega) hr hg hl, dz_math H g r l hr hg hl,
    show parV I 11 (128 * g + l) = _ from H.w 3 _ (by omega) hd, show parV I 10 (128 * g + l) = _ from H.w 2 _ (by omega) hd,
    show parV I 9 (128 * g + l) = _ from H.w 1 _ (by omega) hd, show parV I 8 (128 * g + l) = _ from H.w 0 _ (by omega) hd]
  rfl

end tail

/-- A summand of the accumulators. -/
theorem sum_math (g k r l : ℕ) (hk : k < 5) (hr : r < 256) (hg : g < 20) (hl : l < 128) :
    sumV I i g k r l = if k < 4 then S.dz (i 0).val (256 * blk i + r) (128 * g + l) * S.tap (3 - k) (i 0).val (256 * blk i + r) (128 * g + l)
      else S.dz (i 0).val (256 * blk i + r) (128 * g + l) := by
  unfold sumV
  rw [dz_math H g r l hr hg hl, tap_math H (3 - k) g r l (by omega) hr hg hl]
  rfl

end point

end Cert.KernelIdeal.Conv
-- ==== Proof.Staged.lean ====
/- The blocks of a grid point as parts of the program's arguments. -/
module

public import proofs.«01_k».proof.Proof.Run
public import proofs.«01_k».proof.Proof.Pre
public import proofs.«01_k».proof.Proof.KerMath
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Conv

open Idealize.ShloMosaic Idealize.ShloMosaic.TcCoe Idealize.ShloMosaic.Tactic
open Idealize.ShloMosaic.Pipeline (Dat Cfg Window)
open Cert.KernelIdeal Cert.KernelIdeal.Gen Facts₀ Facts
open Cert.Conv (get1 get2 get3 get4)

variable (m : (ℓ : Loc nD τ sig) → Buf (Elt Ideal) ℓ) (c : Dev nD) (t : Fin grid0.N)

/-! ## Which block a point takes -/

theorem i0_0 : ∀ t : Fin grid0.N, cc0_transform_0 (grid0.coords t) 0 = t.val / 64 := by decide +kernel
theorem i0_1 : ∀ t : Fin grid0.N, cc0_transform_0 (grid0.coords t) 1 = 63 - t.val % 64 := by decide +kernel
theorem i0_2 : ∀ t : Fin grid0.N, cc0_transform_0 (grid0.coords t) 2 = 0 := by decide +kernel
theorem i1_0 : ∀ t : Fin grid0.N, cc0_transform_1 (grid0.coords t) 0 = t.val / 64 := by decide +kernel
theorem i1_1 : ∀ t : Fin grid0.N, cc0_transform_1 (grid0.coords t) 1 = 8 * (63 - t.val % 64) - 1 := by decide +kernel
theorem i1_2 : ∀ t : Fin grid0.N, cc0_transform_1 (grid0.coords t) 2 = 0 := by decide +kernel
theorem i2_0 : ∀ t : Fin grid0.N, cc0_transform_2 (grid0.coords t) 0 = t.val / 64 := by decide +kernel
theorem i2_1 : ∀ t : Fin grid0.N, cc0_transform_2 (grid0.coords t) 1 = 63 - t.val % 64 := by decide +kernel
theorem i2_2 : ∀ t : Fin grid0.N, cc0_transform_2 (grid0.coords t) 2 = 0 := by decide +kernel
theorem i2_3 : ∀ t : Fin grid0.N, cc0_transform_2 (grid0.coords t) 3 = 0 := by decide +kernel
theorem i3_0 : ∀ t : Fin grid0.N, cc0_transform_3 (grid0.coords t) 0 = t.val / 64 := by decide +kernel
theorem i3_1 : ∀ t : Fin grid0.N, cc0_transform_3 (grid0.coords t) 1 = 63 - t.val % 64 - 1 := by decide +kernel
theorem i3_2 : ∀ t : Fin grid0.N, cc0_transform_3 (grid0.coords t) 2 = 0 := by decide +kernel
theorem i3_3 : ∀ t : Fin grid0.N, cc0_transform_3 (grid0.coords t) 3 = 0 := by decide +kernel
theorem i4_0 : ∀ t : Fin grid0.N, cc0_transform_4 (grid0.coords t) 0 = t.val / 64 := by decide +kernel
theorem i4_1 : ∀ t : Fin grid0.N, cc0_transform_4 (grid0.coords t) 1 = 63 - t.val % 64 := by decide +kernel
theorem i4_2 : ∀ t : Fin grid0.N, cc0_transform_4 (grid0.coords t) 2 = 0 := by decide +kernel
theorem i5_0 : ∀ t : Fin grid0.N, cc0_transform_5 (grid0.coords t) 0 = t.val / 64 := by decide +kernel
theorem i5_1 : ∀ t : Fin grid0.N, cc0_transform_5 (grid0.coords t) 1 = 63 - t.val % 64 := by decide +kernel
theorem i5_2 : ∀ t : Fin grid0.N, cc0_transform_5 (grid0.coords t) 2 = 0 := by decide +kernel
theorem i5_3 : ∀ t : Fin grid0.N, cc0_transform_5 (grid0.coords t) 3 = 0 := by decide +kernel
theorem i6_0 : ∀ t : Fin grid0.N, cc0_transform_6 (grid0.coords t) 0 = 0 := by decide +kernel
theorem i6_1 : ∀ t : Fin grid0.N, cc0_transform_6 (grid0.coords t) 1 = 0 := by decide +kernel

/-! ## The blocks' elements -/

theorem iblk0 (r : Fin 256) (d : Fin 2560) (b : Fin 2) (u : Fin 16384) (hb : b.val = t.val / 64) (hu : u.val = 256 * (63 - t.val % 64) + r.val) :
    iblk m c 0 t (ix3 0 r d) = V m c main_arg0 (ix3 b u d) := by
  unfold iblk
  blk_simp
  refine congrArg _ (funext fun a => Fin.ext ?_)
  match a with
  | ⟨0, _⟩ => blk_simp; show cc0_transform_0 (grid0.coords t) 0 = b.val; rw [i0_0]; omega
  | ⟨1, _⟩ => blk_simp; show cc0_transform_0 (grid0.coords t) 1 * 256 + r.val = u.val; rw [i0_1]; omega
  | ⟨2, _⟩ => blk_simp; show cc0_transform_0 (grid0.coords t) 2 * 2560 + d.val = d.val; rw [i0_2]; omega

theorem iblk1 (r : Fin 32) (d : Fin 2560) (b : Fin 2) (u : Fin 16384) (hb : b.val = t.val / 64) (hu : u.val = 32 * (8 * (63 - t.val % 64) - 1) + r.val) :
    iblk m c 1 t (ix3 0 r d) = V m c main_arg0 (ix3 b u d) := by
  unfold iblk
  blk_simp
  refine congrArg _ (funext fun a => Fin.ext ?_)
  match a with
  | ⟨0, _⟩ => blk_simp; show cc0_transform_1 (grid0.coords t) 0 = b.val; rw [i1_0]; omega
  | ⟨1, _⟩ => blk_simp; show cc0_transform_1 (grid0.coords t) 1 * 32 + r.val = u.val; rw [i1_1]; omega
  | ⟨2, _⟩ => blk_simp; show cc0_transform_1 (grid0.coords t) 2 * 2560 + d.val = d.val; rw [i1_2]; omega

theorem iblk4 (r : Fin 256) (d : Fin 2560) (b : Fin 2) (u : Fin 16384) (hb : b.val = t.val / 64) (hu : u.val = 256 * (63 - t.val % 64) + r.val) :
    iblk m c 4 t (ix3 0 r d) = V m c main_arg2 (ix3 b u d) := by
  unfold iblk
  blk_simp
  refine congrArg _ (funext fun a => Fin.ext ?_)
  match a with
  | ⟨0, _⟩ => blk_simp; show cc0_transform_4 (grid0.coords t) 0 = b.val; rw [i4_0]; omega
  | ⟨1, _⟩ => blk_simp; show cc0_transform_4 (grid0.coords t) 1 * 256 + r.val = u.val; rw [i4_1]; omega
  | ⟨2, _⟩ => blk_simp; show cc0_transform_4 (grid0.coords t) 2 * 2560 + d.val = d.val; rw [i4_2]; omega

theorem iblk2 (k : Fin 2) (l : Fin 128) (b : Fin 2) (u : Fin 64) (hb : b.val = t.val / 64) (hu : u.val = 63 - t.val % 64) :
    iblk m c 2 t (ix4 0 0 k l) = V m c main_v10 (ix4 b u k l) := by
  unfold iblk
  blk_simp
  refine congrArg _ (funext fun a => Fin.ext ?_)
  match a with
  | ⟨0, _⟩ => blk_simp; show cc0_transform_2 (grid0.coords t) 0 = b.val; rw [i2_0]; omega
  | ⟨1, _⟩ => blk_simp; show cc0_transform_2 (grid0.coords t) 1 = u.val; rw [i2_1]; omega
  | ⟨2, _⟩ => blk_simp; show cc0_transform_2 (grid0.coords t) 2 * 2 + k.val = k.val; rw [i2_2]; omega
  | ⟨3, _⟩ => blk_simp; show cc0_transform_2 (grid0.coords t) 3 * 128 + l.val = l.val; rw [i2_3]; omega

theorem iblk3 (k : Fin 2) (l : Fin 128) (b : Fin 2) (u : Fin 64) (hb : b.val = t.val / 64) (hu : u.val = 63 - t.val % 64 - 1) :
    iblk m c 3 t (ix4 0 0 k l) = V m c main_v10 (ix4 b u k l) := by
  unfold iblk
  blk_simp
  refine congrArg _ (funext fun a => Fin.ext ?_)
  match a with
  | ⟨0, _⟩ => blk_simp; show cc0_transform_3 (grid0.coords t) 0 = b.val; rw [i3_0]; omega
  | ⟨1, _⟩ => blk_simp; show cc0_transform_3 (grid0.coords t) 1 = u.val; rw [i3_1]; omega
  | ⟨2, _⟩ => blk_simp; show cc0_transform_3 (grid0.coords t) 2 * 2 + k.val = k.val; rw [i3_2]; omega
  | ⟨3, _⟩ => blk_simp; show cc0_transform_3 (grid0.coords t) 3 * 128 + l.val = l.val; rw [i3_3]; omega

theorem iblk5 (k : Fin 2) (l : Fin 128) (b : Fin 2) (u : Fin 64) (hb : b.val = t.val / 64) (hu : u.val = 63 - t.val % 64) :
    iblk m c 5 t (ix4 0 0 k l) = V m c main_v11 (ix4 b u k l) := by
  unfold iblk
  blk_simp
  refine congrArg _ (funext fun a => Fin.ext ?_)
  match a with
  | ⟨0, _⟩ => blk_simp; show cc0_transform_5 (grid0.coords t) 0 = b.val; rw [i5_0]; omega
  | ⟨1, _⟩ => blk_simp; show cc0_transform_5 (grid0.coords t) 1 = u.val; rw [i5_1]; omega
  | ⟨2, _⟩ => blk_simp; show cc0_transform_5 (grid0.coords t) 2 * 2 + k.val = k.val; rw [i5_2]; omega
  | ⟨3, _⟩ => blk_simp; show cc0_transform_5 (grid0.coords t) 3 * 128 + l.val = l.val; rw [i5_3]; omega

theorem iblk6 (k : Fin 16) (d : Fin 2560) : iblk m c 6 t (ix2 k d) = V m c main_v9 (ix2 k d) := by
  unfold iblk
  blk_simp
  refine congrArg _ (funext fun a => Fin.ext ?_)
  match a with
  | ⟨0, _⟩ => blk_simp; show cc0_transform_6 (grid0.coords t) 0 * 16 + k.val = k.val; rw [i6_0]; omega
  | ⟨1, _⟩ => blk_simp; show cc0_transform_6 (grid0.coords t) 1 * 2560 + d.val = d.val; rw [i6_1]; omega

/-! ## What the host operations made of the arguments -/

theorem V_v10 (b : Fin 2) (u : Fin 64) (k : Fin 2) (l : Fin 128) (n : Fin 16384) (hn : n.val = 256 * u.val + 128 * k.val + l.val) :
    V m c main_v10 (ix4 b u k l) = m ((c : Thread nD τ).loc main_arg1) (ix2 b n) := by
  after_reads_simp
  pointwise
  refine congrArg (m (c, Proc.tc.devRef main_arg1)) (congrArg (ix2 b) (Fin.ext ?_))
  show u.val * 256 + k.val * 128 + l.val = n.val
  omega

theorem V_v11 (b : Fin 2) (u : Fin 64) (k : Fin 2) (l : Fin 128) (n : Fin 16384) (hn : n.val = 256 * u.val + 128 * k.val + l.val) :
    V m c main_v11 (ix4 b u k l) = m ((c : Thread nD τ).loc main_arg3) (ix2 b n) := by
  after_reads_simp
  pointwise
  refine congrArg (m (c, Proc.tc.devRef main_arg3)) (congrArg (ix2 b) (Fin.ext ?_))
  show u.val * 256 + k.val * 128 + l.val = n.val
  omega

theorem par_half (k : Fin 16) (k' : Fin 4) (hk : k.val = k'.val) (d : Fin 2560) :
    V m c main_v9 (ix2 k d) = FloatOps.mulf (F := Ideal) (cHalf : Ideal .f32) (m ((c : Thread nD τ).loc main_arg4) (ix2 d k')) := by
  after_reads_at
  pointwise
  rw [dif_pos (by omega)]
  after_reads_simp
  pointwise
  exact congrArg (fun q => _ * m (c, Proc.tc.devRef main_arg4) (ix2 d q)) (Fin.ext hk)

theorem par_bias (d : Fin 2560) :
    V m c main_v9 (ix2 4 d) = FloatOps.mulf (F := Ideal) (cHalf : Ideal .f32) (m ((c : Thread nD τ).loc main_arg5) (ix1 d)) := by
  after_reads_at
  pointwise
  after_reads_simp
  pointwise

theorem par_full (k : Fin 16) (k' : Fin 4) (hk : k.val = 8 + k'.val) (d : Fin 2560) :
    V m c main_v9 (ix2 k d) = (m ((c : Thread nD τ).loc main_arg4) (ix2 d k') : Ideal .bf16) := by
  after_reads_at
  pointwise
  rw [dif_neg (by omega), dif_neg (by omega), dif_neg (by omega), dif_pos (by omega)]
  after_reads_simp
  pointwise
  exact congrArg (fun q => m (c, Proc.tc.devRef main_arg4) (ix2 d q)) (Fin.ext (by show k.val - 8 = k'.val; omega))

/-! ## The specification's inputs, of a memory -/

/-- The problem's inputs, as the memory holds them. -/
abbrev specOf : Cert.Conv.Spec :=
  Cert.Conv.ofArrays (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem xs_eq (b : Fin 2) (t' : Fin 16384) (d : Fin 2560) :
    (specOf m c).xs b.val t'.val d.val =
      FloatOps.mulf (F := Ideal) (φ := .f32) (m ((c : Thread nD τ).loc main_arg0) (ix3 b t' d)) (m ((c : Thread nD τ).loc main_arg1) (ix2 b t')) :=
  congrArg₂ (fun p q : EReal => p * q) (get3 (α := EReal) _ _ b t' d _ _ _ rfl rfl rfl) (get2 (α := EReal) _ _ b t' _ _ rfl rfl)

theorem g_eq (b : Fin 2) (t' : Fin 16384) (d : Fin 2560) :
    (specOf m c).g b.val t'.val d.val =
      FloatOps.mulf (F := Ideal) (φ := .f32) (m ((c : Thread nD τ).loc main_arg2) (ix3 b t' d)) (m ((c : Thread nD τ).loc main_arg3) (ix2 b t')) :=
  congrArg₂ (fun p q : EReal => p * q) (get3 (α := EReal) _ _ b t' d _ _ _ rfl rfl rfl) (get2 (α := EReal) _ _ b t' _ _ rfl rfl)

/-- The kernel's point `t` works on the inputs that the memory holds. -/
theorem holds (A : Ascends m) : Holds (specOf m c) (inAt m c t) (grid0.coords t) := by
  have hc : c = 0 := Subsingleton.elim _ _
  have q0 := coord0 t
  have q1 := coord1 t
  have ht : t.val < 128 := t.isLt
  have hb : blk (grid0.coords t) = 63 - t.val % 64 := by unfold blk; rw [q1]
  refine ⟨by omega, fun r d hr hd => ?_, fun r d hr hd h63 => ?_, fun r d hr hd => ?_, fun k d hk hd => ?_, fun d hd => ?_, fun k d hk hd => ?_, fun e => ?_⟩
  · rw [q0, hb]
    refine Eq.trans ?_ (xs_eq m c ⟨t.val / 64, by omega⟩ ⟨256 * (63 - t.val % 64) + r, by omega⟩ ⟨d, hd⟩).symm
    refine congrArg₂ FloatOps.mulf ?_ ?_
    · refine (get3 _ _ (0 : Fin 1) (⟨r, hr⟩ : Fin 256) (⟨d, hd⟩ : Fin 2560) 0 r d rfl rfl rfl).trans ?_
      refine (iblk0 m c t ⟨r, hr⟩ ⟨d, hd⟩ ⟨t.val / 64, by omega⟩ ⟨256 * (63 - t.val % 64) + r, by omega⟩ rfl rfl).trans ?_
      rw [V_main_arg0]
    · refine (get4 _ _ (0 : Fin 1) (0 : Fin 1) (⟨r / 128, by omega⟩ : Fin 2) (⟨r % 128, by omega⟩ : Fin 128) 0 0 _ _ rfl rfl rfl rfl).trans ?_
      refine (iblk2 m c t _ _ ⟨t.val / 64, by omega⟩ ⟨63 - t.val % 64, by omega⟩ rfl rfl).trans ?_
      exact V_v10 m c _ _ _ _ _ (by show 256 * (63 - t.val % 64) + r = 256 * (63 - t.val % 64) + 128 * (r / 128) + r % 128; omega)
  · rw [q0, hb]
    have hne : t.val % 64 ≠ 63 := by omega
    refine Eq.trans ?_ ((xs_eq m c ⟨t.val / 64, by omega⟩ ⟨256 * (63 - t.val % 64) + r - 8, by omega⟩ ⟨d, hd⟩).symm)
    refine congrArg₂ FloatOps.mulf ?_ ?_
    · refine (get3 _ _ (0 : Fin 1) (⟨24 + r, by omega⟩ : Fin 32) (⟨d, hd⟩ : Fin 2560) 0 (24 + r) d rfl rfl rfl).trans ?_
      refine (iblk1 m c t _ ⟨d, hd⟩ ⟨t.val / 64, by omega⟩ ⟨256 * (63 - t.val % 64) + r - 8, by omega⟩ rfl
        (by show 256 * (63 - t.val % 64) + r - 8 = 32 * (8 * (63 - t.val % 64) - 1) + (24 + r); omega)).trans ?_
      rw [V_main_arg0]
    · refine (get4 _ _ (0 : Fin 1) (0 : Fin 1) (1 : Fin 2) (⟨120 + r, by omega⟩ : Fin 128) 0 0 1 (120 + r) rfl rfl rfl rfl).trans ?_
      refine (iblk3 m c t _ _ ⟨t.val / 64, by omega⟩ ⟨63 - t.val % 64 - 1, by omega⟩ rfl rfl).trans ?_
      exact V_v10 m c _ _ _ _ _ (by show 256 * (63 - t.val % 64) + r - 8 = 256 * (63 - t.val % 64 - 1) + 128 * 1 + (120 + r); omega)
  · rw [q0, hb]
    refine Eq.trans ?_ (g_eq m c ⟨t.val / 64, by omega⟩ ⟨256 * (63 - t.val % 64) + r, by omega⟩ ⟨d, hd⟩).symm
    refine congrArg₂ FloatOps.mulf ?_ ?_
    · refine (get3 _ _ (0 : Fin 1) (⟨r, hr⟩ : Fin 256) (⟨d, hd⟩ : Fin 2560) 0 r d rfl rfl rfl).trans ?_
      refine (iblk4 m c t ⟨r, hr⟩ ⟨d, hd⟩ ⟨t.val / 64, by omega⟩ ⟨256 * (63 - t.val % 64) + r, by omega⟩ rfl rfl).trans ?_
      rw [V_main_arg2]
    · refine (get4 _ _ (0 : Fin 1) (0 : Fin 1) (⟨r / 128, by omega⟩ : Fin 2) (⟨r % 128, by omega⟩ : Fin 128) 0 0 _ _ rfl rfl rfl rfl).trans ?_
      refine (iblk5 m c t _ _ ⟨t.val / 64, by omega⟩ ⟨63 - t.val % 64, by omega⟩ rfl rfl).trans ?_
      exact V_v11 m c _ _ _ _ _ (by show 256 * (63 - t.val % 64) + r = 256 * (63 - t.val % 64) + 128 * (r / 128) + r % 128; omega)
  · refine (get2 _ _ (⟨k, by omega⟩ : Fin 16) (⟨d, hd⟩ : Fin 2560) k d rfl rfl).trans ?_
    refine (iblk6 m c t _ _).trans ?_
    refine (par_half m c _ ⟨k, hk⟩ rfl _).trans ?_
    refine congrArg₂ (fun p q : EReal => p * q) cHalf_ideal ?_
    exact (get2 (α := EReal) _ _ (⟨d, hd⟩ : Fin 2560) (⟨k, hk⟩ : Fin 4) d k rfl rfl).symm
  · refine (get2 _ _ (4 : Fin 16) (⟨d, hd⟩ : Fin 2560) 4 d rfl rfl).trans ?_
    refine (iblk6 m c t 4 ⟨d, hd⟩).trans ?_
    refine (par_bias m c _).trans ?_
    refine congrArg₂ (fun p q : EReal => p * q) cHalf_ideal ?_
    exact (get1 (α := EReal) _ _ (⟨d, hd⟩ : Fin 2560) d rfl).symm
  · refine (get2 _ _ (⟨8 + k, by omega⟩ : Fin 16) (⟨d, hd⟩ : Fin 2560) (8 + k) d rfl rfl).trans ?_
    refine (iblk6 m c t _ _).trans ?_
    refine (par_full m c _ ⟨k, hk⟩ rfl _).trans ?_
    exact (get2 (α := EReal) _ _ (⟨d, hd⟩ : Fin 2560) (⟨k, hk⟩ : Fin 4) d k rfl rfl).symm
  · subst hc
    rw [q0]
    refine exists_congr fun k => and_congr_right fun hk => ?_
    have e1 := tbl_apply m (⟨t.val / 64, by omega⟩ : Fin 2) (⟨k + 1, by omega⟩ : Fin 64)
    have e2 := get2 (α := BitVec 32) (m ((0 : Dev nD).tc.loc main_arg6)) 0#32 (⟨t.val / 64, by omega⟩ : Fin 2) (⟨k + 1, by omega⟩ : Fin 64) (t.val / 64) (k + 1) rfl rfl
    show BitVec.toNat (get (s := ⟨2, ![2, 64]⟩) (m ((0 : Dev nD).tc.loc main_arg6)) 0#32 ![t.val / 64, k + 1]) = e ↔ word (tbl m 0) (64 * (t.val / 64) + k + 1) = e
    rw [e2]
    exact Iff.of_eq (congrArg (· = e) e1.symm)

end Cert.KernelIdeal.Conv
-- ==== Proof.Sums.lean ====
/- The kernel's sums, put in the order of the rows: the accumulators add up, point by point and 32 rows at a time, every eighth row; adding the
   eight accumulators of a lane gives the sum over the batch and over all the rows. -/
module

public import proofs.«01_k».proof.Proof.Staged

@[expose] public section

set_option maxRecDepth 16384

noncomputable section

namespace Cert.KernelIdeal.Conv

open Idealize.ShloMosaic Idealize.ShloMosaic.TcCoe Idealize.ShloMosaic.Tactic
open Cert.KernelIdeal Cert.KernelIdeal.Gen Facts₀ Facts
open Finset (range)

/-- A sum over `a * b` numbers as `a` sums over `b`. -/
theorem sum_mul (a b : ℕ) (f : ℕ → EReal) : ∑ n ∈ range (a * b), f n = ∑ i ∈ range a, ∑ j ∈ range b, f (i * b + j) := by
  induction a with
  | zero => simp
  | succ a ih => rw [Nat.succ_mul, Finset.sum_range_add, ih, Finset.sum_range_succ]

/-- The sum over a row's 16384 positions, in the kernel's order. -/
theorem sum_row (f : ℕ → EReal) :
    ∑ s ∈ range 8, ∑ p ∈ range 64, ∑ q ∈ range 8, ∑ e ∈ range 4, f (256 * (63 - p) + (32 * (7 - q) + (8 * e + s))) = ∑ n ∈ range 16384, f n := by
  have h1 : ∀ s p, ∑ q ∈ range 8, ∑ e ∈ range 4, f (256 * p + (32 * (7 - q) + (8 * e + s))) = ∑ q ∈ range 8, ∑ e ∈ range 4, f (256 * p + (32 * q + (8 * e + s))) :=
    fun s p => Finset.sum_range_reflect (fun q => ∑ e ∈ range 4, f (256 * p + (32 * q + (8 * e + s)))) 8
  have h2 : ∀ s, ∑ p ∈ range 64, ∑ q ∈ range 8, ∑ e ∈ range 4, f (256 * (63 - p) + (32 * q + (8 * e + s)))
      = ∑ p ∈ range 64, ∑ q ∈ range 8, ∑ e ∈ range 4, f (256 * p + (32 * q + (8 * e + s))) :=
    fun s => Finset.sum_range_reflect (fun p => ∑ q ∈ range 8, ∑ e ∈ range 4, f (256 * p + (32 * q + (8 * e + s)))) 64
  have h3 : ∑ n ∈ range 16384, f n = ∑ p ∈ range 64, ∑ q ∈ range 8, ∑ e ∈ range 4, ∑ s ∈ range 8, f (256 * p + (32 * q + (8 * e + s))) := by
    rw [show 16384 = 64 * 256 from rfl, sum_mul]
    refine Finset.sum_congr rfl fun p _ => ?_
    rw [show 256 = 8 * 32 from rfl, sum_mul]
    refine Finset.sum_congr rfl fun q _ => ?_
    rw [show 32 = 4 * 8 from rfl, sum_mul]
    refine Finset.sum_congr rfl fun e _ => Finset.sum_congr rfl fun s _ => congrArg f ?_
    omega
  simp only [h1, h2]
  rw [h3, Finset.sum_comm]
  refine Finset.sum_congr rfl fun p _ => ?_
  rw [Finset.sum_comm]
  refine Finset.sum_congr rfl fun q _ => ?_
  rw [Finset.sum_comm]

/-- The sum over the batch and the rows, in the kernel's order. -/
theorem sum_all (f : ℕ → ℕ → EReal) :
    ∑ s ∈ range 8, ∑ p ∈ range 128, ∑ q ∈ range 8, ∑ e ∈ range 4, f (p / 64) (256 * (63 - p % 64) + (32 * (7 - q) + (8 * e + s)))
      = ∑ b : Fin 2, ∑ n : Fin 16384, f b.val n.val := by
  have hF : ∀ b, ∑ n : Fin 16384, f b n.val = ∑ n ∈ range 16384, f b n := fun b => Fin.sum_univ_eq_sum_range (f b) 16384
  rw [Fin.sum_univ_two, hF, hF, ← sum_row, ← sum_row, ← Finset.sum_add_distrib]
  refine Finset.sum_congr rfl fun s _ => ?_
  rw [show 128 = 2 * 64 from rfl, sum_mul, Finset.sum_range_succ, Finset.sum_range_one]
  refine congrArg₂ (· + ·) ?_ ?_
  · refine Finset.sum_congr rfl fun p hp => ?_
    have := Finset.mem_range.1 hp
    rw [show (0 * 64 + p) / 64 = 0 by omega, show (0 * 64 + p) % 64 = p by omega]
    rfl
  · refine Finset.sum_congr rfl fun p hp => ?_
    have := Finset.mem_range.1 hp
    rw [show (1 * 64 + p) / 64 = 1 by omega, show (1 * 64 + p) % 64 = p by omega]
    rfl

/-- What one row adds to sum `k`. -/
def term (S : Cert.Conv.Spec) (k d b n : ℕ) : EReal := if k < 4 then S.dz b n d * S.tap (3 - k) b n d else S.dz b n d

/-- One point adds its rows, 32 at a time. -/
theorem accV_sum {S : Cert.Conv.Spec} {I : In Ideal} {i : grid0.Coords} (H : Holds S I i) (a : ℕ → ℕ → ℕ → ℕ → EReal) (n g k s l : ℕ) (hn : n ≤ 8)
    (hg : g < 20) (hk : k < 5) (hs : s < 8) (hl : l < 128) :
    (accV I i a n g k s l : EReal) = a g k s l + ∑ q ∈ range n, ∑ e ∈ range 4, term S k (128 * g + l) (i 0).val (256 * blk i + (32 * (7 - q) + (8 * e + s))) := by
  induction n with
  | zero => rw [Finset.sum_range_zero, add_zero]; rfl
  | succ n ih =>
    have hT : ∀ e, e < 4 → (sumV I i g k (32 * (7 - n) + (8 * e + s)) l : EReal) = term S k (128 * g + l) (i 0).val (256 * blk i + (32 * (7 - n) + (8 * e + s))) :=
      fun e he => sum_math H g k _ l hk (by omega) hg hl
    have t0 := hT 0 (by omega)
    have t1 := hT 1 (by omega)
    have t2 := hT 2 (by omega)
    have t3 := hT 3 (by omega)
    rw [Finset.sum_range_succ, ← add_assoc, ← ih (by omega)]
    refine congrArg₂ (fun p q : EReal => p + q) rfl ?_
    rw [Finset.sum_range_succ, Finset.sum_range_succ, Finset.sum_range_succ, Finset.sum_range_one, ← t0, ← t1, ← t2, ← t3]
    simp only [Nat.mul_zero, Nat.zero_add, Nat.mul_one]
    rfl

variable (m : (ℓ : Loc nD τ sig) → Buf (Elt Ideal) ℓ) (c : Dev nD)

/-- The accumulators after `n` points. -/
theorem accAt_sum (A : Ascends m) (n g k s l : ℕ) (hn : n ≤ 128) (hg : g < 20) (hk : k < 5) (hs : s < 8) (hl : l < 128) :
    (accAt m c n g k s l : EReal) = ∑ p ∈ range n, ∑ q ∈ range 8, ∑ e ∈ range 4, term (specOf m c) k (128 * g + l) (p / 64) (256 * (63 - p % 64) + (32 * (7 - q) + (8 * e + s))) := by
  induction n with
  | zero => rw [Finset.sum_range_zero]; exact c0_ideal
  | succ n ih =>
    have hN : n < grid0.N := by show n < 128; omega
    have e0 := coord0 ⟨n, hN⟩
    have e1 : blk (grid0.coords ⟨n, hN⟩) = 63 - n % 64 := by unfold blk; rw [coord1 ⟨n, hN⟩]
    have hA : accAt m c (n + 1) = accV (inAt m c ⟨n, hN⟩) (grid0.coords ⟨n, hN⟩) (accAt m c n) 8 := dif_pos hN
    rw [Finset.sum_range_succ, ← ih (by omega), hA]
    refine (accV_sum (holds m c ⟨n, hN⟩ A) _ 8 g k s l (le_refl _) hg hk hs hl).trans ?_
    rw [e0, e1]

/-- The eight accumulators of a lane, added. -/
theorem sum8_eq (v : FVec Ideal S8x128 .f32) (l : Fin 128) : (sum8 v (ix1 l) : EReal) = ∑ s : Fin 8, (v (ix2 s l) : EReal) := by
  unfold sum8
  pointwise

theorem red_sum (A : Ascends m) (k d : ℕ) (hk : k < 5) (hd : d < 2560) :
    (redV (accAt m c 128) k d : EReal) = ∑ b : Fin 2, ∑ n : Fin 16384, term (specOf m c) k d b.val n.val := by
  unfold redV
  rw [if_pos hk, ← sum_all (term (specOf m c) k d)]
  refine (congrArg (sum8 _) (funext fun a => by match a with | ⟨0, _⟩ => rfl)).trans ((sum8_eq _ (⟨d % 128, Nat.mod_lt _ (by decide)⟩ : Fin 128)).trans ?_)
  rw [Finset.sum_fin_eq_sum_range]
  refine Finset.sum_congr rfl fun s hs => ?_
  have hs := Finset.mem_range.1 hs
  rw [dif_pos hs]
  refine (accAt_sum m c A 128 (d / 128) k s (d % 128) (le_refl _) (by omega) hk hs (by omega)).trans ?_
  rw [Nat.div_add_mod d 128]

end Cert.KernelIdeal.Conv
-- ==== Proof.Arrays.lean ====
/- The kernel's result arrays after the run. -/
module

public import proofs.«01_k».proof.Proof.Sums

@[expose] public section

set_option maxRecDepth 16384

noncomputable section

namespace Cert.KernelIdeal.Conv

open Idealize.ShloMosaic Idealize.ShloMosaic.TcCoe Idealize.ShloMosaic.Tactic
open Idealize.ShloMosaic.Pipeline (Dat Cfg Window)
open Cert.KernelIdeal Cert.KernelIdeal.Gen Facts₀ Facts

variable (m : (ℓ : Loc nD τ sig) → Buf (Elt Ideal) ℓ) (c : Dev nD) (t : Fin grid0.N)

/-! ## The window of dx -/

theorem i7_0 : ∀ t : Fin grid0.N, cc0_transform_7 (grid0.coords t) 0 = t.val / 64 := by decide +kernel
theorem i7_1 : ∀ t : Fin grid0.N, cc0_transform_7 (grid0.coords t) 1 = 63 - t.val % 64 := by decide +kernel
theorem i7_2 : ∀ t : Fin grid0.N, cc0_transform_7 (grid0.coords t) 2 = 0 := by decide +kernel
theorem i8_0 : ∀ t : Fin grid0.N, cc0_transform_8 (grid0.coords t) 0 = 0 := by decide +kernel
theorem i8_1 : ∀ t : Fin grid0.N, cc0_transform_8 (grid0.coords t) 1 = 0 := by decide +kernel

/-- Every point's block of dx is written back. -/
theorem flush7 : ((cfgM m).win 7).flush t = true := by
  have ht : t.val < 128 := t.isLt
  unfold Window.flush
  show (true && (decide (t.val + 1 = grid0.N) || decide (∃ h : t.val + 1 < grid0.N, cc0_transform_7 (grid0.coords ⟨t.val + 1, h⟩) ≠ cc0_transform_7 (grid0.coords t)))) = true
  rw [Bool.true_and, Bool.or_eq_true, decide_eq_true_eq, decide_eq_true_eq]
  by_cases h : t.val + 1 = grid0.N
  · exact .inl h
  · refine .inr ⟨by have := N_0; omega, fun e => ?_⟩
    have e1 := congrFun e 1
    rw [i7_1, i7_1] at e1
    have : 63 - (t.val + 1) % 64 = 63 - t.val % 64 := e1
    omega

theorem nblk7_0 : ((cfgM m).win 7).nblk (0 : Fin 3) = 2 := by
  show (S2x16384x2560.size 0 + S1x256x2560.size 0 - 1) / S1x256x2560.size 0 = 2
  decide
theorem nblk7_1 : ((cfgM m).win 7).nblk (1 : Fin 3) = 64 := by
  show (S2x16384x2560.size 1 + S1x256x2560.size 1 - 1) / S1x256x2560.size 1 = 64
  decide
theorem nblk7_2 : ((cfgM m).win 7).nblk (2 : Fin 3) = 1 := by
  show (S2x16384x2560.size 2 + S1x256x2560.size 2 - 1) / S1x256x2560.size 2 = 1
  decide

/-- The blocks of dx make up the whole of it. -/
theorem covers7 : ((cfgM m).win 7).Covers := by
  refine ⟨fun a => ?_, fun β => ?_⟩
  · match a with
    | ⟨0, _⟩ => exact (by decide : 0 < 1)
    | ⟨1, _⟩ => exact (by decide : 0 < 256)
    | ⟨2, _⟩ => exact (by decide : 0 < 2560)
  · have h0 : (β ⟨0, (by decide : 0 < 3)⟩).val < 2 := (β ⟨0, (by decide : 0 < 3)⟩).isLt.trans_eq (nblk7_0 m)
    have h1 : (β ⟨1, (by decide : 1 < 3)⟩).val < 64 := (β ⟨1, (by decide : 1 < 3)⟩).isLt.trans_eq (nblk7_1 m)
    have h2 : (β ⟨2, (by decide : 2 < 3)⟩).val < 1 := (β ⟨2, (by decide : 2 < 3)⟩).isLt.trans_eq (nblk7_2 m)
    have ht : (β ⟨0, (by decide : 0 < 3)⟩).val * 64 + (63 - (β ⟨1, (by decide : 1 < 3)⟩).val) < grid0.N := by rw [N_0]; omega
    refine ⟨⟨_, ht⟩, flush7 m _, fun a => ⟨?_, .inl ?_⟩⟩
    · match a with
      | ⟨0, _⟩ => exact (i7_0 ⟨_, ht⟩).trans (by show ((β ⟨0, (by decide : 0 < 3)⟩).val * 64 + (63 - (β ⟨1, (by decide : 1 < 3)⟩).val)) / 64 = (β ⟨0, (by decide : 0 < 3)⟩).val; omega)
      | ⟨1, _⟩ => exact (i7_1 ⟨_, ht⟩).trans (by show 63 - ((β ⟨0, (by decide : 0 < 3)⟩).val * 64 + (63 - (β ⟨1, (by decide : 1 < 3)⟩).val)) % 64 = (β ⟨1, (by decide : 1 < 3)⟩).val; omega)
      | ⟨2, _⟩ => exact (i7_2 ⟨_, ht⟩).trans (by show 0 = (β ⟨2, (by decide : 2 < 3)⟩).val; omega)
    · rfl

/-- The rows of dz behind a point's block. -/
theorem tail_eq (A : Ascends m) (g q l : ℕ) (hg : g < 20) (hq : q < 3) (hl : l < 128) :
    (tailAt m c t g q l : EReal) = if 256 * blk (grid0.coords t) + 256 + q < 16384 then
      (specOf m c).dz (grid0.coords t 0).val (256 * blk (grid0.coords t) + 256 + q) (128 * g + l) else 0 := by
  have ht : t.val < 128 := t.isLt
  have q0 := coord0 t
  have q1 := coord1 t
  have hb : blk (grid0.coords t) = 63 - t.val % 64 := by unfold blk; rw [q1]
  unfold tailAt
  by_cases h : (grid0.coords t 1).val = 0
  · rw [if_pos h, if_neg (by omega)]
    exact c0_ideal
  · rw [if_neg h, if_pos (by omega)]
    have p0 := coord0 ⟨t.val - 1, Nat.lt_of_le_of_lt (Nat.sub_le _ _) t.isLt⟩
    have p1 := coord1 ⟨t.val - 1, Nat.lt_of_le_of_lt (Nat.sub_le _ _) t.isLt⟩
    have pb : blk (grid0.coords ⟨t.val - 1, Nat.lt_of_le_of_lt (Nat.sub_le _ _) t.isLt⟩) = 63 - (t.val - 1) % 64 := by unfold blk; rw [p1]
    refine (dz_math (holds m c ⟨t.val - 1, Nat.lt_of_le_of_lt (Nat.sub_le _ _) t.isLt⟩ A) g q l (by omega) hg hl).trans ?_
    rw [p0, pb, q0, hb]
    refine congrArg₂ (fun p q => (specOf m c).dz p q (128 * g + l)) ?_ ?_
    · show (t.val - 1) / 64 = t.val / 64
      omega
    · omega

/-- The gradient with respect to x. -/
def dxArr : Vec Ideal S2x16384x2560 .bf16 := fun y => ((specOf m c).dx (y 0).val (y 1).val (y 2).val : EReal)

theorem dxOut_eq (A : Ascends m) (y : S1x256x2560.Idx) (i : S2x16384x2560.Idx) (h0 : (i 0).val = t.val / 64)
    (h1 : (i 1).val = 256 * (63 - t.val % 64) + (y 1).val) (h2 : (i 2).val = (y 2).val) : dxOut m c t y = dxArr m c i := by
  have q0 := coord0 t
  have q1 := coord1 t
  have hb : blk (grid0.coords t) = 63 - t.val % 64 := by unfold blk; rw [q1]
  have y1 : (y 1).val < 256 := (y 1).isLt
  have y2 : (y 2).val < 2560 := (y 2).isLt
  unfold dxOut dxArr
  refine (dx_math (holds m c t A) (fun g q l hg hq hl => tail_eq m c t A g q l hg hq hl) _ _ _ y1 (by omega) (by omega)).trans ?_
  rw [h0, h1, h2, q0, hb, Nat.div_add_mod]

theorem final7 (A : Ascends m) : (dats m 0 c).arrAt 7 (cfgM m).N = dxArr m c := by
  refine (dats m 0 c).arrAt_eq_of_covers 7 _ (covers7 m) fun t hf y => ?_
  blk_simp
  rw [after0_7]
  refine dxOut_eq m c t A y _ ?_ ?_ ?_
  · show ((((cfgM m).win 7).blk t).view.emb y (0 : Fin 3)).val = _
    blk_simp
    exact i7_0 t
  · show ((((cfgM m).win 7).blk t).view.emb y (1 : Fin 3)).val = _
    blk_simp
    refine (congrArg (fun p => p * 256 + (y (1 : Fin 3)).val) (i7_1 t)).trans ?_
    exact congrArg (· + (y (1 : Fin 3)).val) (Nat.mul_comm _ _)
  · show ((((cfgM m).win 7).blk t).view.emb y (2 : Fin 3)).val = _
    blk_simp
    refine (congrArg (fun p => p * 2560 + (y (2 : Fin 3)).val) (i7_2 t)).trans ?_
    exact (congrArg (· + (y (2 : Fin 3)).val) (Nat.zero_mul _)).trans (Nat.zero_add _)

/-! ## The window of the sums -/

theorem whole8 (t₀ : Fin grid0.N) (h : t₀.val = 127) : ((cfgM m).win 8).WholeAt t₀ :=
  ⟨(flush8 m t₀).2 h, fun t hf => Fin.ext (((flush8 m t).1 hf).trans h.symm), fun a => match a with
    | ⟨0, _⟩ => ⟨i8_0 t₀, rfl⟩
    | ⟨1, _⟩ => ⟨i8_1 t₀, rfl⟩⟩

/-- The sums: five rows of them. -/
def redArr : Vec Ideal S8x2560 .f32 := fun y => redV (accAt m c 128) (y 0).val (y 1).val

theorem final8 : (dats m 0 c).arrAt 8 (cfgM m).N = redArr m c := by
  obtain ⟨t₀, h₀⟩ : ∃ t : Fin grid0.N, t.val = 127 := ⟨⟨127, by decide⟩, rfl⟩
  refine (dats m 0 c).arrAt_eq_of_after_last 8 t₀ (whole8 m t₀ h₀) _ fun j => ?_
  blk_simp
  rw [after0_8]
  unfold redOut redArr
  rw [h₀]

end Cert.KernelIdeal.Conv
-- ==== Proof.KerRun.lean ====
/- The kernel's program, run on the extended reals, ends with the three gradients. -/
module

public import proofs.«01_k».proof.Proof.Arrays

@[expose] public section

set_option maxRecDepth 16384

noncomputable section

namespace Cert.KernelIdeal.Conv

open Idealize.ShloMosaic Idealize.ShloMosaic.TcCoe Idealize.ShloMosaic.Tactic
open Idealize.ShloMosaic.Pipeline (Dat Cfg Window)
open Cert.KernelIdeal Cert.KernelIdeal.Gen Facts₀ Facts

variable (m : (ℓ : Loc nD τ sig) → Buf (Elt Ideal) ℓ) (ρ : Dev nD → PrngReg) (c : Dev nD)

/-- The gradient with respect to the weights. -/
def dwArr : Vec Ideal S2560x4 .f32 := fun y => ((specOf m c).dw (y 0).val (y 1).val : EReal)

/-- The gradient with respect to the bias. -/
def dbArr : Vec Ideal S2560 .f32 := fun y => ((specOf m c).db (y 0).val : EReal)

/-- The first four sums are the gradient with respect to the weights, -/
theorem red_dw (A : Ascends m) (d : Fin 2560) (k : Fin 4) (k' : Fin 8) (hk : k'.val = k.val) : (redArr m c (ix2 k' d) : EReal) = (specOf m c).dw d.val k.val := by
  refine (red_sum m c A k'.val d.val (by omega) d.isLt).trans ?_
  unfold Cert.Conv.Spec.dw term
  rw [hk]
  exact Finset.sum_congr rfl fun b _ => Finset.sum_congr rfl fun n _ => if_pos k.isLt

/-- and the fifth is that with respect to the bias. -/
theorem red_db (A : Ascends m) (d : Fin 2560) : (redArr m c (ix2 4 d) : EReal) = (specOf m c).db d.val :=
  (red_sum m c A 4 d.val (by decide) d.isLt).trans (Finset.sum_congr rfl fun b _ => Finset.sum_congr rfl fun n _ => if_neg (by decide))

section
variable (W : Valuation τ sig (Elt Ideal)) (R : Vec Ideal S8x2560 .f32) (hW : W (Proc.devRef .tc main_v13_1) = R)
include hW

/-- The last operations take the first four rows of the sums, transposed, -/
theorem v15_of (d : Fin 2560) (k : Fin 4) : StableHlo.after [hostOps1].flatten W (Proc.devRef .tc main_v15) (ix2 d k) = R (ix2 ⟨k.val, by omega⟩ d) := by
  subst hW
  after_reads_simp
  pointwise

/-- and the fifth. -/
theorem v17_of (d : Fin 2560) : StableHlo.after [hostOps1].flatten W (Proc.devRef .tc main_v17) (ix1 d) = R (ix2 4 d) := by
  subst hW
  after_reads_simp
  pointwise

end

theorem tail_v15 (A : Ascends m) : Pipeline.afterTail pcfgs (fun _ => adm m) (dats m) 0 (V0 m) [hostOps1] c main_v15 = dwArr m c := by
  have e := (Pipeline.withArrays_arr_shared spec0 c (V0 m c) _ ((dats m 0 c).arrAt_sharedIn sharedIn0 (V0 m c) (fun w => A_eq m c w) _) 8).trans (final8 m c)
  unfold Pipeline.afterTail
  funext y
  obtain ⟨d, k, rfl⟩ : ∃ (d : Fin 2560) (k : Fin 4), y = ix2 d k := ⟨y 0, y 1, funext fun a => by match a with | ⟨0, _⟩ => rfl | ⟨1, _⟩ => rfl⟩
  exact (v15_of _ _ e d k).trans (red_dw m c A d k _ rfl)

theorem tail_v17 (A : Ascends m) : Pipeline.afterTail pcfgs (fun _ => adm m) (dats m) 0 (V0 m) [hostOps1] c main_v17 = dbArr m c := by
  have e := (Pipeline.withArrays_arr_shared spec0 c (V0 m c) _ ((dats m 0 c).arrAt_sharedIn sharedIn0 (V0 m c) (fun w => A_eq m c w) _) 8).trans (final8 m c)
  unfold Pipeline.afterTail
  funext y
  obtain ⟨d, rfl⟩ : ∃ (d : Fin 2560), y = ix1 d := ⟨y 0, funext fun a => by match a with | ⟨0, _⟩ => rfl⟩
  exact (v17_of _ _ e d).trans (red_db m c A d)

/-- Every execution ends with the gradients in the results, the arguments as they began. -/
theorem run_values (A : Ascends m) : θ_run defs (onTc (τ := τ) (main (F := Ideal))) ⟨m, fun _ => 0, ρ⟩ (fun r => ∀ c : Dev nD,
      r.2.mem ((c.tc : Thread nD τ).loc main_v13_0) = dxArr m c
      ∧ r.2.mem ((c.tc : Thread nD τ).loc main_v15) = dwArr m c
      ∧ r.2.mem ((c.tc : Thread nD τ).loc main_v17) = dbArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.1 c).1 7 |>.trans (final7 m c A),
    ((h.1 c).2 main_v15 (Pipeline.mem_restRefs_of (win := spec0) main_v15 (by decide) (by decide))).trans (tail_v15 m c A),
    ((h.1 c).2 main_v17 (Pipeline.mem_restRefs_of (win := spec0) main_v17 (by decide) (by decide))).trans (tail_v17 m c A),
    (h.1 c).1 0 |>.trans (((dats m 0 c).arrAt_in 0 rfl _).trans ((A_eq m c 0).trans (V_main_arg0 m c))),
    ((h.1 c).2 main_arg1 (Pipeline.mem_restRefs_of (win := spec0) main_arg1 (by decide) (by decide))).trans ((tail_keeps m c main_arg1 (by decide) (by decide) (by decide) (by decide) (by decide)).trans (V_main_arg1 m c)),
    (h.1 c).1 4 |>.trans (((dats m 0 c).arrAt_in 4 rfl _).trans ((A_eq m c 4).trans (V_main_arg2 m c))),
    ((h.1 c).2 main_arg3 (Pipeline.mem_restRefs_of (win := spec0) main_arg3 (by decide) (by decide))).trans ((tail_keeps m c main_arg3 (by decide) (by decide) (by decide) (by decide) (by decide)).trans (V_main_arg3 m c)),
    ((h.1 c).2 main_arg4 (Pipeline.mem_restRefs_of (win := spec0) main_arg4 (by decide) (by decide))).trans ((tail_keeps m c main_arg4 (by decide) (by decide) (by decide) (by decide) (by decide)).trans (V_main_arg4 m c)),
    ((h.1 c).2 main_arg5 (Pipeline.mem_restRefs_of (win := spec0) main_arg5 (by decide) (by decide))).trans ((tail_keeps m c main_arg5 (by decide) (by decide) (by decide) (by decide) (by decide)).trans (V_main_arg5 m c)),
    ((h.1 c).2 main_arg6 (Pipeline.mem_restRefs_of (win := spec0) main_arg6 (by decide) (by decide))).trans ((tail_keeps m c main_arg6 (by decide) (by decide) (by decide) (by decide) (by decide)).trans (V_main_arg6 m c))⟩)
    (run_main_quiescent m ρ A.le)

end Cert.KernelIdeal.Conv
-- ==== Proof.RefMath.lean ====
/- The reference's values in the extended reals: each of its results is the function of `Spec`, once its row positions mark
   the documents. -/
module

public import proofs.«01_k».proof.Proof.Gen.ReferenceIdeal.Frame
public import proofs.«01_k».proof.Proof.Spec
public import Idealize.ShloMosaic.Lib.Pointwise
public import Idealize.ShloMosaic.Lib.Pipeline.ValueKit.Basic

@[expose] public section

set_option maxRecDepth 16384

noncomputable section

namespace Cert.ReferenceIdeal.Conv

open Idealize.ShloMosaic Idealize.ShloMosaic.TcCoe Idealize.ShloMosaic.Tactic
open Cert.ReferenceIdeal Cert.ReferenceIdeal.Gen
open Cert.Conv (Spec ofArrays get1 get2 get3)
open Cert.KernelIdeal.Conv (get get_eq)

/-- A sum over the first two of three axes. -/
theorem reduceAdd_two {n0 n1 n2 : ℕ} (h : (⟨3, ![n0, n1, n2]⟩ : Shape).Reduces [0, 1] ⟨1, ![n2]⟩) (v : (⟨3, ![n0, n1, n2]⟩ : Shape).Idx → EReal) (d : Fin n2) :
    Ideal.reduceAdd h v (ix1 d) = ∑ b : Fin n0, ∑ t : Fin n1, v (ix3 b t d) := by
  rw [← Fintype.sum_prod_type' (f := fun b t => v (ix3 b t d))]
  refine Finset.sum_filter_eq_sum_of_fiber _ (fun k : Fin n0 × Fin n1 => (ix3 k.1 k.2 d : (⟨3, ![n0, n1, n2]⟩ : Shape).Idx)) ?_ (fun i => ?_) v
  · intro p q e
    exact Prod.ext (congrFun e 0) (congrFun e 1)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext a; apply Fin.ext
      match a with
      | ⟨0, _⟩ => rfl

variable (x0 : Vec Ideal S2x16384x2560 .fp8e4m3) (x1 : Vec Ideal S2x16384 .f32) (x2 : Vec Ideal S2x16384x2560 .fp8e5m2)
  (x3 : Vec Ideal S2x16384 .f32) (x4 : Vec Ideal S2560x4 .bf16) (x5 : Vec Ideal S2560 .f32) (cu : IVec S2x64 32)
  (x6 : Vec Ideal S2x16384x1 .i32) (x7 : Vec Ideal S2x16384x1 .i32)

/-- The row positions mark the documents: `x6` counts the rows since the document's start, `x7` those to its end. -/
structure Marks (inner : ℕ → ℕ → Prop) : Prop where
  pos : ∀ (b : Fin 2) (t : Fin 16384) (j : ℕ), j ≤ 3 →
    (IntOp.cmpi .sge (x6 (ix3 b t 0)) (BitVec.ofNat 32 j) = 1#1 ↔ j ≤ t.val ∧ ¬∃ c, inner b.val c ∧ t.val < c + j ∧ c ≤ t.val)
  rem : ∀ (b : Fin 2) (t : Fin 16384) (j : ℕ), j ≤ 3 →
    (IntOp.cmpi .sgt (x7 (ix3 b t 0)) (BitVec.ofNat 32 j) = 1#1 ↔ t.val + j < 16384 ∧ ¬∃ c, inner b.val c ∧ t.val < c ∧ c ≤ t.val + j)

local notation "𝕊" => ofArrays x0 x1 x2 x3 x4 x5 cu

variable {x6 x7} (H : Marks x6 x7 (ofArrays x0 x1 x2 x3 x4 x5 cu).inner) (b : Fin 2) (t : Fin 16384) (d : Fin 2560)

theorem xs_eq (u : ℕ) (hu : u < 16384) : (𝕊).xs b.val u d.val = x0 (ix3 b ⟨u, hu⟩ d) * x1 (ix2 b ⟨u, hu⟩) := by
  show get (α := EReal) (s := ⟨3, ![2, 16384, 2560]⟩) x0 0 ![b.val, u, d.val] * get (α := EReal) (s := ⟨2, ![2, 16384]⟩) x1 0 ![b.val, u] = _
  rw [get3 x0 0 b ⟨u, hu⟩ d _ _ _ rfl rfl rfl, get2 x1 0 b ⟨u, hu⟩ _ _ rfl rfl]

theorem w_eq (k : Fin 4) : (𝕊).w d.val k.val = x4 (ix2 d k) := get2 (α := EReal) x4 0 d k _ _ rfl rfl
theorem bias_eq : (𝕊).bias d.val = x5 (ix1 d) := get1 (α := EReal) x5 0 d _ rfl
theorem g_eq (u : ℕ) (hu : u < 16384) : (𝕊).g b.val u d.val = x2 (ix3 b ⟨u, hu⟩ d) * x3 (ix2 b ⟨u, hu⟩) := by
  show get (α := EReal) (s := ⟨3, ![2, 16384, 2560]⟩) x2 0 ![b.val, u, d.val] * get (α := EReal) (s := ⟨2, ![2, 16384]⟩) x3 0 ![b.val, u] = _
  rw [get3 x2 0 b ⟨u, hu⟩ d _ _ _ rfl rfl rfl, get2 x3 0 b ⟨u, hu⟩ _ _ rfl rfl]

include H in
/-- A tap of x as the reference spells it: the row taken at `e - n`, chosen where the position admits it. -/
theorem tap_of (j e n : ℕ) (hj : j ≤ 3) (h1 : e < n ↔ t.val < j) (h2 : e - n = t.val - j) (p : e < n → EReal) :
    Scalar.select (IntOp.cmpi .sge (x6 (ix3 b t 0)) (BitVec.ofNat 32 j))
      (if h : e < n then p h else x0 (ix3 b ⟨e - n, by omega⟩ d) * x1 (ix2 b ⟨e - n, by omega⟩)) 0 = (𝕊).tap j b.val t.val d.val := by
  unfold Spec.tap Scalar.select
  by_cases h : j ≤ t.val ∧ ¬∃ c, (𝕊).inner b.val c ∧ t.val < c + j ∧ c ≤ t.val
  · refine (if_pos ((H.pos b t j hj).mpr h)).trans ?_
    rw [if_pos h, dif_neg (by omega), ← xs_eq x0 x1 x2 x3 x4 x5 cu b d (e - n) (by omega), h2]
  · refine (if_neg fun e => h ((H.pos b t j hj).mp e)).trans ?_
    rw [if_neg h]

include H in
theorem tap3 : k0_pay20 x0 x1 x2 x3 x4 x5 x6 x7 (ix3 b t d) = (𝕊).tap 3 b.val t.val d.val := by
  refine Eq.trans ?_ (tap_of x0 x1 x2 x3 x4 x5 cu H b t d 3 t.val 3 (by omega) (by omega) (by omega) fun _ => ((0#32).toInt : ℝ))
  unfold k0_pay20
  unfold_payloads
  pointwise

include H in
theorem tap2 : k0_pay21 x0 x1 x2 x3 x4 x5 x6 x7 (ix3 b t d) = (𝕊).tap 2 b.val t.val d.val := by
  refine Eq.trans ?_ (tap_of x0 x1 x2 x3 x4 x5 cu H b t d 2 (1 + t.val) 3 (by omega) (by omega) (by omega) fun _ => ((0#32).toInt : ℝ))
  unfold k0_pay21
  unfold_payloads
  pointwise

include H in
theorem tap1 : k0_pay22 x0 x1 x2 x3 x4 x5 x6 x7 (ix3 b t d) = (𝕊).tap 1 b.val t.val d.val := by
  refine Eq.trans ?_ (tap_of x0 x1 x2 x3 x4 x5 cu H b t d 1 (2 + t.val) 3 (by omega) (by omega) (by omega) fun _ => ((0#32).toInt : ℝ))
  unfold k0_pay22
  unfold_payloads
  pointwise

include H in
theorem tap0 : k0_pay12 (k0_pay23 x0 x1 x2 x3 x4 x5 x6 x7) (k0_pay24 x0 x1 x2 x3 x4 x5 x6 x7) (ix3 b t d) = (𝕊).tap 0 b.val t.val d.val := by
  refine Eq.trans ?_ (tap_of x0 x1 x2 x3 x4 x5 cu H b t d 0 t.val 0 (by omega) (by omega) (by omega) fun _ => 0)
  unfold k0_pay23 k0_pay24
  unfold_payloads
  pointwise
  rfl

/-- The convolution's value as the reference spells it. -/
theorem z_pay (v0 v1 v2 v3 v4 v5 v6 v7 v8) : ∃ Z : EReal, k0_pay13 (F := Ideal) v0 v1 v2 v3 v4 v5 v6 v7 v8 (ix3 b t d)
      = v7 (ix3 b t d) * v8 (ix2 b t) * Ideal.logistic Z * (1 + Z * (1 - Ideal.logistic Z))
    ∧ Z = v0 (ix2 d 0) * v1 (ix3 b t d) + v0 (ix2 d 1) * v2 (ix3 b t d) + v0 (ix2 d 2) * v3 (ix3 b t d)
        + v0 (ix2 d 3) * k0_pay12 (F := Ideal) v4 v5 (ix3 b t d) + v6 (ix1 d) := by
  refine ⟨_, ?_, rfl⟩
  unfold_payloads
  pointwise

theorem w_pay (k : Fin 4) : k0_pay19 x0 x1 x2 x3 x4 x5 x6 x7 (ix2 d k) = x4 (ix2 d k) := by
  unfold k0_pay19
  unfold_payloads
  pointwise

include H in
theorem dz_eq : k0_pay25 x0 x1 x2 x3 x4 x5 x6 x7 (ix3 b t d) = (𝕊).dz b.val t.val d.val := by
  unfold k0_pay25
  obtain ⟨Z, h, hZ⟩ := z_pay b t d (k0_pay19 x0 x1 x2 x3 x4 x5 x6 x7) (k0_pay20 x0 x1 x2 x3 x4 x5 x6 x7) (k0_pay21 x0 x1 x2 x3 x4 x5 x6 x7)
    (k0_pay22 x0 x1 x2 x3 x4 x5 x6 x7) (k0_pay23 x0 x1 x2 x3 x4 x5 x6 x7) (k0_pay24 x0 x1 x2 x3 x4 x5 x6 x7) (View.ld x5 r0_4) (View.ld x2 r0_2) (View.ld x3 r0_3)
  rw [h]
  rw [tap3 x0 x1 x2 x3 x4 x5 cu H b t d, tap2 x0 x1 x2 x3 x4 x5 cu H b t d, tap1 x0 x1 x2 x3 x4 x5 cu H b t d, tap0 x0 x1 x2 x3 x4 x5 cu H b t d,
    w_pay, w_pay, w_pay, w_pay] at hZ
  have e : Z = (𝕊).z b.val t.val d.val := by
    rw [hZ]
    unfold Spec.z
    rw [← w_eq x0 x1 x2 x3 x4 x5 cu d 0, ← w_eq x0 x1 x2 x3 x4 x5 cu d 1, ← w_eq x0 x1 x2 x3 x4 x5 cu d 2, ← w_eq x0 x1 x2 x3 x4 x5 cu d 3, bias_eq]
    pointwise
  unfold Spec.dz
  rw [e, g_eq x0 x1 x2 x3 x4 x5 cu b d t.val t.isLt]
  pointwise

theorem pad (v0 v1 v2 v3 v4 v5 v6 v7 v8) (u : Fin 16387) : k0_pay14 (F := Ideal) v0 v1 v2 v3 v4 v5 v6 v7 v8 (ix3 b u d)
     = if h : u.val < 16384 then k0_pay13 (F := Ideal) v0 v1 v2 v3 v4 v5 v6 v7 v8 (ix3 b ⟨u.val, h⟩ d) else ((0#32).toInt : ℝ) := by
  unfold k0_pay14
  pointwise

theorem dx_pay (v0 v1 v2 v3 v4) : k0_pay16 (F := Ideal) v0 v1 v2 v3 v4 (ix3 b t d)
    = v4 (ix1 d) * v2 (ix3 b t d) + v1 (ix2 d 2) * Scalar.select (IntOp.cmpi .sgt (v0 (ix3 b t 0)) 1#32) (v3 (ix3 b ⟨1 + t.val, by omega⟩ d)) 0
      + v1 (ix2 d 1) * Scalar.select (IntOp.cmpi .sgt (v0 (ix3 b t 0)) 2#32) (v3 (ix3 b ⟨2 + t.val, by omega⟩ d)) 0
      + v1 (ix2 d 0) * Scalar.select (IntOp.cmpi .sgt (v0 (ix3 b t 0)) 3#32) (v3 (ix3 b ⟨3 + t.val, by omega⟩ d)) 0 := by
  unfold_payloads
  pointwise

include H in
theorem ztap_of (j : ℕ) (hj : j ≤ 3) (u : Fin 16387) (hu : u.val = t.val + j) (p : EReal) (hp : ∀ h : u.val < 16384, p = (𝕊).dz b.val u.val d.val) :
    Scalar.select (IntOp.cmpi .sgt (x7 (ix3 b t 0)) (BitVec.ofNat 32 j)) p 0 = (𝕊).ztap j b.val t.val d.val := by
  unfold Spec.ztap Scalar.select
  by_cases h : t.val + j < 16384 ∧ ¬∃ c, (𝕊).inner b.val c ∧ t.val < c ∧ c ≤ t.val + j
  · refine (if_pos ((H.rem b t j hj).mpr h)).trans ?_
    rw [if_pos h, hp (by omega), hu]
  · refine (if_neg fun e => h ((H.rem b t j hj).mp e)).trans ?_
    rw [if_neg h]

include H in
theorem pad_eq (u : Fin 16387) (h : u.val < 16384) :
    k0_pay14 (k0_pay19 x0 x1 x2 x3 x4 x5 x6 x7) (k0_pay20 x0 x1 x2 x3 x4 x5 x6 x7) (k0_pay21 x0 x1 x2 x3 x4 x5 x6 x7)
      (k0_pay22 x0 x1 x2 x3 x4 x5 x6 x7) (k0_pay23 x0 x1 x2 x3 x4 x5 x6 x7) (k0_pay24 x0 x1 x2 x3 x4 x5 x6 x7) (View.ld x5 r0_4) (View.ld x2 r0_2) (View.ld x3 r0_3) (ix3 b u d)
    = (𝕊).dz b.val u.val d.val := by
  rw [pad, dif_pos h]
  exact dz_eq x0 x1 x2 x3 x4 x5 cu H b ⟨u.val, h⟩ d

include H in
/-- The reference's first result. -/
theorem dx_eq : out0_8 x0 x1 x2 x3 x4 x5 x6 x7 (ix3 b t d) = (𝕊).dx b.val t.val d.val := by
  unfold out0_8
  rw [View.canon_cons_unit_lit _ _ _ (by decide), dx_pay]
  have e4 : k0_pay4 (F := Ideal) (View.ld x7 r0_0) (ix3 b t 0) = x7 (ix3 b t 0) := by
    unfold_payloads
    pointwise
  have e15 : k0_pay15 (k0_pay19 x0 x1 x2 x3 x4 x5 x6 x7) (ix1 d) = k0_pay19 x0 x1 x2 x3 x4 x5 x6 x7 (ix2 d 3) := by
    unfold k0_pay15
    pointwise
  rw [e4, e15, w_pay, w_pay, w_pay, w_pay, dz_eq x0 x1 x2 x3 x4 x5 cu H]
  unfold Spec.dx
  rw [← w_eq x0 x1 x2 x3 x4 x5 cu d 0, ← w_eq x0 x1 x2 x3 x4 x5 cu d 1, ← w_eq x0 x1 x2 x3 x4 x5 cu d 2, ← w_eq x0 x1 x2 x3 x4 x5 cu d 3]
  rw [show (1#32 : BitVec 32) = BitVec.ofNat 32 1 from rfl, show (2#32 : BitVec 32) = BitVec.ofNat 32 2 from rfl, show (3#32 : BitVec 32) = BitVec.ofNat 32 3 from rfl]
  rw [ztap_of x0 x1 x2 x3 x4 x5 cu H b t d 1 (by omega) ⟨1 + t.val, by omega⟩ (Nat.add_comm _ _) _ (pad_eq x0 x1 x2 x3 x4 x5 cu H b d _),
    ztap_of x0 x1 x2 x3 x4 x5 cu H b t d 2 (by omega) ⟨2 + t.val, by omega⟩ (Nat.add_comm _ _) _ (pad_eq x0 x1 x2 x3 x4 x5 cu H b d _),
    ztap_of x0 x1 x2 x3 x4 x5 cu H b t d 3 (by omega) ⟨3 + t.val, by omega⟩ (Nat.add_comm _ _) _ (pad_eq x0 x1 x2 x3 x4 x5 cu H b d _)]
  rfl

theorem sum_pay (h : S2x16384x2560.Reduces [0, 1] S2560) (a v : FVec Ideal S2x16384x2560 .f32) (f g : ℕ → ℕ → ℕ → EReal)
    (ha : ∀ b t, a (ix3 b t d) = f b.val t.val d.val) (hv : ∀ b t, v (ix3 b t d) = g b.val t.val d.val) :
    Ideal.reduceAdd h (mulf a v) (ix1 d) = ∑ b : Fin 2, ∑ t : Fin 16384, f b.val t.val d.val * g b.val t.val d.val := by
  refine (reduceAdd_two (n0 := 2) (n1 := 16384) (n2 := 2560) h (mulf a v) d).trans ?_
  refine Finset.sum_congr rfl fun b _ => Finset.sum_congr rfl fun t _ => ?_
  rw [← ha, ← hv]
  pointwise

theorem db_pay (v0) : k0_pay2 (F := Ideal) v0 (ix1 d) = Ideal.reduceAdd reduces_S2x16384x2560_S2560 v0 (ix1 d) := by
  unfold_payloads
  pointwise

include H in
/-- The reference's third result. -/
theorem db_eq : out0_10 x0 x1 x2 x3 x4 x5 x6 x7 (ix1 d) = (𝕊).db d.val := by
  unfold out0_10
  rw [View.canon_cons_unit_lit _ _ _ (by decide), db_pay,
    reduceAdd_two (n0 := 2) (n1 := 16384) (n2 := 2560) reduces_S2x16384x2560_S2560 _ d]
  unfold Spec.db
  refine Finset.sum_congr rfl fun b _ => Finset.sum_congr rfl fun t _ => ?_
  rw [dz_eq x0 x1 x2 x3 x4 x5 cu H b t d]

theorem dw_pay (v0 v1 v2 v3 v4) (k : Fin 4) : k0_pay1 (F := Ideal) v0 v1 v2 v3 v4 (ix2 d k)
    = if _ : k.val < 1 then v3 (ix1 d) else if _ : k.val - 1 < 1 then v4 (ix1 d)
      else if _ : k.val - 1 - 1 < 1 then Ideal.reduceAdd reduces_S2x16384x2560_S2560 (mulf v2 v0) (ix1 d)
      else Ideal.reduceAdd reduces_S2x16384x2560_S2560 (mulf v2 v1) (ix1 d) := by
  unfold_payloads
  pointwise

theorem dw0_pay (v0 v1) : k0_pay17 (F := Ideal) v0 v1 (ix1 d) = Ideal.reduceAdd reduces_S2x16384x2560_S2560 (mulf v1 v0) (ix1 d) := by
  unfold_payloads
  pointwise
theorem dw1_pay (v0 v1) : k0_pay18 (F := Ideal) v0 v1 (ix1 d) = Ideal.reduceAdd reduces_S2x16384x2560_S2560 (mulf v1 v0) (ix1 d) := by
  unfold_payloads
  pointwise

include H in
/-- The reference's second result. -/
theorem dw_eq (k : Fin 4) : out0_9 x0 x1 x2 x3 x4 x5 x6 x7 (ix2 d k) = (𝕊).dw d.val k.val := by
  unfold out0_9
  rw [View.canon_cons_unit_lit _ _ _ (by decide), dw_pay, dw0_pay, dw1_pay,
    sum_pay d _ _ _ (𝕊).dz ((𝕊).tap 3) (fun b t => dz_eq x0 x1 x2 x3 x4 x5 cu H b t d) (fun b t => tap3 x0 x1 x2 x3 x4 x5 cu H b t d),
    sum_pay d _ _ _ (𝕊).dz ((𝕊).tap 2) (fun b t => dz_eq x0 x1 x2 x3 x4 x5 cu H b t d) (fun b t => tap2 x0 x1 x2 x3 x4 x5 cu H b t d),
    sum_pay d _ _ _ (𝕊).dz ((𝕊).tap 1) (fun b t => dz_eq x0 x1 x2 x3 x4 x5 cu H b t d) (fun b t => tap1 x0 x1 x2 x3 x4 x5 cu H b t d),
    sum_pay d _ _ _ (𝕊).dz ((𝕊).tap 0) (fun b t => dz_eq x0 x1 x2 x3 x4 x5 cu H b t d) (fun b t => tap0 x0 x1 x2 x3 x4 x5 cu H b t d)]
  unfold Spec.dw
  by_cases h0 : k.val = 0
  · rw [dif_pos (by omega), h0]
  rw [dif_neg (by omega)]
  by_cases h1 : k.val = 1
  · rw [dif_pos (by omega), h1]
  rw [dif_neg (by omega)]
  by_cases h2 : k.val = 2
  · rw [dif_pos (by omega), h2]
  rw [dif_neg (by omega), show k.val = 3 by omega]

end Cert.ReferenceIdeal.Conv
-- ==== Proof.Docs.lean ====
/- Where a row's document begins and ends, from the number of boundaries at or before the row. -/
module

public import Mathlib.Data.Fintype.Card
public import Mathlib.Data.Fintype.BigOperators
public import Mathlib.Algebra.Order.BigOperators.Group.Finset

@[expose] public section

namespace Cert.Conv

/-- Boundaries that ascend from 0 to 16384. -/
structure Bounds (c : ℕ → ℕ) : Prop where
  first : c 0 = 0
  mono : ∀ j k : ℕ, j ≤ k → k ≤ 63 → c j ≤ c k
  last : c 63 = 16384

/-- The number of boundaries behind the first that lie at or before row `t`. -/
def docOf (c : ℕ → ℕ) (t : ℕ) : ℕ := (Finset.univ.filter fun k : Fin 63 => c (k.val + 1) ≤ t).card

theorem card_below (n : ℕ) (hn : n < 64) : (Finset.univ.filter fun k : Fin 63 => k.val < n).card = n := by
  have h : ∀ n : Fin 64, (Finset.univ.filter fun k : Fin 63 => k.val < n.val).card = n.val := by decide +kernel
  exact h ⟨n, hn⟩

variable {c : ℕ → ℕ} (B : Bounds c) {t : ℕ} (ht : t < 16384)
include B ht

/-- That number is the document of the row: its boundaries are the two around the row. -/
theorem docOf_spec : docOf c t ≤ 62 ∧ c (docOf c t) ≤ t ∧ t < c (docOf c t + 1) := by
  have ex : ∃ j, 62 ≤ j ∨ t < c (j + 1) := ⟨62, Or.inl le_rfl⟩
  classical
  obtain ⟨n, hn, hmin⟩ : ∃ n, (62 ≤ n ∨ t < c (n + 1)) ∧ ∀ k < n, ¬(62 ≤ k ∨ t < c (k + 1)) :=
    ⟨Nat.find ex, Nat.find_spec ex, fun k hk => Nat.find_min ex hk⟩
  have h62 : n ≤ 62 := by
    by_contra hc
    exact hmin 62 (by omega) (Or.inl le_rfl)
  have hup : t < c (n + 1) := by
    rcases hn with h | h
    · obtain rfl : n = 62 := by omega
      rw [B.last]; exact ht
    · exact h
  have hlo : c n ≤ t := by
    cases n with
    | zero => rw [B.first]; exact Nat.zero_le _
    | succ k =>
      have := hmin k (by omega)
      omega
  have hd : docOf c t = n := by
    unfold docOf
    rw [← card_below n (by omega)]
    refine congrArg Finset.card (Finset.filter_congr fun k _ => ?_)
    constructor
    · intro h
      by_contra hc
      have := B.mono (n + 1) (k.val + 1) (by omega) (by omega)
      omega
    · intro h
      have := hmin k.val h
      omega
  rw [hd]
  exact ⟨h62, hlo, hup⟩

/-- At least `j` rows lie between the document's start and the row exactly where the row `j` before it exists and no inner
    boundary comes between. -/
theorem before_iff (j : ℕ) : j ≤ t - c (docOf c t) ↔ j ≤ t ∧ ¬∃ x, (∃ k < 62, c (k + 1) = x) ∧ t < x + j ∧ x ≤ t := by
  obtain ⟨h62, hlo, hup⟩ := docOf_spec B ht
  generalize docOf c t = n at h62 hlo hup
  constructor
  · intro h
    refine ⟨by omega, ?_⟩
    rintro ⟨x, ⟨k, hk, rfl⟩, h1, h2⟩
    by_cases hkn : k + 1 ≤ n
    · have := B.mono (k + 1) n hkn (by omega)
      omega
    · have := B.mono (n + 1) (k + 1) (by omega) (by omega)
      omega
  · rintro ⟨h0, h⟩
    cases n with
    | zero => rw [B.first]; omega
    | succ k =>
      by_contra hc
      exact h ⟨c (k + 1), ⟨k, by omega, rfl⟩, by omega, hlo⟩

/-- More than `j` rows lie between the row and its document's end exactly where the row `j` after it exists and no inner
    boundary comes between. -/
theorem after_iff (j : ℕ) : j < c (docOf c t + 1) - t ↔ t + j < 16384 ∧ ¬∃ x, (∃ k < 62, c (k + 1) = x) ∧ t < x ∧ x ≤ t + j := by
  obtain ⟨h62, hlo, hup⟩ := docOf_spec B ht
  generalize docOf c t = n at h62 hlo hup
  constructor
  · intro h
    have hle := B.mono (n + 1) 63 (by omega) le_rfl
    rw [B.last] at hle
    refine ⟨by omega, ?_⟩
    rintro ⟨x, ⟨k, hk, rfl⟩, h1, h2⟩
    by_cases hkn : k + 1 ≤ n
    · have := B.mono (k + 1) n hkn (by omega)
      omega
    · have := B.mono (n + 1) (k + 1) (by omega) (by omega)
      omega
  · rintro ⟨h0, h⟩
    by_cases hn : n = 62
    · subst hn
      rw [B.last]; omega
    · by_contra hc
      exact h ⟨c (n + 1), ⟨n, by omega, rfl⟩, hup, by omega⟩

end Cert.Conv
-- ==== Proof.RefHost.lean ====
/- The reference's row positions: the rows since a document's start and those to its end, as its first operations compute
   them from the boundaries. -/
module

public import proofs.«01_k».proof.Proof.RefMath
public import proofs.«01_k».proof.Proof.Docs
public import Idealize.ShloMosaic.Lib.Pointwise
public import Idealize.ShloMosaic.Lib.StableHlo.ReadAt
public import Idealize.ShloMosaic.Lib.WordCmp

@[expose] public section

set_option maxRecDepth 16384

noncomputable section

namespace Cert.ReferenceIdeal.Conv

open Idealize.ShloMosaic Idealize.ShloMosaic.TcCoe Idealize.ShloMosaic.Tactic
open Cert.ReferenceIdeal Cert.ReferenceIdeal.Gen
open Cert.KernelIdeal.Conv (get)
open Cert.Conv (get2 Bounds docOf docOf_spec before_iff after_iff)

/-- The gather of one boundary per row: the boundary at the index, held within the table. -/
theorem gather_apply (x : IVec S2x64 32) (idx : IVec S2x16384x1 32) (b : Fin 2) (t : Fin 16384) :
    Host.gather gather_S2x64_S2x16384x1_S2x16384_n_1_0_0_1_2_11 x idx (ix2 b t)
      = x (ix2 b ⟨min (idx (ix3 b t 0)).toInt.toNat 63, by omega⟩) := by
  unfold Host.gather
  congr 1
  funext a
  refine Fin.ext ?_
  show (gather_S2x64_S2x16384x1_S2x16384_n_1_0_0_1_2_11).start (ix2 b t) idx a
      + (gather_S2x64_S2x16384x1_S2x16384_n_1_0_0_1_2_11).batchCoord (ix2 b t) a
      + (gather_S2x64_S2x16384x1_S2x16384_n_1_0_0_1_2_11).offCoord (ix2 b t) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (gather_S2x64_S2x16384x1_S2x16384_n_1_0_0_1_2_11).operandBatchingDims from List.mem_singleton.mpr rfl)]
    rfl
  · rw [GatherDims.batchCoord_eq_zero _ _ _ (fun h => by simp [gather_S2x64_S2x16384x1_S2x16384_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S2x64_S2x16384x1_S2x16384_n_1_0_0_1_2_11).startIndexMap from List.mem_singleton.mpr rfl)]
    have hsi : (gather_S2x64_S2x16384x1_S2x16384_n_1_0_0_1_2_11).siIdx (ix2 b t)
        ⟨List.idxOf (1 : Fin 2) (gather_S2x64_S2x16384x1_S2x16384_n_1_0_0_1_2_11).startIndexMap,
          List.idxOf_lt_length_iff.2 (List.mem_singleton.mpr rfl)⟩ = ix3 b t 0 := by
      funext d; refine Fin.ext ?_
      match d with
      | ⟨0, _⟩ => rfl
      | ⟨1, _⟩ => rfl
      | ⟨2, _⟩ => rfl
    rw [hsi]
    rfl

/-- Words that hold naturals add to the word of their sum. -/
theorem fold_addi {ι : Type} (s : Finset ι) (f : ι → ℕ) (x : ι → BitVec 32) (hx : ∀ i, x i = BitVec.ofNat 32 (f i)) :
    s.fold IntOp.addi (0#32) x = BitVec.ofNat 32 (∑ i ∈ s, f i) := by
  classical
  induction s using Finset.cons_induction with
  | empty => rfl
  | cons a s ha ih => rw [Finset.fold_cons, Finset.sum_cons, ih, hx, BitVec.ofNat_add]; rfl

theorem red63 : S2x63x16384.Reduces [1] S2x16384 := by decide

/-- The sum over the second of three axes counts the set bits. -/
theorem count_apply (x : IVec S2x63x16384 32) (e : IVec S_ 32) (he : e = fun _ => 0#32) (b : Fin 2) (t : Fin 16384) (p : Fin 63 → Prop) [DecidablePred p]
    (hx : ∀ k, x (ix3 b k t) = BitVec.ofNat 32 (if p k then 1 else 0)) :
    Host.reduce IntOp.addi x e reducesTo_S2x63x16384_S2x16384_d1 h_S_ (ix2 b t) = BitVec.ofNat 32 (Finset.univ.filter p).card := by
  rw [Host.reduce_eq_fold_single _ _ _ _ red63, he, Finset.card_filter]
  refine fold_addi _ (fun k : Fin 63 => if p k then 1 else 0) _ fun k => ?_
  refine Eq.trans (congrArg x ?_) (hx k)
  funext a; refine Fin.ext ?_
  match a with
  | ⟨0, _⟩ => rfl
  | ⟨1, _⟩ => rfl
  | ⟨2, _⟩ => rfl

/-- The boundaries of a batch row, as numbers. -/
def bnd (cu : IVec S2x64 32) (b : ℕ) (k : ℕ) : ℕ := BitVec.toNat (get (s := ⟨2, ![2, 64]⟩) cu 0#32 ![b, k])

theorem bnd_eq (cu : IVec S2x64 32) (b : Fin 2) (k : Fin 64) (n : ℕ) (h : k.val = n) : cu (ix2 b k) = BitVec.ofNat 32 (bnd cu b.val n) := by
  unfold bnd
  rw [get2 cu 0#32 b k _ _ rfl h]
  simp

/-- The boundary at a document's number, as the gather reads it. -/
theorem at_doc (cu : IVec S2x64 32) (b : Fin 2) (n : ℕ) (hn : n ≤ 63) (x : BitVec 32) (hx : x = BitVec.ofNat 32 n) (h : min x.toInt.toNat 63 < 64) :
    cu (ix2 b ⟨min x.toInt.toNat 63, h⟩) = BitVec.ofNat 32 (bnd cu b.val n) := by
  subst hx
  refine bnd_eq cu b _ n ?_
  show min (BitVec.ofNat 32 n).toInt.toNat 63 = n
  have e : (BitVec.ofNat 32 n).toNat = n := by rw [BitVec.toNat_ofNat]; omega
  rw [BitVec.toInt_eq_toNat_of_lt (by rw [e]; omega), Int.toNat_natCast, e]
  omega

/-- A number of boundaries is not negative: the index stays as it is. -/
theorem sel_of (x y : BitVec 32) (n : ℕ) (hn : n < 64) (hx : x = BitVec.ofNat 32 n) :
    Scalar.select (IntOp.cmpi .slt x 0#32) y x = BitVec.ofNat 32 n := by
  subst hx
  refine if_neg fun h => ?_
  exact Nat.not_lt_zero _ ((WordCmp.cmpi_slt_ofNat_eq_one_iff (w := 32) (a := n) (b := 0) (by omega) (by omega)).1 h)

variable (cu : IVec S2x64 32) (B : ∀ b : Fin 2, Bounds (bnd cu b.val))

section
include B

theorem bnd_le (b : Fin 2) (k : ℕ) (hk : k ≤ 63) : bnd cu b.val k ≤ 16384 := ((B b).mono k 63 hk le_rfl).trans_eq (B b).last

/-- The document of a row. -/
theorem v2_of (W : Valuation τ sig (Elt Ideal)) (hW : W (Proc.devRef .tc main_arg6) = cu) (b : Fin 2) (t : Fin 16384) :
    StableHlo.after (List.flatten [hostOps0, hostOps0_1]) W (Proc.devRef .tc main_v2) (ix2 b t) = BitVec.ofNat 32 (docOf (bnd cu b.val) t.val) := by
  subst hW
  after_reads_simp
  simp -implicitDefEqProofs only [StableHlo.TRef.toBuf, StableHlo.TRef.ofBuf, cast_cast, cast_eq]
  refine count_apply _ _ rfl b t (fun k => bnd _ b.val (k.val + 1) ≤ t.val) fun k => ?_
  pointwise
  have hle := bnd_le _ B b (k.val + 1) (by omega)
  refine (congrArg (fun x => BitVec.setWidth 32 (IntOp.cmpi .sle x (BitVec.ofNat 32 t.val)))
    (bnd_eq (W (Proc.devRef .tc main_arg6)) b ⟨1 + k.val, by omega⟩ (k.val + 1) (Nat.add_comm _ _))).trans ?_
  rw [WordCmp.cmpi_sle_ofNat (by omega) (by omega)]
  by_cases h : bnd (W (Proc.devRef .tc main_arg6)) b.val (k.val + 1) ≤ t.val
  · rw [if_pos h, decide_eq_true h]; rfl
  · rw [if_neg h, decide_eq_false h]; rfl

section
variable (W : Valuation τ sig (Elt Ideal)) (hW : W (Proc.devRef .tc main_arg6) = cu)
  (b : Fin 2) (t : Fin 16384) (h2 : W (Proc.devRef .tc main_v2) (ix2 b t) = BitVec.ofNat 32 (docOf (bnd cu b.val) t.val))
include hW h2

/-- The rows since the document's start. -/
theorem v23_of : StableHlo.after hostOps0_2 W (Proc.devRef .tc main_v23) (ix3 b t 0)
    = BitVec.ofNat 32 (t.val - bnd cu b.val (docOf (bnd cu b.val) t.val)) := by
  subst hW
  after_reads_simp
  pointwise
  rw [gather_apply]
  pointwise
  obtain ⟨h62, hlo, hup⟩ := docOf_spec (B b) t.isLt
  have hle := bnd_le _ B b (docOf (bnd (W (Proc.devRef .tc main_arg6)) b.val) t.val) (by omega)
  refine (congrArg (IntOp.subi (BitVec.ofNat 32 t.val)) (at_doc (W (Proc.devRef .tc main_arg6)) b _ (by omega) _ (sel_of _ _ _ (by omega) h2) _)).trans ?_
  exact BitVec.ofNat_sub_ofNat_of_le _ _ (by omega) hlo

/-- The rows to the document's end. -/
theorem v26_of : StableHlo.after hostOps0_2 W (Proc.devRef .tc main_v26) (ix3 b t 0)
    = BitVec.ofNat 32 (bnd cu b.val (docOf (bnd cu b.val) t.val + 1) - t.val) := by
  subst hW
  after_reads_simp
  pointwise
  rw [gather_apply]
  pointwise
  obtain ⟨h62, hlo, hup⟩ := docOf_spec (B b) t.isLt
  have hle := bnd_le _ B b (docOf (bnd (W (Proc.devRef .tc main_arg6)) b.val) t.val + 1) (by omega)
  have h3 : IntOp.addi (W (Proc.devRef .tc main_v2) (ix2 b t)) 1#32 = BitVec.ofNat 32 (docOf (bnd (W (Proc.devRef .tc main_arg6)) b.val) t.val + 1) := by
    rw [h2, BitVec.ofNat_add]; rfl
  refine (congrArg (fun x => IntOp.subi x (BitVec.ofNat 32 t.val))
    (at_doc (W (Proc.devRef .tc main_arg6)) b _ (by omega) _ (sel_of _ _ _ (by omega) h3) _)).trans ?_
  exact BitVec.ofNat_sub_ofNat_of_le _ _ (by omega) hup.le

end

/-- The row positions mark the documents. -/
theorem marks_of (m : (ℓ : Loc nD τ sig) → Buf (Elt Ideal) ℓ) (c : Dev nD) (x0 : Vec Ideal S2x16384x2560 .fp8e4m3) (x1 : Vec Ideal S2x16384 .f32)
    (x2 : Vec Ideal S2x16384x2560 .fp8e5m2) (x3 : Vec Ideal S2x16384 .f32) (x4 : Vec Ideal S2560x4 .bf16) (x5 : Vec Ideal S2560 .f32)
    (hcu : m ((c : Thread nD τ).loc main_arg6) = cu) : Marks (V m c main_v23) (V m c main_v26) (Cert.Conv.ofArrays x0 x1 x2 x3 x4 x5 cu).inner := by
  have happ : ∀ r : Ref sig .tc, V m c r = StableHlo.after hostOps0_2 (StableHlo.after (List.flatten [hostOps0, hostOps0_1]) (fun b => m (c, b))) (Proc.devRef .tc r) :=
    fun r => rfl
  have h6 : StableHlo.after (List.flatten [hostOps0, hostOps0_1]) (fun b => m (c, b)) (Proc.devRef .tc main_arg6) = cu := by
    after_reads_simp
    exact hcu
  have h2 := v2_of cu B (fun b => m (c, b)) hcu
  constructor
  · intro b t j hj
    rw [happ, v23_of cu B _ h6 b t (h2 b t), WordCmp.cmpi_sge_ofNat_eq_one_iff (by omega) (by omega)]
    exact before_iff (B b) t.isLt j
  · intro b t j hj
    have hle := bnd_le _ B b (docOf (bnd cu b.val) t.val + 1) (by have := (docOf_spec (B b) t.isLt).1; omega)
    rw [happ, v26_of cu B _ h6 b t (h2 b t), WordCmp.cmpi_sgt_ofNat_eq_one_iff (by omega) (by omega)]
    exact after_iff (B b) t.isLt j

end

end Cert.ReferenceIdeal.Conv
-- ==== Proof.RefRun.lean ====
/- The reference's program, run on the extended reals, ends with the three gradients. -/
module

public import proofs.«01_k».proof.Proof.RefHost
public import Idealize.ShloMosaic.Lib.Pipeline.ValueKit

@[expose] public section

set_option maxRecDepth 16384

noncomputable section

namespace Cert.ReferenceIdeal.Conv

open Idealize.ShloMosaic Idealize.ShloMosaic.TcCoe Idealize.ShloMosaic.Tactic
open Idealize.ShloMosaic.Pipeline (Dat Cfg Window)
open Cert.ReferenceIdeal Cert.ReferenceIdeal.Gen
open Cert.Conv (Spec ofArrays Bounds)

variable (m : (ℓ : Loc nD τ sig) → Buf (Elt Ideal) ℓ) (ρ : Dev nD → PrngReg) (c : Dev nD) (t : Fin cfg0.N)

theorem zero_at (n x : ℕ) : 0 * n + x = x := by omega

/-! ## Each input's block is its whole array -/

theorem iblk0 : iblk m c 0 t = m ((c : Thread nD τ).loc main_arg0) := by
  funext y
  unfold iblk
  blk_simp
  refine (congrFun (V_main_arg0 m c) _).trans (congrArg _ (funext fun a => Fin.ext ?_))
  match a with
  | ⟨0, _⟩ => blk_simp; exact zero_at _ _
  | ⟨1, _⟩ => blk_simp; exact zero_at _ _
  | ⟨2, _⟩ => blk_simp; exact zero_at _ _

theorem iblk1 : iblk m c 1 t = m ((c : Thread nD τ).loc main_arg1) := by
  funext y
  unfold iblk
  blk_simp
  refine (congrFun (V_main_arg1 m c) _).trans (congrArg _ (funext fun a => Fin.ext ?_))
  match a with
  | ⟨0, _⟩ => blk_simp; exact zero_at _ _
  | ⟨1, _⟩ => blk_simp; exact zero_at _ _

theorem iblk2 : iblk m c 2 t = m ((c : Thread nD τ).loc main_arg2) := by
  funext y
  unfold iblk
  blk_simp
  refine (congrFun (V_main_arg2 m c) _).trans (congrArg _ (funext fun a => Fin.ext ?_))
  match a with
  | ⟨0, _⟩ => blk_simp; exact zero_at _ _
  | ⟨1, _⟩ => blk_simp; exact zero_at _ _
  | ⟨2, _⟩ => blk_simp; exact zero_at _ _

theorem iblk3 : iblk m c 3 t = m ((c : Thread nD τ).loc main_arg3) := by
  funext y
  unfold iblk
  blk_simp
  refine (congrFun (V_main_arg3 m c) _).trans (congrArg _ (funext fun a => Fin.ext ?_))
  match a with
  | ⟨0, _⟩ => blk_simp; exact zero_at _ _
  | ⟨1, _⟩ => blk_simp; exact zero_at _ _

theorem iblk4 : iblk m c 4 t = m ((c : Thread nD τ).loc main_arg4) := by
  funext y
  unfold iblk
  blk_simp
  refine (congrFun (V_main_arg4 m c) _).trans (congrArg _ (funext fun a => Fin.ext ?_))
  match a with
  | ⟨0, _⟩ => blk_simp; exact zero_at _ _
  | ⟨1, _⟩ => blk_simp; exact zero_at _ _

theorem iblk5 : iblk m c 5 t = m ((c : Thread nD τ).loc main_arg5) := by
  funext y
  unfold iblk
  blk_simp
  refine (congrFun (V_main_arg5 m c) _).trans (congrArg _ (funext fun a => Fin.ext ?_))
  match a with
  | ⟨0, _⟩ => blk_simp; exact zero_at _ _

theorem iblk6 : iblk m c 6 t = V m c main_v23 := by
  funext y
  unfold iblk
  blk_simp
  refine congrArg _ (funext fun a => Fin.ext ?_)
  match a with
  | ⟨0, _⟩ => blk_simp; exact zero_at _ _
  | ⟨1, _⟩ => blk_simp; exact zero_at _ _
  | ⟨2, _⟩ => blk_simp; rfl

theorem iblk7 : iblk m c 7 t = V m c main_v26 := by
  funext y
  unfold iblk
  blk_simp
  refine congrArg _ (funext fun a => Fin.ext ?_)
  match a with
  | ⟨0, _⟩ => blk_simp; exact zero_at _ _
  | ⟨1, _⟩ => blk_simp; exact zero_at _ _
  | ⟨2, _⟩ => blk_simp; rfl

/-! ## The results -/

/-- The inputs as `Spec` has them. -/
abbrev specOf : Spec := ofArrays (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- The gradient with respect to x. -/
def dxArr : Vec Ideal S2x16384x2560 .bf16 := fun y => ((specOf m c).dx (y 0).val (y 1).val (y 2).val : EReal)

/-- The gradient with respect to the weights. -/
def dwArr : Vec Ideal S2560x4 .f32 := fun y => ((specOf m c).dw (y 0).val (y 1).val : EReal)

/-- The gradient with respect to the bias. -/
def dbArr : Vec Ideal S2560 .f32 := fun y => ((specOf m c).db (y 0).val : EReal)

section
variable (B : ∀ b : Fin 2, Bounds (bnd (m ((c : Thread nD τ).loc main_arg6)) b.val))
include B

theorem marks : Marks (V m c main_v23) (V m c main_v26) (specOf m c).inner := marks_of _ B m c _ _ _ _ _ _ rfl

theorem final8 : (dats m 0 c).arrAt 8 cfg0.N = dxArr m c := by
  obtain ⟨t₀, h₀⟩ : ∃ t₀ : Fin cfg0.N, (cfg0.win 8).WholeAt t₀ := ⟨⟨0, by decide⟩, by decide +kernel⟩
  refine (dats m 0 c).arrAt_eq_of_after_last 8 t₀ h₀ _ fun j => ?_
  blk_simp
  rw [after0_8, iblk0, iblk1, iblk2, iblk3, iblk4, iblk5, iblk6, iblk7]
  obtain ⟨b, t, d, rfl⟩ : ∃ (b : Fin 2) (t : Fin 16384) (d : Fin 2560), j = ix3 b t d := ⟨j 0, j 1, j 2, funext fun a => by match a with | ⟨0, _⟩ => rfl | ⟨1, _⟩ => rfl | ⟨2, _⟩ => rfl⟩
  exact dx_eq _ _ _ _ _ _ _ (marks m c B) b t d

theorem final9 : (dats m 0 c).arrAt 9 cfg0.N = dwArr m c := by
  obtain ⟨t₀, h₀⟩ : ∃ t₀ : Fin cfg0.N, (cfg0.win 9).WholeAt t₀ := ⟨⟨0, by decide⟩, by decide +kernel⟩
  refine (dats m 0 c).arrAt_eq_of_after_last 9 t₀ h₀ _ fun j => ?_
  blk_simp
  rw [after0_9, iblk0, iblk1, iblk2, iblk3, iblk4, iblk5, iblk6, iblk7]
  obtain ⟨d, k, rfl⟩ : ∃ (d : Fin 2560) (k : Fin 4), j = ix2 d k := ⟨j 0, j 1, funext fun a => by match a with | ⟨0, _⟩ => rfl | ⟨1, _⟩ => rfl⟩
  exact dw_eq _ _ _ _ _ _ _ (marks m c B) d k

theorem final10 : (dats m 0 c).arrAt 10 cfg0.N = dbArr m c := by
  obtain ⟨t₀, h₀⟩ : ∃ t₀ : Fin cfg0.N, (cfg0.win 10).WholeAt t₀ := ⟨⟨0, by decide⟩, by decide +kernel⟩
  refine (dats m 0 c).arrAt_eq_of_after_last 10 t₀ h₀ _ fun j => ?_
  blk_simp
  rw [after0_10, iblk0, iblk1, iblk2, iblk3, iblk4, iblk5, iblk6, iblk7]
  obtain ⟨d, rfl⟩ : ∃ (d : Fin 2560), j = ix1 d := ⟨j 0, funext fun a => by match a with | ⟨0, _⟩ => rfl⟩
  exact db_eq _ _ _ _ _ _ _ (marks m c B) d

end

/-- Every execution ends with the gradients in the results, the arguments as they began. -/
theorem run_values (B : ∀ (c : Dev nD) (b : Fin 2), Bounds (bnd (m ((c : Thread nD τ).loc main_arg6)) b.val)) :
    θ_run defs (onTc (τ := τ) (main (F := Ideal))) ⟨m, fun _ => 0, ρ⟩ (fun r => ∀ c : Dev nD,
      r.2.mem ((c.tc : Thread nD τ).loc main_v27_0) = dxArr m c
      ∧ r.2.mem ((c.tc : Thread nD τ).loc main_v27_1) = dwArr m c
      ∧ r.2.mem ((c.tc : Thread nD τ).loc main_v27_2) = dbArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 8).trans (final8 m c (B c)),
      ((h c).1 9).trans (final9 m c (B c)),
      ((h c).1 10).trans (final10 m c (B c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).2 main_arg6 (Pipeline.mem_restRefs_of main_arg6 (by decide) (by decide))).trans (V_main_arg6 m c)⟩) (run_main m ρ)

end Cert.ReferenceIdeal.Conv
-- ==== Proof.Equal.lean ====
/- The two programs compute one function: from memories that agree on the arguments both end with the gradients of `Spec`. -/
module

public import proofs.«01_k».proof.Defs
public import proofs.«01_k».proof.Proof.KerRun
public import proofs.«01_k».proof.Proof.RefRun

@[expose] public section

set_option maxRecDepth 16384

noncomputable section

namespace Cert.Conv

open Idealize.ShloMosaic Idealize.ShloMosaic.TcCoe
open Cert.KernelIdeal.Conv (Ascends tbl word tbl_apply get)
open Cert.ReferenceIdeal.Conv (bnd)

/-- Boundaries that ascend as the kernel reads them ascend as numbers. -/
theorem bounds_of (m : (ℓ : Loc Cert.KernelIdeal.nD Cert.KernelIdeal.τ Cert.KernelIdeal.sig) → Buf (Elt Ideal) ℓ) (A : Ascends m) (b : Fin 2) :
    Bounds (bnd (m ((0 : Dev Cert.KernelIdeal.nD).tc.loc Cert.KernelIdeal.main_arg6)) b.val) := by
  have e : ∀ k : ℕ, k < 64 → bnd (m ((0 : Dev Cert.KernelIdeal.nD).tc.loc Cert.KernelIdeal.main_arg6)) b.val k = word (F := Ideal) (tbl m 0) (64 * b.val + k) :=
    fun k hk => (congrArg BitVec.toNat (get2 (m ((0 : Dev Cert.KernelIdeal.nD).tc.loc Cert.KernelIdeal.main_arg6)) 0#32 b ⟨k, hk⟩ _ _ rfl rfl)).trans
      (tbl_apply m b ⟨k, hk⟩).symm
  refine ⟨(e 0 (by omega)).trans (A.first b), fun j k hj hk => ?_, (e 63 (by omega)).trans (A.last b)⟩
  rw [e j (by omega), e k (by omega)]
  have h := A.mono b j (k - j) (by omega)
  rwa [Nat.add_sub_cancel' hj] at h

theorem algebraic : Cert.algebraic_KernelIdeal_ReferenceIdeal := by
  intro m g m' g' hpre hm
  have A : Ascends m := Cert.KernelIdeal.Conv.ascends_of (F := Ideal) m _ _ _ _ _ _ (hpre 0)
  have hs : ∀ c : Dev Cert.KernelIdeal.nD, Cert.ReferenceIdeal.Conv.specOf m' c = Cert.KernelIdeal.Conv.specOf m c := by
    intro c
    obtain ⟨h0, h1, h2, h3, h4, h5, h6⟩ := hm c
    unfold Cert.ReferenceIdeal.Conv.specOf Cert.KernelIdeal.Conv.specOf
    rw [h0, h1, h2, h3, h4, h5, h6]
  have hB : ∀ (c : Dev Cert.ReferenceIdeal.nD) (b : Fin 2), Bounds (bnd (m' ((c : Thread Cert.ReferenceIdeal.nD Cert.ReferenceIdeal.τ).loc Cert.ReferenceIdeal.main_arg6)) b.val) := by
    intro c b
    rw [(hm c).2.2.2.2.2.2]
    obtain rfl : c = 0 := Subsingleton.elim _ _
    exact bounds_of m A b
  refine ⟨Cert.KernelIdeal.Conv.dxArr m, Cert.KernelIdeal.Conv.dwArr m, Cert.KernelIdeal.Conv.dbArr m, Cert.KernelIdeal.Conv.run_values m g A, ?_⟩
  refine (θ_run _ _ _).mono (fun r h c => ?_) (Cert.ReferenceIdeal.Conv.run_values m' g' hB)
  obtain ⟨h0, h1, h2, h⟩ := h c
  refine ⟨h0.trans ?_, h1.trans ?_, h2.trans ?_, h⟩
  · unfold Cert.ReferenceIdeal.Conv.dxArr; rw [hs c]; rfl
  · unfold Cert.ReferenceIdeal.Conv.dwArr; rw [hs c]; rfl
  · unfold Cert.ReferenceIdeal.Conv.dbArr; rw [hs c]; rfl

end Cert.Conv
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.Pre_boundaries_ascend
public import proofs.«01_k».proof.Proof.Gen.ReferenceIdeal.Frame
public import proofs.«01_k».proof.Proof.Pre
public import proofs.«01_k».proof.Proof.Run
public import proofs.«01_k».proof.Proof.Twin
public import proofs.«01_k».proof.Proof.Equal
public import Idealize.ShloMosaic.Adequacy
public import Idealize.ShloMosaic.Init

@[expose] public section

noncomputable section

open Idealize.ShloMosaic

theorem Cert.Proof.kernel : Cert.quiescent_Kernel := fun m ρ h =>
  Cert.Kernel.Conv.frame m ρ (Cert.KernelIdeal.Conv.ascends_of (F := Bits) m _ _ _ _ _ _ (h 0)).le

theorem Cert.Proof.kernelIdeal : Cert.quiescent_KernelIdeal := fun m ρ h =>
  Cert.KernelIdeal.Conv.frame m ρ (Cert.KernelIdeal.Conv.ascends_of (F := Ideal) m _ _ _ _ _ _ (h 0)).le

theorem Cert.Proof.claim : Cert.Claim :=
  ⟨Cert.Kernel.Gen.facts, Cert.KernelIdeal.Gen.facts, Cert.ReferenceIdeal.Gen.facts, Cert.Pre_boundaries_ascend.Gen.facts,
    Cert.Proof.kernel, Cert.Proof.kernelIdeal, fun m ρ _ => Cert.ReferenceIdeal.Gen.frame m ρ,
    fun m ρ _ => Cert.ReferenceIdeal.Gen.frame m ρ, trivial, Cert.Conv.algebraic⟩
